-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite_norm_grad [hPre_finite_norm_grad : Cert.Pre_finite_norm_grad.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite_norm_grad.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite_norm_grad [hPre_finite_norm_grad : Cert.Pre_finite_norm_grad.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite_norm_grad.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite_norm_loss [hPre_finite_norm_loss : Cert.Pre_finite_norm_loss.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite_norm_loss.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite_norm_loss [hPre_finite_norm_loss : Cert.Pre_finite_norm_loss.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite_norm_loss.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3)) (m ((c.tc : Thread Cert.Reference30Ideal.nD Cert.Reference30Ideal.τ).loc Cert.Reference30Ideal.main_arg4))) = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Kernel29Ideal_pre_finite_norm_grad [hKernel29Ideal : Cert.Kernel29Ideal.Facts] [hPre_finite_norm_grad : Cert.Pre_finite_norm_grad.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite_norm_grad m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Reference29Ideal_pre_finite_norm_grad [hReference29Ideal : Cert.Reference29Ideal.Facts] [hPre_finite_norm_grad : Cert.Pre_finite_norm_grad.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite_norm_grad m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Kernel30Ideal_pre_finite_norm_loss [hKernel30Ideal : Cert.Kernel30Ideal.Facts] [hPre_finite_norm_loss : Cert.Pre_finite_norm_loss.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite_norm_loss m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Reference30Ideal_pre_finite_norm_loss [hReference30Ideal : Cert.Reference30Ideal.Facts] [hPre_finite_norm_loss : Cert.Pre_finite_norm_loss.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite_norm_loss m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v24) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v26) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v2_0)) (v1 : (c : Dev Cert.Kernel27Ideal.nD) → Buf (Elt Ideal) ((c.tc : Thread Cert.Kernel27Ideal.nD Cert.Kernel27Ideal.τ).loc Cert.Kernel27Ideal.main_v2_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2_0) = v0 c
          ∧ r.2.mem ((c.tc : Thread Cert.Kernel27Ideal.nD Cert.Kernel27Ideal.τ).loc Cert.Kernel27Ideal.main_v2_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v26) = v0 c
          ∧ r.2.mem ((c.tc : Thread Cert.Reference27Ideal.nD Cert.Reference27Ideal.τ).loc Cert.Reference27Ideal.main_v27) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def preserves_Kernel29_Kernel29Ideal : Prop :=
  True

def algebraic_Kernel29Ideal_Reference29Ideal_pre_finite_norm_grad [hKernel29Ideal : Cert.Kernel29Ideal.Facts] [hReference29Ideal : Cert.Reference29Ideal.Facts] [hPre_finite_norm_grad : Cert.Pre_finite_norm_grad.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite_norm_grad m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v1_0)) (v1 : (c : Dev Cert.Kernel29Ideal.nD) → Buf (Elt Ideal) ((c.tc : Thread Cert.Kernel29Ideal.nD Cert.Kernel29Ideal.τ).loc Cert.Kernel29Ideal.main_v1_1)) (v2 : (c : Dev Cert.Kernel29Ideal.nD) → Buf (Elt Ideal) ((c.tc : Thread Cert.Kernel29Ideal.nD Cert.Kernel29Ideal.τ).loc Cert.Kernel29Ideal.main_v1_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1_0) = v0 c
          ∧ r.2.mem ((c.tc : Thread Cert.Kernel29Ideal.nD Cert.Kernel29Ideal.τ).loc Cert.Kernel29Ideal.main_v1_1) = v1 c
          ∧ r.2.mem ((c.tc : Thread Cert.Kernel29Ideal.nD Cert.Kernel29Ideal.τ).loc Cert.Kernel29Ideal.main_v1_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v65) = v0 c
          ∧ r.2.mem ((c.tc : Thread Cert.Reference29Ideal.nD Cert.Reference29Ideal.τ).loc Cert.Reference29Ideal.main_v66) = v1 c
          ∧ r.2.mem ((c.tc : Thread Cert.Reference29Ideal.nD Cert.Reference29Ideal.τ).loc Cert.Reference29Ideal.main_v67) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal_pre_finite_norm_loss [hKernel30Ideal : Cert.Kernel30Ideal.Facts] [hReference30Ideal : Cert.Reference30Ideal.Facts] [hPre_finite_norm_loss : Cert.Pre_finite_norm_loss.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite_norm_loss m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v2_0)) (v1 : (c : Dev Cert.Kernel30Ideal.nD) → Buf (Elt Ideal) ((c.tc : Thread Cert.Kernel30Ideal.nD Cert.Kernel30Ideal.τ).loc Cert.Kernel30Ideal.main_v2_1)) (v2 : (c : Dev Cert.Kernel30Ideal.nD) → Buf (Elt Ideal) ((c.tc : Thread Cert.Kernel30Ideal.nD Cert.Kernel30Ideal.τ).loc Cert.Kernel30Ideal.main_v2_2)) (v3 : (c : Dev Cert.Kernel30Ideal.nD) → Buf (Elt Ideal) ((c.tc : Thread Cert.Kernel30Ideal.nD Cert.Kernel30Ideal.τ).loc Cert.Kernel30Ideal.main_v2_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v2_0) = v0 c
          ∧ r.2.mem ((c.tc : Thread Cert.Kernel30Ideal.nD Cert.Kernel30Ideal.τ).loc Cert.Kernel30Ideal.main_v2_1) = v1 c
          ∧ r.2.mem ((c.tc : Thread Cert.Kernel30Ideal.nD Cert.Kernel30Ideal.τ).loc Cert.Kernel30Ideal.main_v2_2) = v2 c
          ∧ r.2.mem ((c.tc : Thread Cert.Kernel30Ideal.nD Cert.Kernel30Ideal.τ).loc Cert.Kernel30Ideal.main_v2_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v79) = v0 c
          ∧ r.2.mem ((c.tc : Thread Cert.Reference30Ideal.nD Cert.Reference30Ideal.τ).loc Cert.Reference30Ideal.main_v80) = v1 c
          ∧ r.2.mem ((c.tc : Thread Cert.Reference30Ideal.nD Cert.Reference30Ideal.τ).loc Cert.Reference30Ideal.main_v81) = v2 c
          ∧ r.2.mem ((c.tc : Thread Cert.Reference30Ideal.nD Cert.Reference30Ideal.τ).loc Cert.Reference30Ideal.main_v82) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v30) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)) →
    ∃ (v0 : (c : Dev Cert.Kernel32Ideal.nD) → Buf (Elt Ideal) ((c.tc : Thread Cert.Kernel32Ideal.nD Cert.Kernel32Ideal.τ).loc Cert.Kernel32Ideal.main_v1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v2) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v2) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v1) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v2) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)) →
    ∃ (v0 : (c : Dev Cert.Kernel37Ideal.nD) → Buf (Elt Ideal) ((c.tc : Thread Cert.Kernel37Ideal.nD Cert.Kernel37Ideal.τ).loc Cert.Kernel37Ideal.main_v1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v1) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v3) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)) →
    ∃ (v0 : (c : Dev Cert.Kernel38Ideal.nD) → Buf (Elt Ideal) ((c.tc : Thread Cert.Kernel38Ideal.nD Cert.Kernel38Ideal.τ).loc Cert.Kernel38Ideal.main_v1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v3) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)) →
    ∃ (v0 : (c : Dev Cert.Kernel39Ideal.nD) → Buf (Elt Ideal) ((c.tc : Thread Cert.Kernel39Ideal.nD Cert.Kernel39Ideal.τ).loc Cert.Kernel39Ideal.main_v1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v1) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v3) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hPre_finite_norm_grad : Cert.Pre_finite_norm_grad.Facts) (hPre_finite_norm_loss : Cert.Pre_finite_norm_loss.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Kernel29 (hKernel29 := hKernel29)
    ∧ quiescent_Kernel29Ideal (hKernel29Ideal := hKernel29Ideal)
    ∧ quiescent_Kernel29Ideal_pre_finite_norm_grad (hKernel29Ideal := hKernel29Ideal) (hPre_finite_norm_grad := hPre_finite_norm_grad)
    ∧ quiescent_Reference29Ideal (hReference29Ideal := hReference29Ideal)
    ∧ quiescent_Reference29Ideal_pre_finite_norm_grad (hReference29Ideal := hReference29Ideal) (hPre_finite_norm_grad := hPre_finite_norm_grad)
    ∧ quiescent_Kernel30 (hKernel30 := hKernel30)
    ∧ quiescent_Kernel30Ideal (hKernel30Ideal := hKernel30Ideal)
    ∧ quiescent_Kernel30Ideal_pre_finite_norm_loss (hKernel30Ideal := hKernel30Ideal) (hPre_finite_norm_loss := hPre_finite_norm_loss)
    ∧ quiescent_Reference30Ideal (hReference30Ideal := hReference30Ideal)
    ∧ quiescent_Reference30Ideal_pre_finite_norm_loss (hReference30Ideal := hReference30Ideal) (hPre_finite_norm_loss := hPre_finite_norm_loss)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ preserves_Kernel29_Kernel29Ideal
    ∧ algebraic_Kernel29Ideal_Reference29Ideal_pre_finite_norm_grad (hKernel29Ideal := hKernel29Ideal) (hReference29Ideal := hReference29Ideal) (hPre_finite_norm_grad := hPre_finite_norm_grad)
    ∧ preserves_Kernel30_Kernel30Ideal
    ∧ algebraic_Kernel30Ideal_Reference30Ideal_pre_finite_norm_loss (hKernel30Ideal := hKernel30Ideal) (hReference30Ideal := hReference30Ideal) (hPre_finite_norm_loss := hPre_finite_norm_loss)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
-- ==== Pre_finite_norm_grad.lean ====
abbrev S16384x1024 : Shape := ⟨2, ![16384, 1024]⟩
abbrev S1024 : Shape := ⟨1, ![1024]⟩
abbrev S_ : Shape := ⟨0, ![]⟩
abbrev S1x1024 : Shape := ⟨2, ![1, 1024]⟩

class Facts : Prop where
  bcast_S_S1024 : S_.BroadcastsInDim S1024 (![] : Fin 0 → Fin S1024.rank)
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)

variable [Facts]

def fn {F : FTy → Type} [FloatOps F] (main_arg0 : FVec F S16384x1024 .f32) (main_arg1 : FVec F S16384x1024 .f32) (main_arg2 : FVec F S1024 .f32) (main_arg3 : FVec F S1024 .f32) (main_arg4 : FVec F S16384x1024 .f32) : IVec S16384x1024 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S16384x1024 .f32 := Host.absf main_arg4
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : IVec S1x1024 1 := broadcastInDim S1x1024 ![1] bcast_S1024_S1x1024_1 main_v2
  let main_v7 : IVec S16384x1024 1 := broadcastInDim S16384x1024 ![0, 1] bcast_S1x1024_S16384x1024_0_1 main_v6
  let main_v8 : IVec S16384x1024 1 := andi main_v7 main_v5
  main_v8
-- ==== Pre_finite_norm_loss.lean ====
abbrev S16384x1024 : Shape := ⟨2, ![16384, 1024]⟩
abbrev S1024 : Shape := ⟨1, ![1024]⟩
abbrev S_ : Shape := ⟨0, ![]⟩
abbrev S1x1024 : Shape := ⟨2, ![1, 1024]⟩

class Facts : Prop where
  bcast_S_S1024 : S_.BroadcastsInDim S1024 (![] : Fin 0 → Fin S1024.rank)
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)

variable [Facts]

def fn {F : FTy → Type} [FloatOps F] (main_arg0 : FVec F S16384x1024 .f32) (main_arg1 : FVec F S16384x1024 .f32) (main_arg2 : FVec F S1024 .f32) (main_arg3 : FVec F S1024 .f32) (main_arg4 : FVec F S16384x1024 .f32) : IVec S16384x1024 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg3
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : IVec S1024 1 := andi main_v2 main_v5
  let main_v7 : FVec F S16384x1024 .f32 := Host.absf main_arg4
  let main_cst_1 : FVec F S_ .f32 := constant S_ .f32 0x7F800000#32
  let main_v8 : FVec F S16384x1024 .f32 := broadcastInDim S16384x1024 ![] bcast_S_S16384x1024 main_cst_1
  let main_v9 : IVec S16384x1024 1 := cmpf .olt main_v7 main_v8
  let main_v10 : IVec S1x1024 1 := broadcastInDim S1x1024 ![1] bcast_S1024_S1x1024_1 main_v6
  let main_v11 : IVec S16384x1024 1 := broadcastInDim S16384x1024 ![0, 1] bcast_S1x1024_S16384x1024_0_1 main_v10
  let main_v12 : IVec S16384x1024 1 := andi main_v11 main_v9
  main_v12
-- ==== Kernel.lean ====
abbrev S16384x1024 : Shape := ⟨2, ![16384, 1024]⟩
abbrev S1024x6272 : Shape := ⟨2, ![1024, 6272]⟩
abbrev S16384x6272 : Shape := ⟨2, ![16384, 6272]⟩
abbrev S2048x896 : Shape := ⟨2, ![2048, 896]⟩
abbrev S1024x896 : Shape := ⟨2, ![1024, 896]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x6272, .f32⟩
  | .hbm, ⟨2, _⟩ => ⟨S16384x6272, .f32⟩
  | .hbm, ⟨3, _⟩ => ⟨S16384x1024, .f32⟩
  | .hbm, ⟨4, _⟩ => ⟨S16384x6272, .bf16⟩
  | .hbm, ⟨5, _⟩ => ⟨S1024x6272, .bf16⟩
  | .hbm, ⟨6, _⟩ => ⟨S16384x1024, .f32⟩
  | .local _ .vmem, ⟨0, _⟩ => ⟨S2048x896, .bf16⟩
  | .local _ .vmem, ⟨1, _⟩ => ⟨S2048x896, .bf16⟩
  | .local _ .vmem, ⟨2, _⟩ => ⟨S1024x896, .bf16⟩
  | .local _ .vmem, ⟨3, _⟩ => ⟨S1024x896, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 7], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S16384x1024 : Shape := ⟨2, ![16384, 1024]⟩
abbrev S1024x6272 : Shape := ⟨2, ![1024, 6272]⟩
abbrev S16384x6272 : Shape := ⟨2, ![16384, 6272]⟩
abbrev S_ : Shape := ⟨0, ![]⟩
abbrev S6272x1024 : Shape := ⟨2, ![6272, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x6272, .f32⟩
  | .hbm, ⟨2, _⟩ => ⟨S16384x6272, .f32⟩
  | .hbm, ⟨3, _⟩ => ⟨S16384x1024, .f32⟩
  | .hbm, ⟨4, _⟩ => ⟨S16384x6272, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S6272x1024, .f32⟩
  | .hbm, ⟨12, _⟩ => ⟨S1024x6272, .f32⟩
  | .hbm, ⟨13, _⟩ => ⟨S16384x1024, .f32⟩
  | .hbm, ⟨14, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel2.lean ====
abbrev S16384x1024 : Shape := ⟨2, ![16384, 1024]⟩
abbrev S1024x8192 : Shape := ⟨2, ![1024, 8192]⟩
abbrev S16384x8192 : Shape := ⟨2, ![16384, 8192]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x8192, .f32⟩
  | .hbm, ⟨2, _⟩ => ⟨S16384x8192, .f32⟩
  | .hbm, ⟨3, _⟩ => ⟨S16384x1024, .f32⟩
  | .hbm, ⟨4, _⟩ => ⟨S16384x8192, .bf16⟩
  | .hbm, ⟨5, _⟩ => ⟨S1024x8192, .bf16⟩
  | .hbm, ⟨6, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S16384x1024 : Shape := ⟨2, ![16384, 1024]⟩
abbrev S1024x8192 : Shape := ⟨2, ![1024, 8192]⟩
abbrev S16384x8192 : Shape := ⟨2, ![16384, 8192]⟩
abbrev S_ : Shape := ⟨0, ![]⟩
abbrev S8192x1024 : Shape := ⟨2, ![8192, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x8192, .f32⟩
  | .hbm, ⟨2, _⟩ => ⟨S16384x8192, .f32⟩
  | .hbm, ⟨3, _⟩ => ⟨S16384x1024, .f32⟩
  | .hbm, ⟨4, _⟩ => ⟨S16384x8192, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S8192x1024, .f32⟩
  | .hbm, ⟨12, _⟩ => ⟨S1024x8192, .f32⟩
  | .hbm, ⟨13, _⟩ => ⟨S16384x1024, .f32⟩
  | .hbm, ⟨14, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel3.lean ====
abbrev S16384x1024 : Shape := ⟨2, ![16384, 1024]⟩
abbrev S1024x5376 : Shape := ⟨2, ![1024, 5376]⟩
abbrev S16384x5376 : Shape := ⟨2, ![16384, 5376]⟩
abbrev S2048x896 : Shape := ⟨2, ![2048, 896]⟩
abbrev S1024x896 : Shape := ⟨2, ![1024, 896]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x5376, .f32⟩
  | .hbm, ⟨2, _⟩ => ⟨S16384x5376, .f32⟩
  | .hbm, ⟨3, _⟩ => ⟨S16384x1024, .f32⟩
  | .hbm, ⟨4, _⟩ => ⟨S16384x5376, .bf16⟩
  | .hbm, ⟨5, _⟩ => ⟨S1024x5376, .bf16⟩
  | .hbm, ⟨6, _⟩ => ⟨S16384x1024, .f32⟩
  | .local _ .vmem, ⟨0, _⟩ => ⟨S2048x896, .bf16⟩
  | .local _ .vmem, ⟨1, _⟩ => ⟨S2048x896, .bf16⟩
  | .local _ .vmem, ⟨2, _⟩ => ⟨S1024x896, .bf16⟩
  | .local _ .vmem, ⟨3, _⟩ => ⟨S1024x896, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 6], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S16384x1024 : Shape := ⟨2, ![16384, 1024]⟩
abbrev S1024x5376 : Shape := ⟨2, ![1024, 5376]⟩
abbrev S16384x5376 : Shape := ⟨2, ![16384, 5376]⟩
abbrev S_ : Shape := ⟨0, ![]⟩
abbrev S5376x1024 : Shape := ⟨2, ![5376, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5376, .f32⟩
  | .hbm, ⟨2, _⟩ => ⟨S16384x5376, .f32⟩
  | .hbm, ⟨3, _⟩ => ⟨S16384x1024, .f32⟩
  | .hbm, ⟨4, _⟩ => ⟨S16384x5376, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S5376x1024, .f32⟩
  | .hbm, ⟨12, _⟩ => ⟨S1024x5376, .f32⟩
  | .hbm, ⟨13, _⟩ => ⟨S16384x1024, .f32⟩
  | .hbm, ⟨14, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel4.lean ====
abbrev S16384x1024 : Shape := ⟨2, ![16384, 1024]⟩
abbrev S1024x6272 : Shape := ⟨2, ![1024, 6272]⟩
abbrev S16384x6272 : Shape := ⟨2, ![16384, 6272]⟩
abbrev S1024x1024 : Shape := ⟨2, ![1024, 1024]⟩
abbrev S1024x896 : Shape := ⟨2, ![1024, 896]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x6272, .f32⟩
  | .hbm, ⟨2, _⟩ => ⟨S16384x6272, .f32⟩
  | .hbm, ⟨3, _⟩ => ⟨S16384x1024, .bf16⟩
  | .hbm, ⟨4, _⟩ => ⟨S16384x6272, .bf16⟩
  | .hbm, ⟨5, _⟩ => ⟨S1024x6272, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S1024x6272 : Shape := ⟨2, ![1024, 6272]⟩
abbrev S16384x6272 : Shape := ⟨2, ![16384, 6272]⟩
abbrev S6272x1024 : Shape := ⟨2, ![6272, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x6272, .f32⟩
  | .hbm, ⟨2, _⟩ => ⟨S16384x6272, .f32⟩
  | .hbm, ⟨3, _⟩ => ⟨S16384x6272, .f32⟩
  | .hbm, ⟨4, _⟩ => ⟨S6272x1024, .f32⟩
  | .hbm, ⟨5, _⟩ => ⟨S1024x6272, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x1024 : Shape := ⟨2, ![16384, 1024]⟩
abbrev S1024x8192 : Shape := ⟨2, ![1024, 8192]⟩
abbrev S16384x8192 : Shape := ⟨2, ![16384, 8192]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x8192, .f32⟩
  | .hbm, ⟨2, _⟩ => ⟨S16384x8192, .f32⟩
  | .hbm, ⟨3, _⟩ => ⟨S16384x1024, .bf16⟩
  | .hbm, ⟨4, _⟩ => ⟨S16384x8192, .bf16⟩
  | .hbm, ⟨5, _⟩ => ⟨S1024x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x1024 : Shape := ⟨2, ![16384, 1024]⟩
abbrev S1024x8192 : Shape := ⟨2, ![1024, 8192]⟩
abbrev S16384x8192 : Shape := ⟨2, ![16384, 8192]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x8192, .f32⟩
  | .hbm, ⟨2, _⟩ => ⟨S16384x8192, .f32⟩
  | .hbm, ⟨3, _⟩ => ⟨S16384x8192, .f32⟩
  | .hbm, ⟨4, _⟩ => ⟨S8192x1024, .f32⟩
  | .hbm, ⟨5, _⟩ => ⟨S1024x8192, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S16384x1024 : Shape := ⟨2, ![16384, 1024]⟩
abbrev S1024x5376 : Shape := ⟨2, ![1024, 5376]⟩
abbrev S16384x5376 : Shape := ⟨2, ![16384, 5376]⟩
abbrev S1024x1024 : Shape := ⟨2, ![1024, 1024]⟩
abbrev S1024x896 : Shape := ⟨2, ![1024, 896]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x5376, .f32⟩
  | .hbm, ⟨2, _⟩ => ⟨S16384x5376, .f32⟩
  | .hbm, ⟨3, _⟩ => ⟨S16384x1024, .bf16⟩
  | .hbm, ⟨4, _⟩ => ⟨S16384x5376, .bf16⟩
  | .hbm, ⟨5, _⟩ => ⟨S1024x5376, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S1024x5376 : Shape := ⟨2, ![1024, 5376]⟩
abbrev S16384x5376 : Shape := ⟨2, ![16384, 5376]⟩
abbrev S5376x1024 : Shape := ⟨2, ![5376, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5376, .f32⟩
  | .hbm, ⟨2, _⟩ => ⟨S16384x5376, .f32⟩
  | .hbm, ⟨3, _⟩ => ⟨S16384x5376, .f32⟩
  | .hbm, ⟨4, _⟩ => ⟨S5376x1024, .f32⟩
  | .hbm, ⟨5, _⟩ => ⟨S1024x5376, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S16384x2048 : Shape := ⟨2, ![16384, 2048]⟩
abbrev S2048x1024 : Shape := ⟨2, ![2048, 1024]⟩
abbrev S16384x1024 : Shape := ⟨2, ![16384, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x1024, .f32⟩
  | .hbm, ⟨3, _⟩ => ⟨S2048x1024, .bf16⟩
  | .hbm, ⟨4, _⟩ => ⟨S16384x2048, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x1024, .f32⟩
  | .hbm, ⟨3, _⟩ => ⟨S16384x1024, .f32⟩
  | .hbm, ⟨4, _⟩ => ⟨S1024x2048, .f32⟩
  | .hbm, ⟨5, _⟩ => ⟨S2048x1024, .f32⟩
  | .hbm, ⟨6, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x2048 : Shape := ⟨2, ![16384, 2048]⟩
abbrev S2048x1024 : Shape := ⟨2, ![2048, 1024]⟩
abbrev S16384x1024 : Shape := ⟨2, ![16384, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x1024, .f32⟩
  | .hbm, ⟨3, _⟩ => ⟨S16384x2048, .bf16⟩
  | .hbm, ⟨4, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x1024, .f32⟩
  | .hbm, ⟨3, _⟩ => ⟨S16384x1024, .f32⟩
  | .hbm, ⟨4, _⟩ => ⟨S1024x2048, .f32⟩
  | .hbm, ⟨5, _⟩ => ⟨S2048x1024, .f32⟩
  | .hbm, ⟨6, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S16384x1024 : Shape := ⟨2, ![16384, 1024]⟩
abbrev S1024x6272 : Shape := ⟨2, ![1024, 6272]⟩
abbrev S16384x6272 : Shape := ⟨2, ![16384, 6272]⟩
abbrev S2048x1024 : Shape := ⟨2, ![2048, 1024]⟩
abbrev S1024x896 : Shape := ⟨2, ![1024, 896]⟩
abbrev S2048x896 : Shape := ⟨2, ![2048, 896]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x6272, .f32⟩
  | .hbm, ⟨2, _⟩ => ⟨S16384x1024, .bf16⟩
  | .hbm, ⟨3, _⟩ => ⟨S1024x6272, .bf16⟩
  | .hbm, ⟨4, _⟩ => ⟨S16384x6272, .f32⟩
  | .local _ .vmem, ⟨0, _⟩ => ⟨S2048x1024, .bf16⟩
  | .local _ .vmem, ⟨1, _⟩ => ⟨S2048x1024, .bf16⟩
  | .local _ .vmem, ⟨2, _⟩ => ⟨S1024x896, .bf16⟩
  | .local _ .vmem, ⟨3, _⟩ => ⟨S1024x896, .bf16⟩
  | .local _ .vmem, ⟨4, _⟩ => ⟨S2048x896, .f32⟩
  | .local _ .vmem, ⟨5, _⟩ => ⟨S2048x896, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S1024x6272 : Shape := ⟨2, ![1024, 6272]⟩
abbrev S16384x6272 : Shape := ⟨2, ![16384, 6272]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x6272, .f32⟩
  | .hbm, ⟨2, _⟩ => ⟨S16384x6272, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S16384x1024 : Shape := ⟨2, ![16384, 1024]⟩
abbrev S1024x8192 : Shape := ⟨2, ![1024, 8192]⟩
abbrev S16384x8192 : Shape := ⟨2, ![16384, 8192]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x8192, .f32⟩
  | .hbm, ⟨2, _⟩ => ⟨S16384x1024, .bf16⟩
  | .hbm, ⟨3, _⟩ => ⟨S1024x8192, .bf16⟩
  | .hbm, ⟨4, _⟩ => ⟨S16384x8192, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S1024x8192 : Shape := ⟨2, ![1024, 8192]⟩
abbrev S16384x8192 : Shape := ⟨2, ![16384, 8192]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x8192, .f32⟩
  | .hbm, ⟨2, _⟩ => ⟨S16384x8192, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S16384x1024 : Shape := ⟨2, ![16384, 1024]⟩
abbrev S1024x5376 : Shape := ⟨2, ![1024, 5376]⟩
abbrev S16384x5376 : Shape := ⟨2, ![16384, 5376]⟩
abbrev S2048x1024 : Shape := ⟨2, ![2048, 1024]⟩
abbrev S1024x896 : Shape := ⟨2, ![1024, 896]⟩
abbrev S2048x896 : Shape := ⟨2, ![2048, 896]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x5376, .f32⟩
  | .hbm, ⟨2, _⟩ => ⟨S16384x1024, .bf16⟩
  | .hbm, ⟨3, _⟩ => ⟨S1024x5376, .bf16⟩
  | .hbm, ⟨4, _⟩ => ⟨S16384x5376, .f32⟩
  | .local _ .vmem, ⟨0, _⟩ => ⟨S2048x1024, .bf16⟩
  | .local _ .vmem, ⟨1, _⟩ => ⟨S2048x1024, .bf16⟩
  | .local _ .vmem, ⟨2, _⟩ => ⟨S1024x896, .bf16⟩
  | .local _ .vmem, ⟨3, _⟩ => ⟨S1024x896, .bf16⟩
  | .local _ .vmem, ⟨4, _⟩ => ⟨S2048x896, .f32⟩
  | .local _ .vmem, ⟨5, _⟩ => ⟨S2048x896, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S1024x5376 : Shape := ⟨2, ![1024, 5376]⟩
abbrev S16384x5376 : Shape := ⟨2, ![16384, 5376]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5376, .f32⟩
  | .hbm, ⟨2, _⟩ => ⟨S16384x5376, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S16384x2048 : Shape := ⟨2, ![16384, 2048]⟩
abbrev S2048x1024 : Shape := ⟨2, ![2048, 1024]⟩
abbrev S16384x1024 : Shape := ⟨2, ![16384, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x2048, .bf16⟩
  | .hbm, ⟨3, _⟩ => ⟨S2048x1024, .bf16⟩
  | .hbm, ⟨4, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S2x1024x1544 : Shape := ⟨3, ![2, 1024, 1544]⟩
abbrev S2048x1544 : Shape := ⟨2, ![2048, 1544]⟩
abbrev S256x1544 : Shape := ⟨2, ![256, 1544]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1544, .f32⟩
  | .hbm, ⟨1, _⟩ => ⟨S2x1024x1544, .f32⟩
  | .hbm, ⟨2, _⟩ => ⟨S2x1024x1544, .f32⟩
  | .hbm, ⟨3, _⟩ => ⟨S2x1024x1544, .f32⟩
  | .hbm, ⟨4, _⟩ => ⟨S2048x1544, .f32⟩
  | .hbm, ⟨5, _⟩ => ⟨S2048x1544, .f32⟩
  | .hbm, ⟨6, _⟩ => ⟨S2048x1544, .f32⟩
  | .hbm, ⟨7, _⟩ => ⟨S2048x1544, .f32⟩
  | .hbm, ⟨8, _⟩ => ⟨S2048x1544, .f32⟩
  | .hbm, ⟨9, _⟩ => ⟨S2048x1544, .f32⟩
  | .hbm, ⟨10, _⟩ => ⟨S2048x1544, .f32⟩
  | .local _ .vmem, ⟨0, _⟩ => ⟨S256x1544, .f32⟩
  | .local _ .vmem, ⟨1, _⟩ => ⟨S256x1544, .f32⟩
  | .local _ .vmem, ⟨2, _⟩ => ⟨S256x1544, .f32⟩
  | .local _ .vmem, ⟨3, _⟩ => ⟨S256x1544, .f32⟩
  | .local _ .vmem, ⟨4, _⟩ => ⟨S256x1544, .f32⟩
  | .local _ .vmem, ⟨5, _⟩ => ⟨S256x1544, .f32⟩
  | .local _ .vmem, ⟨6, _⟩ => ⟨S256x1544, .f32⟩
  | .local _ .vmem, ⟨7, _⟩ => ⟨S256x1544, .f32⟩
  | .local _ .vmem, ⟨8, _⟩ => ⟨S256x1544, .f32⟩
  | .local _ .vmem, ⟨9, _⟩ => ⟨S256x1544, .f32⟩
  | .local _ .vmem, ⟨10, _⟩ => ⟨S256x1544, .f32⟩
  | .local _ .vmem, ⟨11, _⟩ => ⟨S256x1544, .f32⟩
  | .local _ .vmem, ⟨12, _⟩ => ⟨S256x1544, .f32⟩
  | .local _ .vmem, ⟨13, _⟩ => ⟨S256x1544, .f32⟩
  | _, _ => ⟨S2x1024x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S2x1024x1544 : Shape := ⟨3, ![2, 1024, 1544]⟩
abbrev S_ : Shape := ⟨0, ![]⟩
abbrev S2048x1544 : Shape := ⟨2, ![2048, 1544]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1544, .f32⟩
  | .hbm, ⟨1, _⟩ => ⟨S2x1024x1544, .f32⟩
  | .hbm, ⟨2, _⟩ => ⟨S2x1024x1544, .f32⟩
  | .hbm, ⟨3, _⟩ => ⟨S2x1024x1544, .f32⟩
  | .hbm, ⟨4, _⟩ => ⟨S_, .f32⟩
  | .hbm, ⟨5, _⟩ => ⟨S2x1024x1544, .f32⟩
  | .hbm, ⟨6, _⟩ => ⟨S2x1024x1544, .f32⟩
  | .hbm, ⟨7, _⟩ => ⟨S_, .f32⟩
  | .hbm, ⟨8, _⟩ => ⟨S2x1024x1544, .f32⟩
  | .hbm, ⟨9, _⟩ => ⟨S2x1024x1544, .f32⟩
  | .hbm, ⟨10, _⟩ => ⟨S2x1024x1544, .f32⟩
  | .hbm, ⟨11, _⟩ => ⟨S_, .f32⟩
  | .hbm, ⟨12, _⟩ => ⟨S2x1024x1544, .f32⟩
  | .hbm, ⟨13, _⟩ => ⟨S2x1024x1544, .f32⟩
  | .hbm, ⟨14, _⟩ => ⟨S2x1024x1544, .f32⟩
  | .hbm, ⟨15, _⟩ => ⟨S_, .f32⟩
  | .hbm, ⟨16, _⟩ => ⟨S2x1024x1544, .f32⟩
  | .hbm, ⟨17, _⟩ => ⟨S2x1024x1544, .f32⟩
  | .hbm, ⟨18, _⟩ => ⟨S2x1024x1544, .f32⟩
  | .hbm, ⟨19, _⟩ => ⟨S_, .f32⟩
  | .hbm, ⟨20, _⟩ => ⟨S2x1024x1544, .f32⟩
  | .hbm, ⟨21, _⟩ => ⟨S2x1024x1544, .f32⟩
  | .hbm, ⟨22, _⟩ => ⟨S_, .f32⟩
  | .hbm, ⟨23, _⟩ => ⟨S2x1024x1544, .f32⟩
  | .hbm, ⟨24, _⟩ => ⟨S2x1024x1544, .f32⟩
  | .hbm, ⟨25, _⟩ => ⟨S2x1024x1544, .f32⟩
  | .hbm, ⟨26, _⟩ => ⟨S_, .f32⟩
  | .hbm, ⟨27, _⟩ => ⟨S2x1024x1544, .f32⟩
  | .hbm, ⟨28, _⟩ => ⟨S2x1024x1544, .f32⟩
  | .hbm, ⟨29, _⟩ => ⟨S2x1024x1544, .f32⟩
  | .hbm, ⟨30, _⟩ => ⟨S_, .f32⟩
  | .hbm, ⟨31, _⟩ => ⟨S2x1024x1544, .f32⟩
  | .hbm, ⟨32, _⟩ => ⟨S2x1024x1544, .f32⟩
  | .hbm, ⟨33, _⟩ => ⟨S2x1024x1544, .f32⟩
  | .hbm, ⟨34, _⟩ => ⟨S_, .f32⟩
  | .hbm, ⟨35, _⟩ => ⟨S2x1024x1544, .f32⟩
  | .hbm, ⟨36, _⟩ => ⟨S2x1024x1544, .f32⟩
  | .hbm, ⟨37, _⟩ => ⟨S2048x1544, .f32⟩
  | .hbm, ⟨38, _⟩ => ⟨S2048x1544, .f32⟩
  | .hbm, ⟨39, _⟩ => ⟨S2048x1544, .f32⟩
  | _, _ => ⟨S2x1024x1544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel14.lean ====
abbrev S2x4x1024 : Shape := ⟨3, ![2, 4, 1024]⟩
abbrev S8x1024 : Shape := ⟨2, ![8, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x4x1024, .f32⟩
  | .hbm, ⟨1, _⟩ => ⟨S2x4x1024, .f32⟩
  | .hbm, ⟨2, _⟩ => ⟨S2x4x1024, .f32⟩
  | .hbm, ⟨3, _⟩ => ⟨S2x4x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S2x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S2x4x1024 : Shape := ⟨3, ![2, 4, 1024]⟩
abbrev S_ : Shape := ⟨0, ![]⟩
abbrev S8x1024 : Shape := ⟨2, ![8, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x4x1024, .f32⟩
  | .hbm, ⟨1, _⟩ => ⟨S2x4x1024, .f32⟩
  | .hbm, ⟨2, _⟩ => ⟨S2x4x1024, .f32⟩
  | .hbm, ⟨3, _⟩ => ⟨S2x4x1024, .f32⟩
  | .hbm, ⟨4, _⟩ => ⟨S_, .f32⟩
  | .hbm, ⟨5, _⟩ => ⟨S2x4x1024, .f32⟩
  | .hbm, ⟨6, _⟩ => ⟨S2x4x1024, .f32⟩
  | .hbm, ⟨7, _⟩ => ⟨S_, .f32⟩
  | .hbm, ⟨8, _⟩ => ⟨S2x4x1024, .f32⟩
  | .hbm, ⟨9, _⟩ => ⟨S2x4x1024, .f32⟩
  | .hbm, ⟨10, _⟩ => ⟨S2x4x1024, .f32⟩
  | .hbm, ⟨11, _⟩ => ⟨S_, .f32⟩
  | .hbm, ⟨12, _⟩ => ⟨S2x4x1024, .f32⟩
  | .hbm, ⟨13, _⟩ => ⟨S2x4x1024, .f32⟩
  | .hbm, ⟨14, _⟩ => ⟨S2x4x1024, .f32⟩
  | .hbm, ⟨15, _⟩ => ⟨S_, .f32⟩
  | .hbm, ⟨16, _⟩ => ⟨S2x4x1024, .f32⟩
  | .hbm, ⟨17, _⟩ => ⟨S2x4x1024, .f32⟩
  | .hbm, ⟨18, _⟩ => ⟨S2x4x1024, .f32⟩
  | .hbm, ⟨19, _⟩ => ⟨S_, .f32⟩
  | .hbm, ⟨20, _⟩ => ⟨S2x4x1024, .f32⟩
  | .hbm, ⟨21, _⟩ => ⟨S2x4x1024, .f32⟩
  | .hbm, ⟨22, _⟩ => ⟨S_, .f32⟩
  | .hbm, ⟨23, _⟩ => ⟨S2x4x1024, .f32⟩
  | .hbm, ⟨24, _⟩ => ⟨S2x4x1024, .f32⟩
  | .hbm, ⟨25, _⟩ => ⟨S2x4x1024, .f32⟩
  | .hbm, ⟨26, _⟩ => ⟨S_, .f32⟩
  | .hbm, ⟨27, _⟩ => ⟨S2x4x1024, .f32⟩
  | .hbm, ⟨28, _⟩ => ⟨S2x4x1024, .f32⟩
  | .hbm, ⟨29, _⟩ => ⟨S2x4x1024, .f32⟩
  | .hbm, ⟨30, _⟩ => ⟨S_, .f32⟩
  | .hbm, ⟨31, _⟩ => ⟨S2x4x1024, .f32⟩
  | .hbm, ⟨32, _⟩ => ⟨S2x4x1024, .f32⟩
  | .hbm, ⟨33, _⟩ => ⟨S2x4x1024, .f32⟩
  | .hbm, ⟨34, _⟩ => ⟨S_, .f32⟩
  | .hbm, ⟨35, _⟩ => ⟨S2x4x1024, .f32⟩
  | .hbm, ⟨36, _⟩ => ⟨S2x4x1024, .f32⟩
  | .hbm, ⟨37, _⟩ => ⟨S8x1024, .f32⟩
  | .hbm, ⟨38, _⟩ => ⟨S8x1024, .f32⟩
  | .hbm, ⟨39, _⟩ => ⟨S8x1024, .f32⟩
  | _, _ => ⟨S2x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15.lean ====
abbrev S2x16 : Shape := ⟨2, ![2, 16]⟩

abbrev nBuf : Space → Nat
  | .hbm => 7
  | .vmem => 7
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S2x16, .f32⟩
  | .hbm, ⟨5, _⟩ => ⟨S2x16, .f32⟩
  | .hbm, ⟨6, _⟩ => ⟨S2x16, .f32⟩
  | .local _ .vmem, ⟨0, _⟩ => ⟨S2x16, .f32⟩
  | .local _ .vmem, ⟨1, _⟩ => ⟨S2x16, .f32⟩
  | .local _ .vmem, ⟨2, _⟩ => ⟨S2x16, .f32⟩
  | .local _ .vmem, ⟨3, _⟩ => ⟨S2x16, .f32⟩
  | .local _ .vmem, ⟨4, _⟩ => ⟨S2x16, .f32⟩
  | .local _ .vmem, ⟨5, _⟩ => ⟨S2x16, .f32⟩
  | .local _ .vmem, ⟨6, _⟩ => ⟨S2x16, .f32⟩
  | _, _ => ⟨S2x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S2x16 : Shape := ⟨2, ![2, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16, .f32⟩
  | .hbm, ⟨1, _⟩ => ⟨S2x16, .f32⟩
  | .hbm, ⟨2, _⟩ => ⟨S2x16, .f32⟩
  | .hbm, ⟨3, _⟩ => ⟨S2x16, .f32⟩
  | .hbm, ⟨4, _⟩ => ⟨S_, .f32⟩
  | .hbm, ⟨5, _⟩ => ⟨S2x16, .f32⟩
  | .hbm, ⟨6, _⟩ => ⟨S2x16, .f32⟩
  | .hbm, ⟨7, _⟩ => ⟨S_, .f32⟩
  | .hbm, ⟨8, _⟩ => ⟨S2x16, .f32⟩
  | .hbm, ⟨9, _⟩ => ⟨S2x16, .f32⟩
  | .hbm, ⟨10, _⟩ => ⟨S2x16, .f32⟩
  | .hbm, ⟨11, _⟩ => ⟨S_, .f32⟩
  | .hbm, ⟨12, _⟩ => ⟨S2x16, .f32⟩
  | .hbm, ⟨13, _⟩ => ⟨S2x16, .f32⟩
  | .hbm, ⟨14, _⟩ => ⟨S2x16, .f32⟩
  | .hbm, ⟨15, _⟩ => ⟨S_, .f32⟩
  | .hbm, ⟨16, _⟩ => ⟨S2x16, .f32⟩
  | .hbm, ⟨17, _⟩ => ⟨S2x16, .f32⟩
  | .hbm, ⟨18, _⟩ => ⟨S2x16, .f32⟩
  | .hbm, ⟨19, _⟩ => ⟨S_, .f32⟩
  | .hbm, ⟨20, _⟩ => ⟨S2x16, .f32⟩
  | .hbm, ⟨21, _⟩ => ⟨S2x16, .f32⟩
  | .hbm, ⟨22, _⟩ => ⟨S_, .f32⟩
  | .hbm, ⟨23, _⟩ => ⟨S2x16, .f32⟩
  | .hbm, ⟨24, _⟩ => ⟨S2x16, .f32⟩
  | .hbm, ⟨25, _⟩ => ⟨S2x16, .f32⟩
  | .hbm, ⟨26, _⟩ => ⟨S_, .f32⟩
  | .hbm, ⟨27, _⟩ => ⟨S2x16, .f32⟩
  | .hbm, ⟨28, _⟩ => ⟨S2x16, .f32⟩
  | .hbm, ⟨29, _⟩ => ⟨S2x16, .f32⟩
  | .hbm, ⟨30, _⟩ => ⟨S_, .f32⟩
  | .hbm, ⟨31, _⟩ => ⟨S2x16, .f32⟩
  | .hbm, ⟨32, _⟩ => ⟨S2x16, .f32⟩
  | .hbm, ⟨33, _⟩ => ⟨S2x16, .f32⟩
  | .hbm, ⟨34, _⟩ => ⟨S_, .f32⟩
  | .hbm, ⟨35, _⟩ => ⟨S2x16, .f32⟩
  | .hbm, ⟨36, _⟩ => ⟨S2x16, .f32⟩
  | _, _ => ⟨S2x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2x512x1024 : Shape := ⟨3, ![2, 512, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S2x512x1024 : Shape := ⟨3, ![2, 512, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S_, .f32⟩
  | .hbm, ⟨5, _⟩ => ⟨S2x512x1024, .f32⟩
  | .hbm, ⟨6, _⟩ => ⟨S2x512x1024, .f32⟩
  | .hbm, ⟨7, _⟩ => ⟨S_, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S1x1024x2048 : Shape := ⟨3, ![1, 1024, 2048]⟩
abbrev S1024x2048 : Shape := ⟨2, ![1024, 2048]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S1x1024x2048 : Shape := ⟨3, ![1, 1024, 2048]⟩
abbrev S_ : Shape := ⟨0, ![]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S_, .f32⟩
  | .hbm, ⟨5, _⟩ => ⟨S1x1024x2048, .f32⟩
  | .hbm, ⟨6, _⟩ => ⟨S1x1024x2048, .f32⟩
  | .hbm, ⟨7, _⟩ => ⟨S_, .f32⟩
  | .hbm, ⟨8, _⟩ => ⟨S1x1024x2048, .f32⟩
  | .hbm, ⟨9, _⟩ => ⟨S1x1024x2048, .f32⟩
  | .hbm, ⟨10, _⟩ => ⟨S1x1024x2048, .f32⟩
  | .hbm, ⟨11, _⟩ => ⟨S_, .f32⟩
  | .hbm, ⟨12, _⟩ => ⟨S1x1024x2048, .f32⟩
  | .hbm, ⟨13, _⟩ => ⟨S1x1024x2048, .f32⟩
  | .hbm, ⟨14, _⟩ => ⟨S1x1024x2048, .f32⟩
  | .hbm, ⟨15, _⟩ => ⟨S_, .f32⟩
  | .hbm, ⟨16, _⟩ => ⟨S1x1024x2048, .f32⟩
  | .hbm, ⟨17, _⟩ => ⟨S1x1024x2048, .f32⟩
  | .hbm, ⟨18, _⟩ => ⟨S1x1024x2048, .f32⟩
  | .hbm, ⟨19, _⟩ => ⟨S_, .f32⟩
  | .hbm, ⟨20, _⟩ => ⟨S1x1024x2048, .f32⟩
  | .hbm, ⟨21, _⟩ => ⟨S1x1024x2048, .f32⟩
  | .hbm, ⟨22, _⟩ => ⟨S_, .f32⟩
  | .hbm, ⟨23, _⟩ => ⟨S1x1024x2048, .f32⟩
  | .hbm, ⟨24, _⟩ => ⟨S1x1024x2048, .f32⟩
  | .hbm, ⟨25, _⟩ => ⟨S1x1024x2048, .f32⟩
  | .hbm, ⟨26, _⟩ => ⟨S_, .f32⟩
  | .hbm, ⟨27, _⟩ => ⟨S1x1024x2048, .f32⟩
  | .hbm, ⟨28, _⟩ => ⟨S1x1024x2048, .f32⟩
  | .hbm, ⟨29, _⟩ => ⟨S1x1024x2048, .f32⟩
  | .hbm, ⟨30, _⟩ => ⟨S_, .f32⟩
  | .hbm, ⟨31, _⟩ => ⟨S1x1024x2048, .f32⟩
  | .hbm, ⟨32, _⟩ => ⟨S1x1024x2048, .f32⟩
  | .hbm, ⟨33, _⟩ => ⟨S1x1024x2048, .f32⟩
  | .hbm, ⟨34, _⟩ => ⟨S_, .f32⟩
  | .hbm, ⟨35, _⟩ => ⟨S1x1024x2048, .f32⟩
  | .hbm, ⟨36, _⟩ => ⟨S1x1024x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S1x3x512 : Shape := ⟨3, ![1, 3, 512]⟩
abbrev S3x512 : Shape := ⟨2, ![3, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x3x512, .f32⟩
  | .hbm, ⟨1, _⟩ => ⟨S1x3x512, .f32⟩
  | .hbm, ⟨2, _⟩ => ⟨S1x3x512, .f32⟩
  | .hbm, ⟨3, _⟩ => ⟨S1x3x512, .f32⟩
  | .hbm, ⟨4, _⟩ => ⟨S3x512, .f32⟩
  | .hbm, ⟨5, _⟩ => ⟨S3x512, .f32⟩
  | .hbm, ⟨6, _⟩ => ⟨S3x512, .f32⟩
  | .hbm, ⟨7, _⟩ => ⟨S3x512, .f32⟩
  | .hbm, ⟨8, _⟩ => ⟨S3x512, .f32⟩
  | .hbm, ⟨9, _⟩ => ⟨S3x512, .f32⟩
  | .hbm, ⟨10, _⟩ => ⟨S3x512, .f32⟩
  | .local _ .vmem, ⟨0, _⟩ => ⟨S3x512, .f32⟩
  | .local _ .vmem, ⟨1, _⟩ => ⟨S3x512, .f32⟩
  | .local _ .vmem, ⟨2, _⟩ => ⟨S3x512, .f32⟩
  | .local _ .vmem, ⟨3, _⟩ => ⟨S3x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | _, _ => ⟨S1x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S1x3x512 : Shape := ⟨3, ![1, 3, 512]⟩
abbrev S_ : Shape := ⟨0, ![]⟩
abbrev S3x512 : Shape := ⟨2, ![3, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x3x512, .f32⟩
  | .hbm, ⟨1, _⟩ => ⟨S1x3x512, .f32⟩
  | .hbm, ⟨2, _⟩ => ⟨S1x3x512, .f32⟩
  | .hbm, ⟨3, _⟩ => ⟨S1x3x512, .f32⟩
  | .hbm, ⟨4, _⟩ => ⟨S_, .f32⟩
  | .hbm, ⟨5, _⟩ => ⟨S1x3x512, .f32⟩
  | .hbm, ⟨6, _⟩ => ⟨S1x3x512, .f32⟩
  | .hbm, ⟨7, _⟩ => ⟨S_, .f32⟩
  | .hbm, ⟨8, _⟩ => ⟨S1x3x512, .f32⟩
  | .hbm, ⟨9, _⟩ => ⟨S1x3x512, .f32⟩
  | .hbm, ⟨10, _⟩ => ⟨S1x3x512, .f32⟩
  | .hbm, ⟨11, _⟩ => ⟨S_, .f32⟩
  | .hbm, ⟨12, _⟩ => ⟨S1x3x512, .f32⟩
  | .hbm, ⟨13, _⟩ => ⟨S1x3x512, .f32⟩
  | .hbm, ⟨14, _⟩ => ⟨S1x3x512, .f32⟩
  | .hbm, ⟨15, _⟩ => ⟨S_, .f32⟩
  | .hbm, ⟨16, _⟩ => ⟨S1x3x512, .f32⟩
  | .hbm, ⟨17, _⟩ => ⟨S1x3x512, .f32⟩
  | .hbm, ⟨18, _⟩ => ⟨S1x3x512, .f32⟩
  | .hbm, ⟨19, _⟩ => ⟨S_, .f32⟩
  | .hbm, ⟨20, _⟩ => ⟨S1x3x512, .f32⟩
  | .hbm, ⟨21, _⟩ => ⟨S1x3x512, .f32⟩
  | .hbm, ⟨22, _⟩ => ⟨S_, .f32⟩
  | .hbm, ⟨23, _⟩ => ⟨S1x3x512, .f32⟩
  | .hbm, ⟨24, _⟩ => ⟨S1x3x512, .f32⟩
  | .hbm, ⟨25, _⟩ => ⟨S1x3x512, .f32⟩
  | .hbm, ⟨26, _⟩ => ⟨S_, .f32⟩
  | .hbm, ⟨27, _⟩ => ⟨S1x3x512, .f32⟩
  | .hbm, ⟨28, _⟩ => ⟨S1x3x512, .f32⟩
  | .hbm, ⟨29, _⟩ => ⟨S1x3x512, .f32⟩
  | .hbm, ⟨30, _⟩ => ⟨S_, .f32⟩
  | .hbm, ⟨31, _⟩ => ⟨S1x3x512, .f32⟩
  | .hbm, ⟨32, _⟩ => ⟨S1x3x512, .f32⟩
  | .hbm, ⟨33, _⟩ => ⟨S1x3x512, .f32⟩
  | .hbm, ⟨34, _⟩ => ⟨S_, .f32⟩
  | .hbm, ⟨35, _⟩ => ⟨S1x3x512, .f32⟩
  | .hbm, ⟨36, _⟩ => ⟨S1x3x512, .f32⟩
  | .hbm, ⟨37, _⟩ => ⟨S3x512, .f32⟩
  | .hbm, ⟨38, _⟩ => ⟨S3x512, .f32⟩
  | .hbm, ⟨39, _⟩ => ⟨S3x512, .f32⟩
  | _, _ => ⟨S1x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S1x512x1024 : Shape := ⟨3, ![1, 512, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S1x512x1024 : Shape := ⟨3, ![1, 512, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S_, .f32⟩
  | .hbm, ⟨5, _⟩ => ⟨S1x512x1024, .f32⟩
  | .hbm, ⟨6, _⟩ => ⟨S1x512x1024, .f32⟩
  | .hbm, ⟨7, _⟩ => ⟨S_, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S_, .f32⟩
  | .hbm, ⟨23, _⟩ => ⟨S1x512x1024, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel21.lean ====
abbrev S1x1024x1288 : Shape := ⟨3, ![1, 1024, 1288]⟩
abbrev S1024x1288 : Shape := ⟨2, ![1024, 1288]⟩
abbrev S256x1288 : Shape := ⟨2, ![256, 1288]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1288, .f32⟩
  | .hbm, ⟨1, _⟩ => ⟨S1x1024x1288, .f32⟩
  | .hbm, ⟨2, _⟩ => ⟨S1x1024x1288, .f32⟩
  | .hbm, ⟨3, _⟩ => ⟨S1x1024x1288, .f32⟩
  | .hbm, ⟨4, _⟩ => ⟨S1024x1288, .f32⟩
  | .hbm, ⟨5, _⟩ => ⟨S1024x1288, .f32⟩
  | .hbm, ⟨6, _⟩ => ⟨S1024x1288, .f32⟩
  | .hbm, ⟨7, _⟩ => ⟨S1024x1288, .f32⟩
  | .hbm, ⟨8, _⟩ => ⟨S1024x1288, .f32⟩
  | .hbm, ⟨9, _⟩ => ⟨S1024x1288, .f32⟩
  | .hbm, ⟨10, _⟩ => ⟨S1024x1288, .f32⟩
  | .local _ .vmem, ⟨0, _⟩ => ⟨S256x1288, .f32⟩
  | .local _ .vmem, ⟨1, _⟩ => ⟨S256x1288, .f32⟩
  | .local _ .vmem, ⟨2, _⟩ => ⟨S256x1288, .f32⟩
  | .local _ .vmem, ⟨3, _⟩ => ⟨S256x1288, .f32⟩
  | .local _ .vmem, ⟨4, _⟩ => ⟨S256x1288, .f32⟩
  | .local _ .vmem, ⟨5, _⟩ => ⟨S256x1288, .f32⟩
  | .local _ .vmem, ⟨6, _⟩ => ⟨S256x1288, .f32⟩
  | .local _ .vmem, ⟨7, _⟩ => ⟨S256x1288, .f32⟩
  | .local _ .vmem, ⟨8, _⟩ => ⟨S256x1288, .f32⟩
  | .local _ .vmem, ⟨9, _⟩ => ⟨S256x1288, .f32⟩
  | .local _ .vmem, ⟨10, _⟩ => ⟨S256x1288, .f32⟩
  | .local _ .vmem, ⟨11, _⟩ => ⟨S256x1288, .f32⟩
  | .local _ .vmem, ⟨12, _⟩ => ⟨S256x1288, .f32⟩
  | .local _ .vmem, ⟨13, _⟩ => ⟨S256x1288, .f32⟩
  | _, _ => ⟨S1x1024x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S1x1024x1288 : Shape := ⟨3, ![1, 1024, 1288]⟩
abbrev S_ : Shape := ⟨0, ![]⟩
abbrev S1024x1288 : Shape := ⟨2, ![1024, 1288]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1288, .f32⟩
  | .hbm, ⟨1, _⟩ => ⟨S1x1024x1288, .f32⟩
  | .hbm, ⟨2, _⟩ => ⟨S1x1024x1288, .f32⟩
  | .hbm, ⟨3, _⟩ => ⟨S1x1024x1288, .f32⟩
  | .hbm, ⟨4, _⟩ => ⟨S_, .f32⟩
  | .hbm, ⟨5, _⟩ => ⟨S1x1024x1288, .f32⟩
  | .hbm, ⟨6, _⟩ => ⟨S1x1024x1288, .f32⟩
  | .hbm, ⟨7, _⟩ => ⟨S_, .f32⟩
  | .hbm, ⟨8, _⟩ => ⟨S1x1024x1288, .f32⟩
  | .hbm, ⟨9, _⟩ => ⟨S1x1024x1288, .f32⟩
  | .hbm, ⟨10, _⟩ => ⟨S1x1024x1288, .f32⟩
  | .hbm, ⟨11, _⟩ => ⟨S_, .f32⟩
  | .hbm, ⟨12, _⟩ => ⟨S1x1024x1288, .f32⟩
  | .hbm, ⟨13, _⟩ => ⟨S1x1024x1288, .f32⟩
  | .hbm, ⟨14, _⟩ => ⟨S1x1024x1288, .f32⟩
  | .hbm, ⟨15, _⟩ => ⟨S_, .f32⟩
  | .hbm, ⟨16, _⟩ => ⟨S1x1024x1288, .f32⟩
  | .hbm, ⟨17, _⟩ => ⟨S1x1024x1288, .f32⟩
  | .hbm, ⟨18, _⟩ => ⟨S1x1024x1288, .f32⟩
  | .hbm, ⟨19, _⟩ => ⟨S_, .f32⟩
  | .hbm, ⟨20, _⟩ => ⟨S1x1024x1288, .f32⟩
  | .hbm, ⟨21, _⟩ => ⟨S1x1024x1288, .f32⟩
  | .hbm, ⟨22, _⟩ => ⟨S_, .f32⟩
  | .hbm, ⟨23, _⟩ => ⟨S1x1024x1288, .f32⟩
  | .hbm, ⟨24, _⟩ => ⟨S1x1024x1288, .f32⟩
  | .hbm, ⟨25, _⟩ => ⟨S1x1024x1288, .f32⟩
  | .hbm, ⟨26, _⟩ => ⟨S_, .f32⟩
  | .hbm, ⟨27, _⟩ => ⟨S1x1024x1288, .f32⟩
  | .hbm, ⟨28, _⟩ => ⟨S1x1024x1288, .f32⟩
  | .hbm, ⟨29, _⟩ => ⟨S1x1024x1288, .f32⟩
  | .hbm, ⟨30, _⟩ => ⟨S_, .f32⟩
  | .hbm, ⟨31, _⟩ => ⟨S1x1024x1288, .f32⟩
  | .hbm, ⟨32, _⟩ => ⟨S1x1024x1288, .f32⟩
  | .hbm, ⟨33, _⟩ => ⟨S1x1024x1288, .f32⟩
  | .hbm, ⟨34, _⟩ => ⟨S_, .f32⟩
  | .hbm, ⟨35, _⟩ => ⟨S1x1024x1288, .f32⟩
  | .hbm, ⟨36, _⟩ => ⟨S1x1024x1288, .f32⟩
  | .hbm, ⟨37, _⟩ => ⟨S1024x1288, .f32⟩
  | .hbm, ⟨38, _⟩ => ⟨S1024x1288, .f32⟩
  | .hbm, ⟨39, _⟩ => ⟨S1024x1288, .f32⟩
  | _, _ => ⟨S1x1024x1288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S1x4x768 : Shape := ⟨3, ![1, 4, 768]⟩
abbrev S4x768 : Shape := ⟨2, ![4, 768]⟩

abbrev nBuf : Space → Nat
  | .hbm => 11
  | .vmem => 7
  | .smem => 0
  | _ => 0

abbrev bufTy : (tb : Table) → Fin (tcTables nBuf tb) → BufTy
  | .hbm, ⟨0, _⟩ => ⟨S1x4x768, .f32⟩
  | .hbm, ⟨1, _⟩ => ⟨S1x4x768, .f32⟩
  | .hbm, ⟨2, _⟩ => ⟨S1x4x768, .f32⟩
  | .hbm, ⟨3, _⟩ => ⟨S1x4x768, .f32⟩
  | .hbm, ⟨4, _⟩ => ⟨S4x768, .f32⟩
  | .hbm, ⟨5, _⟩ => ⟨S4x768, .f32⟩
  | .hbm, ⟨6, _⟩ => ⟨S4x768, .f32⟩
  | .hbm, ⟨7, _⟩ => ⟨S4x768, .f32⟩
  | .hbm, ⟨8, _⟩ => ⟨S4x768, .f32⟩
  | .hbm, ⟨9, _⟩ => ⟨S4x768, .f32⟩
  | .hbm, ⟨10, _⟩ => ⟨S4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | _, _ => ⟨S1x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S1x4x768 : Shape := ⟨3, ![1, 4, 768]⟩
abbrev S_ : Shape := ⟨0, ![]⟩
abbrev S4x768 : Shape := ⟨2, ![4, 768]⟩

abbrev nBuf : Space → Nat
  | .hbm => 40
  | .vmem => 0
  | .smem => 0
  | _ => 0

abbrev bufTy : (tb : Table) → Fin (tcTables nBuf tb) → BufTy
  | .hbm, ⟨0, _⟩ => ⟨S1x4x768, .f32⟩
  | .hbm, ⟨1, _⟩ => ⟨S1x4x768, .f32⟩
  | .hbm, ⟨2, _⟩ => ⟨S1x4x768, .f32⟩
  | .hbm, ⟨3, _⟩ => ⟨S1x4x768, .f32⟩
  | .hbm, ⟨4, _⟩ => ⟨S_, .f32⟩
  | .hbm, ⟨5, _⟩ => ⟨S1x4x768, .f32⟩
  | .hbm, ⟨6, _⟩ => ⟨S1x4x768, .f32⟩
  | .hbm, ⟨7, _⟩ => ⟨S_, .f32⟩
  | .hbm, ⟨8, _⟩ => ⟨S1x4x768, .f32⟩
  | .hbm, ⟨9, _⟩ => ⟨S1x4x768, .f32⟩
  | .hbm, ⟨10, _⟩ => ⟨S1x4x768, .f32⟩
  | .hbm, ⟨11, _⟩ => ⟨S_, .f32⟩
  | .hbm, ⟨12, _⟩ => ⟨S1x4x768, .f32⟩
  | .hbm, ⟨13, _⟩ => ⟨S1x4x768, .f32⟩
  | .hbm, ⟨14, _⟩ => ⟨S1x4x768, .f32⟩
  | .hbm, ⟨15, _⟩ => ⟨S_, .f32⟩
  | .hbm, ⟨16, _⟩ => ⟨S1x4x768, .f32⟩
  | .hbm, ⟨17, _⟩ => ⟨S1x4x768, .f32⟩
  | .hbm, ⟨18, _⟩ => ⟨S1x4x768, .f32⟩
  | .hbm, ⟨19, _⟩ => ⟨S_, .f32⟩
  | .hbm, ⟨20, _⟩ => ⟨S1x4x768, .f32⟩
  | .hbm, ⟨21, _⟩ => ⟨S1x4x768, .f32⟩
  | .hbm, ⟨22, _⟩ => ⟨S_, .f32⟩
  | .hbm, ⟨23, _⟩ => ⟨S1x4x768, .f32⟩
  | .hbm, ⟨24, _⟩ => ⟨S1x4x768, .f32⟩
  | .hbm, ⟨25, _⟩ => ⟨S1x4x768, .f32⟩
  | .hbm, ⟨26, _⟩ => ⟨S_, .f32⟩
  | .hbm, ⟨27, _⟩ => ⟨S1x4x768, .f32⟩
  | .hbm, ⟨28, _⟩ => ⟨S1x4x768, .f32⟩
  | .hbm, ⟨29, _⟩ => ⟨S1x4x768, .f32⟩
  | .hbm, ⟨30, _⟩ => ⟨S_, .f32⟩
  | .hbm, ⟨31, _⟩ => ⟨S1x4x768, .f32⟩
  | .hbm, ⟨32, _⟩ => ⟨S1x4x768, .f32⟩
  | .hbm, ⟨33, _⟩ => ⟨S1x4x768, .f32⟩
  | .hbm, ⟨34, _⟩ => ⟨S_, .f32⟩
  | .hbm, ⟨35, _⟩ => ⟨S1x4x768, .f32⟩
  | .hbm, ⟨36, _⟩ => ⟨S1x4x768, .f32⟩
  | .hbm, ⟨37, _⟩ => ⟨S4x768, .f32⟩
  | .hbm, ⟨38, _⟩ => ⟨S4x768, .f32⟩
  | .hbm, ⟨39, _⟩ => ⟨S4x768, .f32⟩
  | _, _ => ⟨S1x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S1x768 : Shape := ⟨2, ![1, 768]⟩

abbrev nBuf : Space → Nat
  | .hbm => 7
  | .vmem => 7
  | .smem => 0
  | _ => 0

abbrev bufTy : (tb : Table) → Fin (tcTables nBuf tb) → BufTy
  | .hbm, ⟨0, _⟩ => ⟨S1x768, .f32⟩
  | .hbm, ⟨1, _⟩ => ⟨S1x768, .f32⟩
  | .hbm, ⟨2, _⟩ => ⟨S1x768, .f32⟩
  | .hbm, ⟨3, _⟩ => ⟨S1x768, .f32⟩
  | .hbm, ⟨4, _⟩ => ⟨S1x768, .f32⟩
  | .hbm, ⟨5, _⟩ => ⟨S1x768, .f32⟩
  | .hbm, ⟨6, _⟩ => ⟨S1x768, .f32⟩
  | .local _ .vmem, ⟨0, _⟩ => ⟨S1x768, .f32⟩
  | .local _ .vmem, ⟨1, _⟩ => ⟨S1x768, .f32⟩
  | .local _ .vmem, ⟨2, _⟩ => ⟨S1x768, .f32⟩
  | .local _ .vmem, ⟨3, _⟩ => ⟨S1x768, .f32⟩
  | .local _ .vmem, ⟨4, _⟩ => ⟨S1x768, .f32⟩
  | .local _ .vmem, ⟨5, _⟩ => ⟨S1x768, .f32⟩
  | .local _ .vmem, ⟨6, _⟩ => ⟨S1x768, .f32⟩
  | _, _ => ⟨S1x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S1x768 : Shape := ⟨2, ![1, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x768, .f32⟩
  | .hbm, ⟨1, _⟩ => ⟨S1x768, .f32⟩
  | .hbm, ⟨2, _⟩ => ⟨S1x768, .f32⟩
  | .hbm, ⟨3, _⟩ => ⟨S1x768, .f32⟩
  | .hbm, ⟨4, _⟩ => ⟨S_, .f32⟩
  | .hbm, ⟨5, _⟩ => ⟨S1x768, .f32⟩
  | .hbm, ⟨6, _⟩ => ⟨S1x768, .f32⟩
  | .hbm, ⟨7, _⟩ => ⟨S_, .f32⟩
  | .hbm, ⟨8, _⟩ => ⟨S1x768, .f32⟩
  | .hbm, ⟨9, _⟩ => ⟨S1x768, .f32⟩
  | .hbm, ⟨10, _⟩ => ⟨S1x768, .f32⟩
  | .hbm, ⟨11, _⟩ => ⟨S_, .f32⟩
  | .hbm, ⟨12, _⟩ => ⟨S1x768, .f32⟩
  | .hbm, ⟨13, _⟩ => ⟨S1x768, .f32⟩
  | .hbm, ⟨14, _⟩ => ⟨S1x768, .f32⟩
  | .hbm, ⟨15, _⟩ => ⟨S_, .f32⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S_, .f32⟩
  | .hbm, ⟨20, _⟩ => ⟨S1x768, .f32⟩
  | .hbm, ⟨21, _⟩ => ⟨S1x768, .f32⟩
  | .hbm, ⟨22, _⟩ => ⟨S_, .f32⟩
  | .hbm, ⟨23, _⟩ => ⟨S1x768, .f32⟩
  | .hbm, ⟨24, _⟩ => ⟨S1x768, .f32⟩
  | .hbm, ⟨25, _⟩ => ⟨S1x768, .f32⟩
  | .hbm, ⟨26, _⟩ => ⟨S_, .f32⟩
  | .hbm, ⟨27, _⟩ => ⟨S1x768, .f32⟩
  | .hbm, ⟨28, _⟩ => ⟨S1x768, .f32⟩
  | .hbm, ⟨29, _⟩ => ⟨S1x768, .f32⟩
  | .hbm, ⟨30, _⟩ => ⟨S_, .f32⟩
  | .hbm, ⟨31, _⟩ => ⟨S1x768, .f32⟩
  | .hbm, ⟨32, _⟩ => ⟨S1x768, .f32⟩
  | .hbm, ⟨33, _⟩ => ⟨S1x768, .f32⟩
  | .hbm, ⟨34, _⟩ => ⟨S_, .f32⟩
  | .hbm, ⟨35, _⟩ => ⟨S1x768, .f32⟩
  | .hbm, ⟨36, _⟩ => ⟨S1x768, .f32⟩
  | _, _ => ⟨S1x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S1x32 : Shape := ⟨2, ![1, 32]⟩

abbrev nBuf : Space → Nat
  | .hbm => 7
  | .vmem => 7
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .local _ .vmem, ⟨0, _⟩ => ⟨S1x32, .f32⟩
  | .local _ .vmem, ⟨1, _⟩ => ⟨S1x32, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | _, _ => ⟨S1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S1x32 : Shape := ⟨2, ![1, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x32, .f32⟩
  | .hbm, ⟨1, _⟩ => ⟨S1x32, .f32⟩
  | .hbm, ⟨2, _⟩ => ⟨S1x32, .f32⟩
  | .hbm, ⟨3, _⟩ => ⟨S1x32, .f32⟩
  | .hbm, ⟨4, _⟩ => ⟨S_, .f32⟩
  | .hbm, ⟨5, _⟩ => ⟨S1x32, .f32⟩
  | .hbm, ⟨6, _⟩ => ⟨S1x32, .f32⟩
  | .hbm, ⟨7, _⟩ => ⟨S_, .f32⟩
  | .hbm, ⟨8, _⟩ => ⟨S1x32, .f32⟩
  | .hbm, ⟨9, _⟩ => ⟨S1x32, .f32⟩
  | .hbm, ⟨10, _⟩ => ⟨S1x32, .f32⟩
  | .hbm, ⟨11, _⟩ => ⟨S_, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S_, .f32⟩
  | .hbm, ⟨16, _⟩ => ⟨S1x32, .f32⟩
  | .hbm, ⟨17, _⟩ => ⟨S1x32, .f32⟩
  | .hbm, ⟨18, _⟩ => ⟨S1x32, .f32⟩
  | .hbm, ⟨19, _⟩ => ⟨S_, .f32⟩
  | .hbm, ⟨20, _⟩ => ⟨S1x32, .f32⟩
  | .hbm, ⟨21, _⟩ => ⟨S1x32, .f32⟩
  | .hbm, ⟨22, _⟩ => ⟨S_, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S_, .f32⟩
  | .hbm, ⟨31, _⟩ => ⟨S1x32, .f32⟩
  | .hbm, ⟨32, _⟩ => ⟨S1x32, .f32⟩
  | .hbm, ⟨33, _⟩ => ⟨S1x32, .f32⟩
  | .hbm, ⟨34, _⟩ => ⟨S_, .f32⟩
  | .hbm, ⟨35, _⟩ => ⟨S1x32, .f32⟩
  | .hbm, ⟨36, _⟩ => ⟨S1x32, .f32⟩
  | _, _ => ⟨S1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference27Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel28.lean ====
abbrev S16384x8192 : Shape := ⟨2, ![16384, 8192]⟩
abbrev S3x2048 : Shape := ⟨2, ![3, 2048]⟩
abbrev S16384x2048 : Shape := ⟨2, ![16384, 2048]⟩
abbrev S_ : Shape := ⟨0, ![]⟩
abbrev S8x2048 : Shape := ⟨2, ![8, 2048]⟩
abbrev S128x8192 : Shape := ⟨2, ![128, 8192]⟩
abbrev S8x8192 : Shape := ⟨2, ![8, 8192]⟩
abbrev S128x2048 : Shape := ⟨2, ![128, 2048]⟩
abbrev S136x2048 : Shape := ⟨2, ![136, 2048]⟩
abbrev S128x256 : Shape := ⟨2, ![128, 256]⟩
abbrev S8x256 : Shape := ⟨2, ![8, 256]⟩
abbrev S136x256 : Shape := ⟨2, ![136, 256]⟩
abbrev S1x256 : Shape := ⟨2, ![1, 256]⟩
abbrev S256 : Shape := ⟨1, ![256]⟩

abbrev nBuf : Space → Nat
  | .hbm => 8
  | .vmem => 12
  | .smem => 0
  | _ => 0

abbrev bufTy : (tb : Table) → Fin (tcTables nBuf tb) → BufTy
  | .hbm, ⟨0, _⟩ => ⟨S16384x8192, .f32⟩
  | .hbm, ⟨1, _⟩ => ⟨S3x2048, .f32⟩
  | .hbm, ⟨2, _⟩ => ⟨S16384x2048, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S16384x8192, .bf16⟩
  | .hbm, ⟨7, _⟩ => ⟨S8x2048, .f32⟩
  | .local _ .vmem, ⟨0, _⟩ => ⟨S128x8192, .f32⟩
  | .local _ .vmem, ⟨1, _⟩ => ⟨S128x8192, .f32⟩
  | .local _ .vmem, ⟨2, _⟩ => ⟨S8x8192, .f32⟩
  | .local _ .vmem, ⟨3, _⟩ => ⟨S8x8192, .f32⟩
  | .local _ .vmem, ⟨4, _⟩ => ⟨S8x2048, .f32⟩
  | .local _ .vmem, ⟨5, _⟩ => ⟨S128x2048, .f32⟩
  | .local _ .vmem, ⟨6, _⟩ => ⟨S128x2048, .f32⟩
  | .local _ .vmem, ⟨7, _⟩ => ⟨S128x8192, .bf16⟩
  | .local _ .vmem, ⟨8, _⟩ => ⟨S128x8192, .bf16⟩
  | .local _ .vmem, ⟨9, _⟩ => ⟨S8x2048, .f32⟩
  | .local _ .vmem, ⟨10, _⟩ => ⟨S136x2048, .f32⟩
  | .local _ .vmem, ⟨11, _⟩ => ⟨S136x2048, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.subi c127_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c127_i32 : BitVec 32 := 127#32
  let v0 : BitVec 32 := Scalar.subi c127_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Kernel29.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference29Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S16384x1024, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384, .f32⟩
  | .hbm, ⟨88, _⟩ => ⟨S16384x1024, .f32⟩
  | .hbm, ⟨89, _⟩ => ⟨S16384x1024, .f32⟩
  | .hbm, ⟨90, _⟩ => ⟨S1x1024, .f32⟩
  | .hbm, ⟨91, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Kernel30.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S1x1024, .f32⟩
  | .hbm, ⟨9, _⟩ => ⟨S1x1024, .f32⟩
  | .hbm, ⟨10, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference30Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16384, .f32⟩
  | .hbm, ⟨63, _⟩ => ⟨S_, .f32⟩
  | .hbm, ⟨64, _⟩ => ⟨S16384, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S16384x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S16384x1024, .f32⟩
  | .hbm, ⟨86, _⟩ => ⟨S16384x1024, .f32⟩
  | .hbm, ⟨87, _⟩ => ⟨S16384x1, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S_, .f32⟩
  | .hbm, ⟨101, _⟩ => ⟨S16384, .f32⟩
  | .hbm, ⟨102, _⟩ => ⟨S16384x1, .f32⟩
  | .hbm, ⟨103, _⟩ => ⟨S16384x1024, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .f32⟩
  | .hbm, ⟨108, _⟩ => ⟨S_, .f32⟩
  | .hbm, ⟨109, _⟩ => ⟨S16384, .f32⟩
  | .hbm, ⟨110, _⟩ => ⟨S16384x1024, .f32⟩
  | .hbm, ⟨111, _⟩ => ⟨S16384x1024, .f32⟩
  | .hbm, ⟨112, _⟩ => ⟨S1x1024, .f32⟩
  | .hbm, ⟨113, _⟩ => ⟨S1x1024, .f32⟩
  | .hbm, ⟨114, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_cst_17 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_18 : Ref sig .tc := ⟨.hbm, 79, rfl⟩
abbrev main_v55 : Ref sig .tc := ⟨.hbm, 80, rfl⟩
abbrev main_v56 : Ref sig .tc := ⟨.hbm, 81, rfl⟩
abbrev main_cst_19 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_20 : Ref sig .tc := ⟨.hbm, 89, rfl⟩
abbrev main_v63 : Ref sig .tc := ⟨.hbm, 90, rfl⟩
abbrev main_v64 : Ref sig .tc := ⟨.hbm, 91, rfl⟩
abbrev main_cst_21 : Ref sig .tc := ⟨.hbm, 92, rfl⟩
abbrev main_v65 : Ref sig .tc := ⟨.hbm, 93, rfl⟩
abbrev main_v66 : Ref sig .tc := ⟨.hbm, 94, rfl⟩
abbrev main_cst_22 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_23 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_24 : Ref sig .tc := ⟨.hbm, 105, rfl⟩
abbrev main_v75 : Ref sig .tc := ⟨.hbm, 106, rfl⟩
abbrev main_v76 : Ref sig .tc := ⟨.hbm, 107, rfl⟩
abbrev main_cst_25 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]
-- ==== Kernel31.lean ====
abbrev S16384x8192 : Shape := ⟨2, ![16384, 8192]⟩
abbrev S3x2048 : Shape := ⟨2, ![3, 2048]⟩
abbrev S_ : Shape := ⟨0, ![]⟩
abbrev S8x2048 : Shape := ⟨2, ![8, 2048]⟩
abbrev S16384x2048 : Shape := ⟨2, ![16384, 2048]⟩
abbrev S128x8192 : Shape := ⟨2, ![128, 8192]⟩
abbrev S8x8192 : Shape := ⟨2, ![8, 8192]⟩
abbrev S128x2048 : Shape := ⟨2, ![128, 2048]⟩
abbrev S136x2048 : Shape := ⟨2, ![136, 2048]⟩
abbrev S8x256 : Shape := ⟨2, ![8, 256]⟩
abbrev S128x256 : Shape := ⟨2, ![128, 256]⟩
abbrev S136x256 : Shape := ⟨2, ![136, 256]⟩
abbrev S1x256 : Shape := ⟨2, ![1, 256]⟩

abbrev nBuf : Space → Nat
  | .hbm => 6
  | .vmem => 8
  | .smem => 0
  | _ => 0

abbrev bufTy : (tb : Table) → Fin (tcTables nBuf tb) → BufTy
  | .hbm, ⟨0, _⟩ => ⟨S16384x8192, .f32⟩
  | .hbm, ⟨1, _⟩ => ⟨S3x2048, .f32⟩
  | .hbm, ⟨2, _⟩ => ⟨S_, .i32⟩
  | .hbm, ⟨3, _⟩ => ⟨S_, .f32⟩
  | .hbm, ⟨4, _⟩ => ⟨S8x2048, .f32⟩
  | .hbm, ⟨5, _⟩ => ⟨S16384x2048, .bf16⟩
  | .local _ .vmem, ⟨0, _⟩ => ⟨S128x8192, .f32⟩
  | .local _ .vmem, ⟨1, _⟩ => ⟨S128x8192, .f32⟩
  | .local _ .vmem, ⟨2, _⟩ => ⟨S8x8192, .f32⟩
  | .local _ .vmem, ⟨3, _⟩ => ⟨S8x8192, .f32⟩
  | .local _ .vmem, ⟨4, _⟩ => ⟨S8x2048, .f32⟩
  | .local _ .vmem, ⟨5, _⟩ => ⟨S128x2048, .bf16⟩
  | .local _ .vmem, ⟨6, _⟩ => ⟨S128x2048, .bf16⟩
  | .local _ .vmem, ⟨7, _⟩ => ⟨S136x2048, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S16384x8192 : Shape := ⟨2, ![16384, 8192]⟩
abbrev S3x2048 : Shape := ⟨2, ![3, 2048]⟩
abbrev S16384x2048 : Shape := ⟨2, ![16384, 2048]⟩
abbrev S_ : Shape := ⟨0, ![]⟩
abbrev S2x2048 : Shape := ⟨2, ![2, 2048]⟩
abbrev S16386x2048 : Shape := ⟨2, ![16386, 2048]⟩
abbrev S1x2048 : Shape := ⟨2, ![1, 2048]⟩
abbrev S2048 : Shape := ⟨1, ![2048]⟩

abbrev nBuf : Space → Nat
  | .hbm => 42
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S3x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S2x2048, .f32⟩
  | .hbm, ⟨9, _⟩ => ⟨S16386x2048, .f32⟩
  | .hbm, ⟨10, _⟩ => ⟨S16384x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel32.lean ====
abbrev S4x4352x1024 : Shape := ⟨3, ![4, 4352, 1024]⟩
abbrev S4352x1024 : Shape := ⟨2, ![4352, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x4352x1024, .f32⟩
  | .hbm, ⟨1, _⟩ => ⟨S4x4352x1024, .bf16⟩
  | .hbm, ⟨2, _⟩ => ⟨S4352x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference32Ideal.lean ====
abbrev S4x4352x1024 : Shape := ⟨3, ![4, 4352, 1024]⟩
abbrev S_ : Shape := ⟨0, ![]⟩
abbrev S4352x1024 : Shape := ⟨2, ![4352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x4352x1024, .f32⟩
  | .hbm, ⟨1, _⟩ => ⟨S4x4352x1024, .bf16⟩
  | .hbm, ⟨2, _⟩ => ⟨S4x4352x1024, .f32⟩
  | .hbm, ⟨3, _⟩ => ⟨S_, .f32⟩
  | .hbm, ⟨4, _⟩ => ⟨S4352x1024, .f32⟩
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel33.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .local _ .vmem, ⟨0, _⟩ => ⟨S4x256x1024, .f32⟩
  | .local _ .vmem, ⟨1, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference33Ideal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S_, .f32⟩
  | .hbm, ⟨2, _⟩ => ⟨S256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel34.lean ====
abbrev S1024x6272 : Shape := ⟨2, ![1024, 6272]⟩
abbrev S4x1024x1544 : Shape := ⟨3, ![4, 1024, 1544]⟩
abbrev S128x6272 : Shape := ⟨2, ![128, 6272]⟩
abbrev S4x128x1544 : Shape := ⟨3, ![4, 128, 1544]⟩
abbrev S128x1544 : Shape := ⟨2, ![128, 1544]⟩
abbrev S1x128x1544 : Shape := ⟨3, ![1, 128, 1544]⟩

abbrev nBuf : Space → Nat
  | .hbm => 2
  | .vmem => 4
  | .smem => 0
  | _ => 0

abbrev bufTy : (tb : Table) → Fin (tcTables nBuf tb) → BufTy
  | .hbm, ⟨0, _⟩ => ⟨S1024x6272, .f32⟩
  | .hbm, ⟨1, _⟩ => ⟨S4x1024x1544, .f32⟩
  | .local _ .vmem, ⟨0, _⟩ => ⟨S128x6272, .f32⟩
  | .local _ .vmem, ⟨1, _⟩ => ⟨S128x6272, .f32⟩
  | .local _ .vmem, ⟨2, _⟩ => ⟨S4x128x1544, .f32⟩
  | .local _ .vmem, ⟨3, _⟩ => ⟨S4x128x1544, .f32⟩
  | _, _ => ⟨S1024x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x6272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference34Ideal.lean ====
abbrev S1024x6272 : Shape := ⟨2, ![1024, 6272]⟩
abbrev S1024x6176 : Shape := ⟨2, ![1024, 6176]⟩
abbrev S1024x4x1544 : Shape := ⟨3, ![1024, 4, 1544]⟩
abbrev S4x1024x1544 : Shape := ⟨3, ![4, 1024, 1544]⟩

abbrev nBuf : Space → Nat
  | .hbm => 4
  | .vmem => 0
  | .smem => 0
  | _ => 0

abbrev bufTy : (tb : Table) → Fin (tcTables nBuf tb) → BufTy
  | .hbm, ⟨0, _⟩ => ⟨S1024x6272, .f32⟩
  | .hbm, ⟨1, _⟩ => ⟨S1024x6176, .f32⟩
  | .hbm, ⟨2, _⟩ => ⟨S1024x4x1544, .f32⟩
  | .hbm, ⟨3, _⟩ => ⟨S4x1024x1544, .f32⟩
  | _, _ => ⟨S1024x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel35.lean ====
abbrev S1024x8192 : Shape := ⟨2, ![1024, 8192]⟩
abbrev S4x1024x2048 : Shape := ⟨3, ![4, 1024, 2048]⟩
abbrev S128x8192 : Shape := ⟨2, ![128, 8192]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 2
  | .vmem => 4
  | .smem => 0
  | _ => 0

abbrev bufTy : (tb : Table) → Fin (tcTables nBuf tb) → BufTy
  | .hbm, ⟨0, _⟩ => ⟨S1024x8192, .f32⟩
  | .hbm, ⟨1, _⟩ => ⟨S4x1024x2048, .f32⟩
  | .local _ .vmem, ⟨0, _⟩ => ⟨S128x8192, .f32⟩
  | .local _ .vmem, ⟨1, _⟩ => ⟨S128x8192, .f32⟩
  | .local _ .vmem, ⟨2, _⟩ => ⟨S4x128x2048, .f32⟩
  | .local _ .vmem, ⟨3, _⟩ => ⟨S4x128x2048, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference35Ideal.lean ====
abbrev S1024x8192 : Shape := ⟨2, ![1024, 8192]⟩
abbrev S1024x4x2048 : Shape := ⟨3, ![1024, 4, 2048]⟩
abbrev S4x1024x2048 : Shape := ⟨3, ![4, 1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x4x2048, .f32⟩
  | .hbm, ⟨2, _⟩ => ⟨S4x1024x2048, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel36.lean ====
abbrev S1024x5376 : Shape := ⟨2, ![1024, 5376]⟩
abbrev S4x1024x1288 : Shape := ⟨3, ![4, 1024, 1288]⟩
abbrev S128x5376 : Shape := ⟨2, ![128, 5376]⟩
abbrev S4x128x1288 : Shape := ⟨3, ![4, 128, 1288]⟩
abbrev S128x1288 : Shape := ⟨2, ![128, 1288]⟩
abbrev S1x128x1288 : Shape := ⟨3, ![1, 128, 1288]⟩

abbrev nBuf : Space → Nat
  | .hbm => 2
  | .vmem => 4
  | .smem => 0
  | _ => 0

abbrev bufTy : (tb : Table) → Fin (tcTables nBuf tb) → BufTy
  | .hbm, ⟨0, _⟩ => ⟨S1024x5376, .f32⟩
  | .hbm, ⟨1, _⟩ => ⟨S4x1024x1288, .f32⟩
  | .local _ .vmem, ⟨0, _⟩ => ⟨S128x5376, .f32⟩
  | .local _ .vmem, ⟨1, _⟩ => ⟨S128x5376, .f32⟩
  | .local _ .vmem, ⟨2, _⟩ => ⟨S4x128x1288, .f32⟩
  | .local _ .vmem, ⟨3, _⟩ => ⟨S4x128x1288, .f32⟩
  | _, _ => ⟨S1024x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x5376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference36Ideal.lean ====
abbrev S1024x5376 : Shape := ⟨2, ![1024, 5376]⟩
abbrev S1024x5152 : Shape := ⟨2, ![1024, 5152]⟩
abbrev S1024x4x1288 : Shape := ⟨3, ![1024, 4, 1288]⟩
abbrev S4x1024x1288 : Shape := ⟨3, ![4, 1024, 1288]⟩

abbrev nBuf : Space → Nat
  | .hbm => 4
  | .vmem => 0
  | .smem => 0
  | _ => 0

abbrev bufTy : (tb : Table) → Fin (tcTables nBuf tb) → BufTy
  | .hbm, ⟨0, _⟩ => ⟨S1024x5376, .f32⟩
  | .hbm, ⟨1, _⟩ => ⟨S1024x5152, .f32⟩
  | .hbm, ⟨2, _⟩ => ⟨S1024x4x1288, .f32⟩
  | .hbm, ⟨3, _⟩ => ⟨S4x1024x1288, .f32⟩
  | _, _ => ⟨S1024x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel37.lean ====
abbrev S4x1024x1544 : Shape := ⟨3, ![4, 1024, 1544]⟩
abbrev S1024x6272 : Shape := ⟨2, ![1024, 6272]⟩
abbrev S4x128x1544 : Shape := ⟨3, ![4, 128, 1544]⟩
abbrev S128x6272 : Shape := ⟨2, ![128, 6272]⟩
abbrev S1x128x1544 : Shape := ⟨3, ![1, 128, 1544]⟩
abbrev S128x1544 : Shape := ⟨2, ![128, 1544]⟩
abbrev S128x96 : Shape := ⟨2, ![128, 96]⟩

abbrev nBuf : Space → Nat
  | .hbm => 3
  | .vmem => 4
  | .smem => 0
  | _ => 0

abbrev bufTy : (tb : Table) → Fin (tcTables nBuf tb) → BufTy
  | .hbm, ⟨0, _⟩ => ⟨S4x1024x1544, .f32⟩
  | .hbm, ⟨1, _⟩ => ⟨S4x1024x1544, .bf16⟩
  | .hbm, ⟨2, _⟩ => ⟨S1024x6272, .bf16⟩
  | .local _ .vmem, ⟨0, _⟩ => ⟨S4x128x1544, .bf16⟩
  | .local _ .vmem, ⟨1, _⟩ => ⟨S4x128x1544, .bf16⟩
  | .local _ .vmem, ⟨2, _⟩ => ⟨S128x6272, .bf16⟩
  | .local _ .vmem, ⟨3, _⟩ => ⟨S128x6272, .bf16⟩
  | _, _ => ⟨S4x1024x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x6272 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference37Ideal.lean ====
abbrev S4x1024x1544 : Shape := ⟨3, ![4, 1024, 1544]⟩
abbrev S1024x4x1544 : Shape := ⟨3, ![1024, 4, 1544]⟩
abbrev S1024x6176 : Shape := ⟨2, ![1024, 6176]⟩
abbrev S_ : Shape := ⟨0, ![]⟩
abbrev S1024x6272 : Shape := ⟨2, ![1024, 6272]⟩

abbrev nBuf : Space → Nat
  | .hbm => 7
  | .vmem => 0
  | .smem => 0
  | _ => 0

abbrev bufTy : (tb : Table) → Fin (tcTables nBuf tb) → BufTy
  | .hbm, ⟨0, _⟩ => ⟨S4x1024x1544, .f32⟩
  | .hbm, ⟨1, _⟩ => ⟨S1024x4x1544, .f32⟩
  | .hbm, ⟨2, _⟩ => ⟨S1024x6176, .f32⟩
  | .hbm, ⟨3, _⟩ => ⟨S1024x6176, .bf16⟩
  | .hbm, ⟨4, _⟩ => ⟨S_, .i32⟩
  | .hbm, ⟨5, _⟩ => ⟨S_, .bf16⟩
  | .hbm, ⟨6, _⟩ => ⟨S1024x6272, .bf16⟩
  | _, _ => ⟨S4x1024x1544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel38.lean ====
abbrev S4x1024x2048 : Shape := ⟨3, ![4, 1024, 2048]⟩
abbrev S1024x8192 : Shape := ⟨2, ![1024, 8192]⟩
abbrev S4x128x2048 : Shape := ⟨3, ![4, 128, 2048]⟩
abbrev S128x8192 : Shape := ⟨2, ![128, 8192]⟩
abbrev S1x128x2048 : Shape := ⟨3, ![1, 128, 2048]⟩
abbrev S128x2048 : Shape := ⟨2, ![128, 2048]⟩

abbrev nBuf : Space → Nat
  | .hbm => 3
  | .vmem => 4
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .bf16⟩
  | .hbm, ⟨2, _⟩ => ⟨S1024x8192, .bf16⟩
  | .local _ .vmem, ⟨0, _⟩ => ⟨S4x128x2048, .bf16⟩
  | .local _ .vmem, ⟨1, _⟩ => ⟨S4x128x2048, .bf16⟩
  | .local _ .vmem, ⟨2, _⟩ => ⟨S128x8192, .bf16⟩
  | .local _ .vmem, ⟨3, _⟩ => ⟨S128x8192, .bf16⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference38Ideal.lean ====
abbrev S4x1024x2048 : Shape := ⟨3, ![4, 1024, 2048]⟩
abbrev S1024x4x2048 : Shape := ⟨3, ![1024, 4, 2048]⟩
abbrev S1024x8192 : Shape := ⟨2, ![1024, 8192]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S1024x4x2048, .f32⟩
  | .hbm, ⟨2, _⟩ => ⟨S1024x8192, .f32⟩
  | .hbm, ⟨3, _⟩ => ⟨S1024x8192, .bf16⟩
  | .hbm, ⟨4, _⟩ => ⟨S_, .i32⟩
  | .hbm, ⟨5, _⟩ => ⟨S_, .bf16⟩
  | .hbm, ⟨6, _⟩ => ⟨S1024x8192, .bf16⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel39.lean ====
abbrev S4x1024x1288 : Shape := ⟨3, ![4, 1024, 1288]⟩
abbrev S1024x5376 : Shape := ⟨2, ![1024, 5376]⟩
abbrev S4x128x1288 : Shape := ⟨3, ![4, 128, 1288]⟩
abbrev S128x5376 : Shape := ⟨2, ![128, 5376]⟩
abbrev S1x128x1288 : Shape := ⟨3, ![1, 128, 1288]⟩
abbrev S128x1288 : Shape := ⟨2, ![128, 1288]⟩
abbrev S128x224 : Shape := ⟨2, ![128, 224]⟩

abbrev nBuf : Space → Nat
  | .hbm => 3
  | .vmem => 4
  | .smem => 0
  | _ => 0

abbrev bufTy : (tb : Table) → Fin (tcTables nBuf tb) → BufTy
  | .hbm, ⟨0, _⟩ => ⟨S4x1024x1288, .f32⟩
  | .hbm, ⟨1, _⟩ => ⟨S4x1024x1288, .bf16⟩
  | .hbm, ⟨2, _⟩ => ⟨S1024x5376, .bf16⟩
  | .local _ .vmem, ⟨0, _⟩ => ⟨S4x128x1288, .bf16⟩
  | .local _ .vmem, ⟨1, _⟩ => ⟨S4x128x1288, .bf16⟩
  | .local _ .vmem, ⟨2, _⟩ => ⟨S128x5376, .bf16⟩
  | .local _ .vmem, ⟨3, _⟩ => ⟨S128x5376, .bf16⟩
  | _, _ => ⟨S4x1024x1288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference39Ideal.lean ====
abbrev S4x1024x1288 : Shape := ⟨3, ![4, 1024, 1288]⟩
abbrev S1024x4x1288 : Shape := ⟨3, ![1024, 4, 1288]⟩
abbrev S1024x5152 : Shape := ⟨2, ![1024, 5152]⟩
abbrev S_ : Shape := ⟨0, ![]⟩
abbrev S1024x5376 : Shape := ⟨2, ![1024, 5376]⟩

abbrev nBuf : Space → Nat
  | .hbm => 7
  | .vmem => 0
  | .smem => 0
  | _ => 0

abbrev bufTy : (tb : Table) → Fin (tcTables nBuf tb) → BufTy
  | .hbm, ⟨0, _⟩ => ⟨S4x1024x1288, .f32⟩
  | .hbm, ⟨1, _⟩ => ⟨S1024x4x1288, .f32⟩
  | .hbm, ⟨2, _⟩ => ⟨S1024x5152, .f32⟩
  | .hbm, ⟨3, _⟩ => ⟨S1024x5152, .bf16⟩
  | .hbm, ⟨4, _⟩ => ⟨S_, .i32⟩
  | .hbm, ⟨5, _⟩ => ⟨S_, .bf16⟩
  | .hbm, ⟨6, _⟩ => ⟨S1024x5376, .bf16⟩
  | _, _ => ⟨S4x1024x1288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Norm.lean ====
/-
  The gradient of a normalised row, over the extended reals: the form that a kernel computes, with the mean and the
  scale of the row worked out once, and the form that the chain rule writes, operation by operation.
-/
module

public import Idealize.ShloMosaic.Lib.Pipeline.ValueKit

@[expose] public section

noncomputable section

namespace Cert.Norm

open Idealize.ShloMosaic

/-- The number of a row's entries, as a constant of the programs. -/
theorem width : Ideal.ofBits FTy.f32 0x44800000#32 = ((1024 : ℝ) : EReal) := by
  simp [Ideal.ofBits, Ideal.ieee, -EReal.coe_mul]; norm_num

theorem two : Ideal.ofBits FTy.f32 0x40000000#32 = ((2 : ℝ) : EReal) := by
  simp [Ideal.ofBits, Ideal.ieee, -EReal.coe_mul]; norm_num

theorem minus_half : Ideal.ofBits FTy.f32 0xBF000000#32 = ((-(1 / 2) : ℝ) : EReal) := by
  simp [Ideal.ofBits, Ideal.ieee, -EReal.coe_mul]; norm_num

/-- What is added to the variance is a positive real number. -/
theorem bump : ∃ e : ℝ, 0 < e ∧ Ideal.ofBits FTy.f32 0x3727C5AC#32 = (e : EReal) := by
  refine ⟨_, ?_, by simp [Ideal.ofBits, Ideal.ieee, -EReal.coe_mul]; rfl⟩
  norm_num

/-- A finite sum of real numbers, taken in the extended reals. -/
theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- The row that is normalised: a residual, scaled by a constant of the model, plus what a layer adds to it. -/
def row {R : ℕ} (x y : FVec Ideal ⟨2, ![R, 1024]⟩ .f32) (n : Fin R) (k : Fin 1024) : EReal :=
  Ideal.ofBits FTy.f32 0x3FD744FD#32 * x (ix2 n k) + y (ix2 n k)

variable (r h : Fin 1024 → EReal) (c : Fin 1024)

def centre : EReal := r c - Ideal.div (∑ k, r k) (Ideal.ofBits FTy.f32 0x44800000#32)

def spread : EReal :=
  Ideal.div (∑ k, centre r k * centre r k) (Ideal.ofBits FTy.f32 0x44800000#32) + Ideal.ofBits FTy.f32 0x3727C5AC#32

def scale : EReal := Ideal.rsqrt (spread r)

/-- The normalised row. -/
def hat : EReal := centre r c * scale r

/-- The gradient in the kernel's form. -/
def grad : EReal :=
  scale r * (h c - Ideal.div (∑ k, h k) (Ideal.ofBits FTy.f32 0x44800000#32)
    - hat r c * Ideal.div (∑ k, h k * hat r k) (Ideal.ofBits FTy.f32 0x44800000#32))

/-- The gradient that reaches the variance, per entry. -/
def fold : EReal :=
  Ideal.div ((∑ k, centre r k * h k) * (Ideal.ofBits FTy.f32 0xBF000000#32 * Ideal.div (scale r) (spread r)))
    (Ideal.ofBits FTy.f32 0x44800000#32)

/-- The gradient in the chain rule's form. -/
def chain : EReal :=
  h c * scale r + fold r h * (Ideal.ofBits FTy.f32 0x40000000#32 * centre r c)
    + Ideal.div ((∑ k, -(h k * scale r)) + ∑ k, -(fold r h * (Ideal.ofBits FTy.f32 0x40000000#32 * centre r k)))
      (Ideal.ofBits FTy.f32 0x44800000#32)

/-- The two forms over the reals: `k` is the scale, `1 / s` its square, and the centred row `d` sums to zero. -/
theorem real_form (d h : Fin 1024 → ℝ) (hd : ∑ i, d i = 0) (k s : ℝ) (hk : k * k = 1 / s) (T : ℝ)
    (hT : T = ((∑ i, d i * h i) * (-(1 / 2) * (k * (1 / s)))) * (1 / 1024)) :
    h c * k + T * (2 * d c) + ((∑ i, -(h i * k)) + ∑ i, -(T * (2 * d i))) * (1 / 1024)
      = k * (h c - (∑ i, h i) * (1 / 1024) - d c * k * ((∑ i, h i * (d i * k)) * (1 / 1024))) := by
  have e1 : ∑ i, h i * (d i * k) = (∑ i, d i * h i) * k := by
    rw [Finset.sum_mul]; exact Finset.sum_congr rfl fun i _ => by ring
  have e2 : ∑ i, -(h i * k) = -((∑ i, h i) * k) := by
    rw [Finset.sum_mul, ← Finset.sum_neg_distrib]
  have e3 : ∑ i, -(T * (2 * d i)) = 0 := by
    rw [show (fun i => -(T * (2 * d i))) = fun i => (-(T * 2)) * d i from funext fun i => by ring, ← Finset.mul_sum, hd,
      mul_zero]
  rw [e1, e2, e3, hT, ← hk]
  ring

theorem sum_bot (i : Fin 1024) (hi : r i = ⊥) : ∑ k, r k = ⊥ := by
  rw [← Finset.add_sum_erase Finset.univ r (Finset.mem_univ i), hi, EReal.bot_add]

theorem sum_top (hb : ∀ k, r k ≠ ⊥) (i : Fin 1024) (hi : r i = ⊤) : ∑ k, r k = ⊤ := by
  rw [← Finset.add_sum_erase Finset.univ r (Finset.mem_univ i), hi]
  refine EReal.top_add_of_ne_bot ?_
  exact Finset.sum_induction r (· ≠ ⊥) (fun a b ha hb' => by simp [EReal.add_eq_bot_iff, ha, hb']) (by simp) fun k _ => hb k

/-- One infinite entry makes every centred entry infinite. -/
theorem centre_infinite (i : Fin 1024) (hi : r i = ⊤ ∨ r i = ⊥) : centre r c = ⊤ ∨ centre r c = ⊥ := by
  unfold centre
  rw [width, Ideal.div_coe (by norm_num)]
  by_cases hb : ∃ j, r j = ⊥
  · obtain ⟨j, hj⟩ := hb
    rw [sum_bot r j hj, EReal.bot_mul_coe_of_pos (by norm_num)]
    by_cases hc : r c = ⊥
    · right; rw [hc]; rfl
    · left
      rw [sub_eq_add_neg, EReal.neg_bot, EReal.add_top_of_ne_bot hc]
  · have hb' : ∀ k, r k ≠ ⊥ := fun k hk => hb ⟨k, hk⟩
    rw [sum_top r hb' i (hi.resolve_right (hb' i)), EReal.top_mul_coe_of_pos (by norm_num)]
    right
    rw [sub_eq_add_neg, EReal.neg_top, EReal.add_bot]

theorem spread_infinite (i : Fin 1024) (hi : r i = ⊤ ∨ r i = ⊥) : spread r = ⊤ := by
  obtain ⟨e, -, he⟩ := bump
  unfold spread
  have hsq : ∀ k, centre r k * centre r k = ⊤ := fun k => by
    rcases centre_infinite r k i hi with h | h <;> rw [h] <;> simp
  rw [width, he, Ideal.div_coe (by norm_num), sum_top _ (fun k => by rw [hsq k]; simp) i (hsq i),
    EReal.top_mul_coe_of_pos (by norm_num), EReal.top_add_coe]

theorem scale_infinite (i : Fin 1024) (hi : r i = ⊤ ∨ r i = ⊥) : scale r = 0 := by
  unfold scale
  rw [spread_infinite r i hi, Ideal.rsqrt_top]

theorem div_zero_width : Ideal.div 0 (Ideal.ofBits FTy.f32 0x44800000#32) = 0 := by
  rw [width, Ideal.div_coe (by norm_num), zero_mul]

theorem chain_eq_grad_infinite (i : Fin 1024) (hi : r i = ⊤ ∨ r i = ⊥) : chain r h c = grad r h c := by
  have hs := scale_infinite r i hi
  have hf : fold r h = 0 := by
    unfold fold
    rw [hs, spread_infinite r i hi, show Ideal.div 0 ⊤ = 0 by simp [Ideal.div], mul_zero, mul_zero, div_zero_width]
  unfold chain grad
  rw [hf, hs]
  simp [div_zero_width]

theorem centre_coe (a : Fin 1024 → ℝ) :
    centre (fun k => (a k : EReal)) c = ((a c - (∑ k, a k) * (1 / 1024) : ℝ) : EReal) := by
  unfold centre
  rw [width, Ideal.div_coe (by norm_num), ← coe_sum, ← EReal.coe_mul, ← EReal.coe_sub]

theorem spread_coe (a : Fin 1024 → ℝ) : ∃ s : ℝ, 0 < s ∧ spread (fun k => (a k : EReal)) = (s : EReal) := by
  obtain ⟨e, h0, he⟩ := bump
  refine ⟨(∑ k, (a k - (∑ k, a k) * (1 / 1024)) * (a k - (∑ k, a k) * (1 / 1024))) * (1 / 1024) + e, ?_, ?_⟩
  · have : 0 ≤ ∑ k, (a k - (∑ k, a k) * (1 / 1024)) * (a k - (∑ k, a k) * (1 / 1024)) :=
      Finset.sum_nonneg fun k _ => mul_self_nonneg _
    positivity
  · unfold spread
    simp only [centre_coe, ← EReal.coe_mul, ← coe_sum, width, he]
    rw [Ideal.div_coe (by norm_num), ← EReal.coe_mul, ← EReal.coe_add]

theorem scale_coe (a : Fin 1024 → ℝ) (s : ℝ) (h0 : 0 < s) (hs : spread (fun k => (a k : EReal)) = (s : EReal)) :
    scale (fun k => (a k : EReal)) = (((√s)⁻¹ : ℝ) : EReal) := by
  unfold scale
  rw [hs, Ideal.rsqrt_coe, if_neg (not_lt.mpr h0.le), if_neg h0.ne']

theorem sum_centre (a : Fin 1024 → ℝ) : ∑ i, (a i - (∑ k, a k) * (1 / 1024)) = 0 := by
  rw [Finset.sum_sub_distrib, Finset.sum_const, Finset.card_univ, Fintype.card_fin, nsmul_eq_mul]
  push_cast
  ring

/-- The two forms agree whenever the gradient that reaches the row is finite, whatever the row holds: a row with an
    infinite entry has an infinite variance, so its scale, and with it either form, is zero. -/
theorem chain_eq_grad (hh : ∀ k, h k ≠ ⊤ ∧ h k ≠ ⊥) : chain r h c = grad r h c := by
  by_cases hr : ∃ i, r i = ⊤ ∨ r i = ⊥
  · obtain ⟨i, hi⟩ := hr
    exact chain_eq_grad_infinite r h c i hi
  · have hr' : ∀ k, r k ≠ ⊤ ∧ r k ≠ ⊥ := fun k => ⟨fun e => hr ⟨k, .inl e⟩, fun e => hr ⟨k, .inr e⟩⟩
    lift r to Fin 1024 → ℝ using hr' with a
    lift h to Fin 1024 → ℝ using hh with g
    obtain ⟨s, h0, hs⟩ := spread_coe a
    have hk := scale_coe a s h0 hs
    unfold chain grad fold hat
    simp only [hs, hk, centre_coe, width, two, minus_half]
    simp only [Ideal.div_coe (show (1024 : ℝ) ≠ 0 by norm_num), Ideal.div_coe h0.ne', ← EReal.coe_mul, ← coe_sum,
      ← EReal.coe_neg, ← EReal.coe_add, ← EReal.coe_sub]
    rw [real_form c (fun i => a i - (∑ k, a k) * (1 / 1024)) g (sum_centre a) (√s)⁻¹ s
      (by rw [← mul_inv, Real.mul_self_sqrt h0.le, one_div]) _ rfl]

/-- The normalised row is finite, whatever the row holds. -/
theorem hat_finite : hat r c ≠ ⊤ ∧ hat r c ≠ ⊥ := by
  unfold hat
  by_cases hr : ∃ i, r i = ⊤ ∨ r i = ⊥
  · obtain ⟨i, hi⟩ := hr
    rw [scale_infinite r i hi, mul_zero]
    exact ⟨EReal.coe_ne_top 0, EReal.coe_ne_bot 0⟩
  · have hr' : ∀ k, r k ≠ ⊤ ∧ r k ≠ ⊥ := fun k => ⟨fun e => hr ⟨k, .inl e⟩, fun e => hr ⟨k, .inr e⟩⟩
    lift r to Fin 1024 → ℝ using hr' with a
    obtain ⟨s, h0, hs⟩ := spread_coe a
    rw [scale_coe a s h0 hs, centre_coe, ← EReal.coe_mul]
    exact ⟨EReal.coe_ne_top _, EReal.coe_ne_bot _⟩

end Cert.Norm
-- ==== Proof.ShortConv.lean ====
/-
  The short convolution with its gates: eight column blocks of a block of rows, each convolved from a scratch that
  holds the gated rows under the last eight of the block before.
-/
module

public import Idealize.ShloMosaic.Lib.KernelVsHost
public import proofs.«01_k».proof.Proof.Norm
public import proofs.«01_k».proof.Proof.Gen.Kernel31Ideal.Value
public import proofs.«01_k».proof.Proof.Gen.Reference31Ideal.Run
public import proofs.«01_k».proof.Proof.Gen.Reference31Ideal.Read

@[expose] public section

set_option maxRecDepth 16384

noncomputable section

open Idealize.ShloMosaic Idealize.ShloMosaic.TcCoe Idealize.SL.Sem
open Idealize.ShloMosaic.Pipeline (Dat)

namespace Cert.ShortConv

section Pieces
variable {sig : RefSig} {κ : Kind} {sp : Space} {s : Shape} {e : EltTy} {Val : EltTy → Type} [∀ e, Nonempty (Val e)]

/-- Writes that all agree with one function leave that function where they reach. -/
theorem canon_agree (E : s.Idx → Val e) : ∀ (L : List (View.Piece Val s e)) (y : s.Idx), (∃ p ∈ L, y ∈ p.1.set) →
    (∀ p ∈ L, ∀ x, p.2 x = E (p.1.emb x)) → View.canon L y = E y
  | [], y, h, _ => by obtain ⟨_, hm, _⟩ := h; exact absurd hm List.not_mem_nil
  | p :: L, y, h, hE => by
    by_cases hy : y ∈ p.1.set
    · obtain ⟨r, w⟩ := p
      obtain ⟨x, rfl⟩ : ∃ x, r.emb x = y := r.exists_idx_of_mem hy
      rw [View.canon_cons_emb]
      exact hE _ List.mem_cons_self x
    · rw [View.canon_cons_of_not_mem p L hy]
      refine canon_agree E L y ?_ fun q hq => hE q (List.mem_cons_of_mem _ hq)
      obtain ⟨q, hm, hq⟩ := h
      rcases List.mem_cons.mp hm with rfl | hm
      · exact absurd hq hy
      · exact ⟨q, hm, hq⟩

/-- So a load that such writes cover reads that function. -/
theorem readCov_agree (v : View sig κ sp s e) (E : s.Idx → Val e) (L : List (View.Piece Val s e)) (B : LoadRect s)
    (j : B.shape.Idx) (hc : ∃ p ∈ L, B.idx j ∈ p.1.set) (hE : ∀ p ∈ L, ∀ x, p.2 x = E (p.1.emb x)) :
    v.readCov L B j = E (B.idx j) := by
  rw [View.readCov_eq_canon']
  exact canon_agree E L _ hc hE

/-- The same through a rectangle with unit strides, at any index with the coordinates read. -/
theorem readCov_unit (v : View sig κ sp s e) (E : s.Idx → Val e) (L : List (View.Piece Val s e)) (off size : Fin s.rank → Nat)
    (inb) (j : (Rect.unit off size inb).shape.Idx) (i : s.Idx) (hi : ∀ b, (i b).val = off b + (j b).val)
    (hc : ∃ p ∈ L, i ∈ p.1.set) (hE : ∀ p ∈ L, ∀ x, p.2 x = E (p.1.emb x)) :
    v.readCov L (Rect.unit off size inb).toLoadRect j = E i := by
  have e : (Rect.unit off size inb).toLoadRect.idx j = i :=
    funext fun b => Fin.ext ((Rect.idx_unit_val off size inb j b).trans (hi b).symm)
  rw [readCov_agree v E L _ j (by rw [e]; exact hc) hE, e]

end Pieces

open Cert.Kernel31Ideal Cert.Kernel31Ideal.Gen Cert.Reference31Ideal.Read

/-- A rectangle of a matrix within its rows and columns. -/
theorem fits {R C a b h w : Nat} (hr : a + h ≤ R) (hc : b + w ≤ C) (i : Fin 2) :
    (![a, b] : Fin 2 → Nat) i + (![h, w] : Fin 2 → Nat) i ≤ (![R, C] : Fin 2 → Nat) i :=
  match i with
  | ⟨0, _⟩ => hr
  | ⟨1, _⟩ => hc

/-- One row of the taps, one block's columns. -/
theorem tap_slices {k b : Nat} (hk : k < 8) (hb : b + 256 ≤ 2048) : S8x2048.Slices ![k, b] S1x256 :=
  ⟨rfl, fun i => match i with
    | ⟨0, _⟩ => hk
    | ⟨1, _⟩ => hb⟩

variable (a : BitVec 32) (P : FVec Ideal S128x8192 .f32) (H : FVec Ideal S8x8192 .f32) (w : FVec Ideal S8x2048 .f32)

/-- A column block of the last rows of the block before, and of the block's rows. -/
def cutBefore (b : Nat) (hb : b + 256 ≤ 8192) : FVec Ideal S8x256 .f32 :=
  View.ld (Val := Elt Ideal) (S := S8x8192) (e' := .f32) H (Rect.unit ![0, b] ![8, 256] (fits (by omega) hb))
def cutOwn (b : Nat) (hb : b + 256 ≤ 8192) : FVec Ideal S128x256 .f32 :=
  View.ld (Val := Elt Ideal) (S := S128x8192) (e' := .f32) P (Rect.unit ![0, b] ![128, 256] (fits (by omega) hb))

/-- The gated rows before the block in its columns: zero at the first block. -/
def before (n : Nat) (hn : n < 8) : View.Piece (Elt Ideal) S136x2048 .f32 :=
  ⟨Rect.unit ![0, 256 * n] ![8, 256] (fits (by omega) (by omega)),
    shapeCast S8x256 (Scalar.select (Scalar.cmpi .eq a 0#32) (broadcast S8x256 (Scalar.ofBits .f32 0x00000000#32 : Ideal .f32))
      (mulf (cutBefore H (4096 + 256 * n) (by omega))
        (cutBefore H (256 * n) (by omega)))) shapeCasts_S8x256_S8x256⟩

/-- The block's own gated rows in its columns. -/
def own (n : Nat) (hn : n < 8) : View.Piece (Elt Ideal) S136x2048 .f32 :=
  ⟨Rect.unit ![8, 256 * n] ![128, 256] (fits (by omega) (by omega)),
    shapeCast S128x256 (mulf (cutOwn P (4096 + 256 * n) (by omega))
      (cutOwn P (256 * n) (by omega))) shapeCasts_S128x256_S128x256⟩

/-- What the scratch has been given after `n` column blocks, the latest first. -/
def gated : (n : Nat) → n ≤ 8 → List (View.Piece (Elt Ideal) S136x2048 .f32)
  | 0, _ => []
  | n + 1, h => own P n h :: before a H n h :: gated n (by omega)

/-- A column block of the scratch, from row 0 or from row 8. -/
def held (n : Nat) (hn : n < 8) : FVec Ideal S136x256 .f32 :=
  View.readCov (Val := Elt Ideal) (s := S136x2048) (e := .f32) (View.whole cc0_scratch0) (gated a P H (n + 1) hn)
    (Rect.unit (s := S136x2048) ![0, 256 * n] ![136, 256] (fits (by omega) (by omega))).toLoadRect
def heldOwn (n : Nat) (hn : n < 8) : FVec Ideal S128x256 .f32 :=
  View.readCov (Val := Elt Ideal) (s := S136x2048) (e := .f32) (View.whole cc0_scratch0) (gated a P H (n + 1) hn)
    (Rect.unit (s := S136x2048) ![8, 256 * n] ![128, 256] (fits (by omega) (by omega))).toLoadRect

/-- A row of the taps, repeated down the block. -/
def tap (k n : Nat) (hk : k < 8) (hn : n < 8) : FVec Ideal S128x256 .f32 :=
  broadcastTo S128x256 (extractStridedSlice S1x256 ![k, 256 * n] (k0_pay1 w) (tap_slices hk (by omega))) broadcasts_S1x256_S128x256

/-- The block's rows moved down by the amount that a rotation leaves. -/
def shifted (r : BitVec 32) (x : FVec Ideal S136x256 .f32) : FVec Ideal S128x256 .f32 :=
  extractStridedSlice S128x256 ![0, 0] (dynamicRotate 0 r none x rotates_S136x256_d0) slices_S136x256_o0_0_S128x256

/-- `z` times the logistic function of it, by the hyperbolic tangent. -/
def silu (z : FVec Ideal S128x256 .f32) : FVec Ideal S128x256 .f32 :=
  mulf z (addf (mulf (broadcast S128x256 (Scalar.ofBits .f32 0x3F000000#32 : Ideal .f32))
    (tanh (mulf (broadcast S128x256 (Scalar.ofBits .f32 0x3F000000#32 : Ideal .f32)) z)))
    (broadcast S128x256 (Scalar.ofBits .f32 0x3F000000#32 : Ideal .f32)))

/-- A column block of the result. -/
def block (n : Nat) (hn : n < 8) : FVec Ideal S128x256 .bf16 :=
  truncf .bf16 (mulf (mulf (cutOwn P (2048 + 256 * n) (by omega))
    (addf (addf (mulf (shifted 130#32 (held a P H n hn)) (tap w 0 n (by omega) hn))
      (mulf (shifted 129#32 (held a P H n hn)) (tap w 1 n (by omega) hn)))
      (mulf (heldOwn a P H n hn) (tap w 2 n (by omega) hn))))
    (silu (cutOwn P (6144 + 256 * n) (by omega)))) bitsLt_bf16_f32

/-- What the result's block has been given after `n` column blocks, the latest first. -/
def written : (n : Nat) → n ≤ 8 → List (View.Piece (Elt Ideal) S128x2048 .bf16)
  | 0, _ => []
  | n + 1, h => ⟨Rect.unit ![0, 256 * n] ![128, 256] (fits (by omega) (by omega)), block a P H w n h⟩ :: written n (by omega)

theorem cutBefore_apply (b : Nat) (hb : b + 256 ≤ 8192) (x : S8x256.Idx) (k : Fin 8192) (hk : k.val = b + (x 1).val) :
    cutBefore H b hb x = H (ix2 (x 0) k) :=
  View.ld_unit_apply_of (Val := Elt Ideal) (S := S8x8192) (e := .f32) H _ _ _ x _ fun i => match i with
    | ⟨0, _⟩ => by show (x 0).val = 0 + (x 0).val; omega
    | ⟨1, _⟩ => hk

theorem cutOwn_apply (b : Nat) (hb : b + 256 ≤ 8192) (x : S128x256.Idx) (k : Fin 8192) (hk : k.val = b + (x 1).val) :
    cutOwn P b hb x = P (ix2 (x 0) k) :=
  View.ld_unit_apply_of (Val := Elt Ideal) (S := S128x8192) (e := .f32) P _ _ _ x _ fun i => match i with
    | ⟨0, _⟩ => by show (x 0).val = 0 + (x 0).val; omega
    | ⟨1, _⟩ => hk

/-- The column of a projection's block that a result's column reads, after `o` others. -/
def col (o : Nat) (ho : o ≤ 6144) (k : Fin 2048) : Fin 8192 := ⟨o + k.val, by omega⟩

/-- The gated rows under the last eight of the block before, the first of them at row 8. -/
def stretch (i : S136x2048.Idx) : EReal :=
  if h : (i 0).val < 8 then
    if a = 0#32 then 0
    else H (ix2 ⟨(i 0).val, h⟩ (col 4096 (by omega) (i 1))) * H (ix2 ⟨(i 0).val, h⟩ (col 0 (by omega) (i 1)))
  else P (ix2 ⟨(i 0).val - 8, by have : (i 0).val < 136 := (i 0).isLt; omega⟩ (col 4096 (by omega) (i 1)))
    * P (ix2 ⟨(i 0).val - 8, by have : (i 0).val < 136 := (i 0).isLt; omega⟩ (col 0 (by omega) (i 1)))

theorem before_agree (n : Nat) (hn : n < 8) (x : (before a H n hn).1.shape.Idx) :
    (before a H n hn).2 x = stretch a P H ((before a H n hn).1.emb x) := by
  have e0 : ((before a H n hn).1.emb x 0).val = (x 0).val :=
    (ValueKit.rect_emb_unit_val (s := S136x2048) ![0, 256 * n] ![8, 256] (fits (by omega) (by omega)) x 0).trans (Nat.zero_add _)
  have e1 : ((before a H n hn).1.emb x 1).val = 256 * n + (x 1).val :=
    ValueKit.rect_emb_unit_val (s := S136x2048) ![0, 256 * n] ![8, 256] (fits (by omega) (by omega)) x 1
  have hx : (x 0).val < 8 := (x 0).isLt
  unfold stretch
  rw [dif_pos (by rw [e0]; exact hx)]
  show shapeCast S8x256 _ _ x = _
  rw [shapeCast_self]
  by_cases ha : a = 0#32
  · rw [if_pos ha]
    subst ha
    show Ideal.ofBits .f32 0x00000000#32 = 0
    simp [Ideal.ofBits, Ideal.ieee]
  rw [if_neg ha]
  have hc : Scalar.cmpi .eq a 0#32 = 0#1 := by
    show BitVec.ofBool (a == 0#32) = 0#1
    rw [beq_eq_false_iff_ne.mpr ha]
    rfl
  rw [hc]
  show cutBefore H _ _ x * cutBefore H _ _ x = _
  rw [cutBefore_apply H _ _ x (col 4096 (by omega) ((before a H n hn).1.emb x 1)) (by show 4096 + _ = _; rw [e1]; omega),
    cutBefore_apply H _ _ x (col 0 (by omega) ((before a H n hn).1.emb x 1)) (by show 0 + _ = _; rw [e1]; omega)]
  have e : (⟨((before a H n hn).1.emb x 0).val, by rw [e0]; exact hx⟩ : Fin 8) = x 0 := Fin.ext e0
  rw [e]

theorem own_agree (n : Nat) (hn : n < 8) (x : (own P n hn).1.shape.Idx) :
    (own P n hn).2 x = stretch a P H ((own P n hn).1.emb x) := by
  have e0 : ((own P n hn).1.emb x 0).val = 8 + (x 0).val := ValueKit.rect_emb_unit_val (s := S136x2048) ![8, 256 * n] ![128, 256] (fits (by omega) (by omega)) x 0
  have e1 : ((own P n hn).1.emb x 1).val = 256 * n + (x 1).val := ValueKit.rect_emb_unit_val (s := S136x2048) ![8, 256 * n] ![128, 256] (fits (by omega) (by omega)) x 1
  unfold stretch
  rw [dif_neg (by rw [e0]; omega)]
  refine (congrFun (shapeCast_self (s := S128x256) (mulf (cutOwn P (4096 + 256 * n) (by omega))
    (cutOwn P (256 * n) (by omega))) shapeCasts_S128x256_S128x256) x).trans ?_
  show cutOwn P _ _ x * cutOwn P _ _ x = _
  rw [cutOwn_apply P _ _ x (col 4096 (by omega) ((own P n hn).1.emb x 1)) (by show 4096 + _ = _; rw [e1]; omega),
    cutOwn_apply P _ _ x (col 0 (by omega) ((own P n hn).1.emb x 1)) (by show 0 + _ = _; rw [e1]; omega)]
  have e : (⟨((own P n hn).1.emb x 0).val - 8, by have h : (x 0).val < 128 := (x 0).isLt; show _ - 8 < 128; omega⟩ : Fin 128) = x 0 :=
    Fin.ext (show ((own P n hn).1.emb x 0).val - 8 = (x 0).val by omega)
  rw [e]

theorem gated_agree : ∀ (n : Nat) (h : n ≤ 8), ∀ p ∈ gated a P H n h, ∀ x, p.2 x = stretch a P H (p.1.emb x)
  | 0, _ => fun _ hp => absurd hp List.not_mem_nil
  | n + 1, h => fun p hp => by
    rcases List.mem_cons.mp hp with rfl | hp
    · exact own_agree a P H n h
    rcases List.mem_cons.mp hp with rfl | hp
    · exact before_agree a P H n h
    · exact gated_agree n _ p hp

/-- The latest column block has been given whole. -/
theorem gated_covers (n : Nat) (hn : n < 8) (i : S136x2048.Idx) (h0 : 256 * n ≤ (i 1).val) (h1 : (i 1).val < 256 * n + 256) :
    ∃ p ∈ gated a P H (n + 1) hn, i ∈ p.1.set := by
  by_cases h : (i 0).val < 8
  · refine ⟨before a H n hn, List.mem_cons_of_mem _ List.mem_cons_self,
      (Rect.mem_set_unit (s := S136x2048) (off := ![0, 256 * n]) (size := ![8, 256]) (inb := fits (by omega) (by omega))).mpr fun b => match b with
      | ⟨0, _⟩ => ⟨Nat.zero_le _, by show (i 0).val < 0 + 8; omega⟩
      | ⟨1, _⟩ => ⟨h0, h1⟩⟩
  · have : (i 0).val < 136 := (i 0).isLt
    refine ⟨own P n hn, List.mem_cons_self,
      (Rect.mem_set_unit (s := S136x2048) (off := ![8, 256 * n]) (size := ![128, 256]) (inb := fits (by omega) (by omega))).mpr fun b => match b with
      | ⟨0, _⟩ => ⟨by show 8 ≤ (i 0).val; omega, by show (i 0).val < 8 + 128; omega⟩
      | ⟨1, _⟩ => ⟨h0, h1⟩⟩

theorem held_apply (n : Nat) (hn : n < 8) (x : S136x256.Idx) (i : S136x2048.Idx) (h0 : (i 0).val = (x 0).val)
    (h1 : (i 1).val = 256 * n + (x 1).val) : held a P H n hn x = stretch a P H i := by
  have hx : (x 1).val < 256 := (x 1).isLt
  refine readCov_unit (Val := Elt Ideal) (s := S136x2048) (e := .f32) (View.whole cc0_scratch0) (stretch a P H)
    (gated a P H (n + 1) hn) ![0, 256 * n] ![136, 256] (fits (by omega) (by omega)) x i (fun b => ?_)
    (gated_covers a P H n hn i (by omega) (by omega)) (gated_agree a P H (n + 1) hn)
  match b with
  | ⟨0, _⟩ => show (i 0).val = 0 + (x 0).val; omega
  | ⟨1, _⟩ => exact h1

theorem heldOwn_apply (n : Nat) (hn : n < 8) (x : S128x256.Idx) (i : S136x2048.Idx) (h0 : (i 0).val = 8 + (x 0).val)
    (h1 : (i 1).val = 256 * n + (x 1).val) : heldOwn a P H n hn x = stretch a P H i := by
  have hx : (x 1).val < 256 := (x 1).isLt
  refine readCov_unit (Val := Elt Ideal) (s := S136x2048) (e := .f32) (View.whole cc0_scratch0) (stretch a P H)
    (gated a P H (n + 1) hn) ![8, 256 * n] ![128, 256] (fits (by omega) (by omega)) x i (fun b => ?_)
    (gated_covers a P H n hn i (by omega) (by omega)) (gated_agree a P H (n + 1) hn)
  match b with
  | ⟨0, _⟩ => exact h0
  | ⟨1, _⟩ => exact h1

theorem tap_apply (k n : Nat) (hk : k < 8) (hn : n < 8) (x : S128x256.Idx) (j : Fin 2048) (hj : j.val = 256 * n + (x 1).val) :
    tap w k n hk hn x = w (ix2 ⟨k, hk⟩ j) := by
  unfold tap
  refine (broadcastTo_apply (s := S1x256) (t := S128x256) _ _ x (ix2 0 (x 1)) fun b => ?_).trans ?_
  · match b with
    | ⟨0, _⟩ => rfl
    | ⟨1, _⟩ => rfl
  refine (extractStridedSlice_apply (s := S8x2048) (t := S1x256) ![k, 256 * n] _ _ (ix2 0 (x 1)) (ix2 ⟨k, hk⟩ j) fun b => ?_).trans ?_
  · match b with
    | ⟨0, _⟩ => rfl
    | ⟨1, _⟩ => exact hj
  unfold k0_pay1
  rw [shapeCast_self]

/-- A rotation by `136 - d` brings row `x + d` to row `x`. -/
theorem shifted_apply (d : Nat) (hd : 0 < d) (hd8 : d ≤ 8) (r : BitVec 32) (hr : r.toNat = 136 - d) (v : FVec Ideal S136x256 .f32) (x : S128x256.Idx)
    (i : S136x256.Idx) (h0 : (i 0).val = (x 0).val + d) (h1 : (i 1).val = (x 1).val) : shifted r v x = v i := by
  have hx : (x 0).val < 128 := (x 0).isLt
  unfold shifted
  refine (extractStridedSlice_apply (s := S136x256) (t := S128x256) ![0, 0] _ _ x (ix2 ⟨(x 0).val, by omega⟩ (x 1)) fun b => ?_).trans ?_
  · match b with
    | ⟨0, _⟩ => show (x 0).val = 0 + (x 0).val; omega
    | ⟨1, _⟩ => show (x 1).val = 0 + (x 1).val; omega
  refine dynamicRotate_apply _ _ _ _ _ i fun b => ?_
  match b with
  | ⟨0, _⟩ => show (i 0).val = ((x 0).val + 136 - r.toNat % 136) % 136; rw [hr]; omega
  | ⟨1, _⟩ => exact h1

/-- A column of the result's block, `d` rows further down the scratch. -/
def down (d : Nat) (hd : d ≤ 8) (i : S128x2048.Idx) : S136x2048.Idx :=
  ix2 ⟨(i 0).val + d, by have : (i 0).val < 128 := (i 0).isLt; omega⟩ (i 1)

/-- The logistic function, as the kernel writes it. -/
def gate (z : EReal) : EReal :=
  Ideal.ofBits .f32 0x3F000000#32 * Ideal.tanh (Ideal.ofBits .f32 0x3F000000#32 * z) + Ideal.ofBits .f32 0x3F000000#32

/-- An entry of the result's block. -/
def entry (i : S128x2048.Idx) : EReal :=
  P (ix2 (i 0) (col 2048 (by omega) (i 1)))
    * (stretch a P H (down 6 (by omega) i) * w (ix2 0 (i 1)) + stretch a P H (down 7 (by omega) i) * w (ix2 1 (i 1))
      + stretch a P H (down 8 (by omega) i) * w (ix2 2 (i 1)))
    * (P (ix2 (i 0) (col 6144 (by omega) (i 1))) * gate (P (ix2 (i 0) (col 6144 (by omega) (i 1)))))

theorem block_apply (n : Nat) (hn : n < 8) (x : S128x256.Idx) (i : S128x2048.Idx) (h0 : (i 0).val = (x 0).val)
    (h1 : (i 1).val = 256 * n + (x 1).val) : block a P H w n hn x = entry a P H w i := by
  have e0 : i 0 = x 0 := Fin.ext h0
  show cutOwn P _ _ x * (shifted _ _ x * tap w 0 n _ _ x + shifted _ _ x * tap w 1 n _ _ x + heldOwn a P H n hn x * tap w 2 n _ _ x)
    * (cutOwn P _ _ x * gate (cutOwn P _ _ x)) = _
  have hx : (x 0).val < 128 := (x 0).isLt
  rw [cutOwn_apply P _ _ x (col 2048 (by omega) (i 1)) (by show 2048 + (i 1).val = _; omega),
    cutOwn_apply P _ _ x (col 6144 (by omega) (i 1)) (by show 6144 + (i 1).val = _; omega),
    shifted_apply 6 (by omega) (by omega) 130#32 rfl _ x (ix2 ⟨(x 0).val + 6, by omega⟩ (x 1)) rfl rfl,
    shifted_apply 7 (by omega) (by omega) 129#32 rfl _ x (ix2 ⟨(x 0).val + 7, by omega⟩ (x 1)) rfl rfl,
    held_apply a P H n hn _ (down 6 (by omega) i) (by show (i 0).val + 6 = (x 0).val + 6; omega) (by exact h1),
    held_apply a P H n hn _ (down 7 (by omega) i) (by show (i 0).val + 7 = (x 0).val + 7; omega) (by exact h1),
    heldOwn_apply a P H n hn x (down 8 (by omega) i) (by show (i 0).val + 8 = 8 + (x 0).val; omega) (by exact h1),
    tap_apply w 0 n _ hn x (i 1) h1, tap_apply w 1 n _ hn x (i 1) h1, tap_apply w 2 n _ hn x (i 1) h1, ← e0]
  rfl

theorem written_agree : ∀ (n : Nat) (h : n ≤ 8), ∀ p ∈ written a P H w n h, ∀ x, p.2 x = entry a P H w (p.1.emb x)
  | 0, _ => fun _ hp => absurd hp List.not_mem_nil
  | n + 1, h => fun p hp x => by
    rcases List.mem_cons.mp hp with rfl | hp
    · exact block_apply a P H w n h x _
        ((ValueKit.rect_emb_unit_val (s := S128x2048) ![0, 256 * n] ![128, 256] (fits (by omega) (by omega)) x 0).trans (Nat.zero_add _))
        (ValueKit.rect_emb_unit_val (s := S128x2048) ![0, 256 * n] ![128, 256] (fits (by omega) (by omega)) x 1)
    · exact written_agree n _ p hp x

theorem written_covers : ∀ (n : Nat) (h : n ≤ 8) (i : S128x2048.Idx), (i 1).val < 256 * n → ∃ p ∈ written a P H w n h, i ∈ p.1.set
  | 0, _, _ => fun hi => absurd hi (Nat.not_lt_zero _)
  | n + 1, h, i => fun hi => by
    by_cases hc : (i 1).val < 256 * n
    · obtain ⟨p, hp, hm⟩ := written_covers n (by omega) i hc
      exact ⟨p, List.mem_cons_of_mem _ hp, hm⟩
    · have : (i 0).val < 128 := (i 0).isLt
      refine ⟨_, List.mem_cons_self,
        (Rect.mem_set_unit (s := S128x2048) (off := ![0, 256 * n]) (size := ![128, 256]) (inb := fits (by omega) (by omega))).mpr fun b => match b with
        | ⟨0, _⟩ => ⟨Nat.zero_le _, by show (i 0).val < 0 + 128; omega⟩
        | ⟨1, _⟩ => ⟨by show 256 * n ≤ (i 1).val; omega, by show (i 1).val < 256 * n + 256; omega⟩⟩

/-- The result's block is given whole. -/
theorem written_apply (i : S128x2048.Idx) : View.canon (written a P H w 8 (le_refl 8)) i = entry a P H w i :=
  canon_agree (entry a P H w) _ i (written_covers a P H w 8 _ i (i 1).isLt) (written_agree a P H w 8 _)

theorem half : Ideal.ofBits FTy.f32 0x3F000000#32 = ((1 / 2 : ℝ) : EReal) := by
  simp [Ideal.ofBits, Ideal.ieee, -EReal.coe_mul]; norm_num

theorem one : Ideal.ofBits FTy.f32 0x3F800000#32 = ((1 : ℝ) : EReal) := by
  simp [Ideal.ofBits, Ideal.ieee, -EReal.coe_mul]; norm_num

theorem gate_real (z : ℝ) : 1 / 2 * Real.tanh (1 / 2 * z) + 1 / 2 = 1 / (1 + Real.exp (-z)) := by
  have e : Real.exp (-z) = Real.exp (-(1 / 2 * z)) / Real.exp (1 / 2 * z) := by rw [← Real.exp_sub]; congr 1; ring
  have p := Real.exp_pos (1 / 2 * z)
  have q := Real.exp_pos (-(1 / 2 * z))
  rw [e, Real.tanh_eq_sinh_div_cosh, Real.sinh_eq, Real.cosh_eq]
  field_simp
  ring

/-- Both ways of writing the logistic function are one function. -/
theorem gate_eq (z : EReal) : gate z = Ideal.div (Ideal.ofBits FTy.f32 0x3F800000#32) (Ideal.ofBits FTy.f32 0x3F800000#32 + Ideal.exp (-z)) := by
  unfold gate
  rw [half, one]
  induction z with
  | bot =>
    rw [EReal.coe_mul_bot_of_pos (by norm_num), Ideal.tanh_bot, EReal.neg_bot, Ideal.exp_top]
    rw [EReal.coe_add_top, show Ideal.div ((1 : ℝ) : EReal) ⊤ = 0 by simp [Ideal.div], mul_neg, mul_one, ← EReal.coe_neg, ← EReal.coe_add]
    norm_num
  | top =>
    rw [EReal.coe_mul_top_of_pos (by norm_num), Ideal.tanh_top, EReal.neg_top, Ideal.exp_bot]
    rw [add_zero, mul_one, ← EReal.coe_add, Ideal.div_coe (by norm_num), ← EReal.coe_mul]
    norm_num
  | coe r =>
    have h := gate_real r
    have p := Real.exp_pos (-r)
    rw [← EReal.coe_mul, Ideal.tanh_coe, ← EReal.coe_mul, ← EReal.coe_add, h, ← EReal.coe_neg, Ideal.exp_coe, ← EReal.coe_add,
      Ideal.div_coe (by positivity), ← EReal.coe_mul, one_mul]

variable (x0 : FVec Ideal S16384x8192 .f32) (x1 : FVec Ideal S3x2048 .f32)

/-- The gated rows of the sequence under two rows of zeros. -/
def prior (i : Cert.Reference31Ideal.S16386x2048.Idx) : EReal :=
  if h : (i 0).val < 2 then 0
  else x0 (ix2 ⟨(i 0).val - 2, by have : (i 0).val < 16386 := (i 0).isLt; omega⟩ (col 4096 (by omega) (i 1)))
    * x0 (ix2 ⟨(i 0).val - 2, by have : (i 0).val < 16386 := (i 0).isLt; omega⟩ (col 0 (by omega) (i 1)))

theorem prior_eq (i : Cert.Reference31Ideal.S16386x2048.Idx) : val_main_v6 (F := Ideal) x0 i = prior x0 i := by
  unfold val_main_v6 prior
  by_cases h : (i 0).val < 2
  · rw [dif_pos h]
    refine (concatenate_pair_apply_left (t := Cert.Reference31Ideal.S16386x2048) (s₁ := Cert.Reference31Ideal.S2x2048)
      (s₂ := Cert.Reference31Ideal.S16384x2048) 0 _ _ _ i rfl (ix2 ⟨(i 0).val, h⟩ (i 1)) fun b => ?_).trans ?_
    · match b with
      | ⟨0, _⟩ => rfl
      | ⟨1, _⟩ => rfl
    rw [val_main_v5_apply]
    show Ideal.ofBits .f32 0x00000000#32 = 0
    simp [Ideal.ofBits, Ideal.ieee]
  · rw [dif_neg h]
    have : (i 0).val < 16386 := (i 0).isLt
    refine (concatenate_pair_apply_right (t := Cert.Reference31Ideal.S16386x2048) (s₁ := Cert.Reference31Ideal.S2x2048)
      (s₂ := Cert.Reference31Ideal.S16384x2048) 0 _ _ _ i rfl rfl
      (ix2 ⟨(i 0).val - 2, by omega⟩ (i 1)) (fun b hb => ?_) ?_).trans ?_
    · match b with
      | ⟨0, _⟩ => exact absurd rfl hb
      | ⟨1, _⟩ => rfl
    · show (i 0).val - 2 + 2 = (i 0).val
      omega
    rw [val_main_v4_apply, val_main_v2_apply, val_main_v0_apply]
    show x0 _ * x0 _ = x0 _ * x0 _
    congr 2 <;> exact funext fun b => Fin.ext (match b with | ⟨0, _⟩ => rfl | ⟨1, _⟩ => by simp [col])

/-- A row of the padded sequence that an entry reads. -/
def back (d : Nat) (hd : d ≤ 2) (j : S16384x2048.Idx) : Cert.Reference31Ideal.S16386x2048.Idx :=
  ix2 ⟨d + (j 0).val, by have : (j 0).val < 16384 := (j 0).isLt; omega⟩ (j 1)

theorem ref_gate (j : S16384x2048.Idx) :
    val_main_call0_v5 (F := Ideal) x0 j = gate (x0 (ix2 (j 0) (col 6144 (by omega) (j 1)))) := by
  rw [gate_eq, val_main_call0_v5_apply, val_main_call0_v4_apply, val_main_call0_v3_apply, val_main_call0_v2_apply,
    val_main_call0_v1_apply, val_main_call0_v0_apply, val_main_v3_apply]
  show Ideal.div (Ideal.ofBits .f32 0x3F800000#32) (Ideal.ofBits .f32 0x3F800000#32 + Ideal.exp (-x0 _)) = _
  refine congrArg (fun z => Ideal.div _ (_ + Ideal.exp (-z))) (congrArg x0 ?_)
  exact funext fun b : Fin 2 => Fin.ext (match b with | ⟨0, _⟩ => rfl | ⟨1, _⟩ => rfl)

theorem ref_apply (j : S16384x2048.Idx) : val_main_v30 (F := Ideal) x0 x1 j =
    x0 (ix2 (j 0) (col 2048 (by omega) (j 1)))
    * (prior x0 (back 0 (by omega) j) * x1 (ix2 0 (j 1)) + prior x0 (back 1 (by omega) j) * x1 (ix2 1 (j 1))
      + prior x0 (back 2 (by omega) j) * x1 (ix2 2 (j 1)))
    * (x0 (ix2 (j 0) (col 6144 (by omega) (j 1))) * gate (x0 (ix2 (j 0) (col 6144 (by omega) (j 1))))) := by
  pointwise [val_main_v30, val_main_v29, val_main_v28, val_main_v27, val_main_v26, val_main_v25, val_main_v24, val_main_v23, val_main_v22,
    val_main_v21, val_main_v19, val_main_v18, val_main_v17, val_main_v16, val_main_v15, val_main_v14, val_main_v12, val_main_v11,
    val_main_v10, val_main_v9, val_main_v8, val_main_v1, val_main_v3, val_main_v7, val_main_v13, val_main_v20]
  have e : (ix2 ⟨(j 0).val, by have : (j 0).val < 16384 := (j 0).isLt; omega⟩ (j 1) : Cert.Reference31Ideal.S16386x2048.Idx)
      = back 0 (by omega) j := by
    unfold back
    congr 1
    exact Fin.ext (Nat.zero_add _).symm
  simp only [prior_eq, ref_gate, e]
  rfl

variable (m : (ℓ : Loc nD τ sig) → Buf (Elt Ideal) ℓ)

theorem idx : ∀ t : Fin cfg0.N, (grid0.coords t 0).val = t.val ∧ win0_0.index t = ![t.val, 0] ∧ win0_1.index t = ![16 * t.val - 1, 0]
    ∧ win0_2.index t = ![0, 0] ∧ win0_3.index t = ![t.val, 0] :=
  (by decide +kernel : ∀ t : Fin grid0.N, _)

/-- The block's own rows. -/
theorem rows_apply (c : Dev nD) (t : Fin cfg0.N) (r : Fin 128) (k : Fin 8192) (n : Fin 16384) (hn : n.val = 128 * t.val + r.val) :
    (show FVec Ideal S128x8192 .f32 from iblk m c 0 t) (ix2 r k)
      = (show FVec Ideal S16384x8192 .f32 from m ((c : Thread nD τ).loc main_arg0)) (ix2 n k) := by
  have e := idx t
  blk_point [iblk, V, idx t, hn]

/-- The last eight rows of the block before. -/
theorem above_apply (c : Dev nD) (t : Fin cfg0.N) (r : Fin 8) (k : Fin 8192) (n : Fin 16384) (hn : n.val = 8 * (16 * t.val - 1) + r.val) :
    (show FVec Ideal S8x8192 .f32 from iblk m c 1 t) (ix2 r k)
      = (show FVec Ideal S16384x8192 .f32 from m ((c : Thread nD τ).loc main_arg0)) (ix2 n k) := by
  have e := idx t
  blk_point [iblk, V, idx t, hn]

/-- The taps, under which the host puts five rows of zeros. -/
theorem taps_apply (c : Dev nD) (t : Fin cfg0.N) (r : Fin 3) (q : Fin 8) (k : Fin 2048) (hq : q.val = r.val) :
    (show FVec Ideal S8x2048 .f32 from iblk m c 2 t) (ix2 q k)
      = (show FVec Ideal S3x2048 .f32 from m ((c : Thread nD τ).loc main_arg1)) (ix2 r k) := by
  have e := idx t
  have h : V m c main_v0 = (show FVec Ideal S8x2048 .f32 from pad S8x2048 ![0, 0] ![5, 0] ![0, 0]
      (show FVec Ideal S3x2048 .f32 from m ((c : Thread nD τ).loc main_arg1)) (sitofp (F := Ideal) .f32 (constantI S_ 32 0#32)) pads_S3x2048_S8x2048_050_000 h_S_) := rfl
  have p : (show FVec Ideal S8x2048 .f32 from iblk m c 2 t) (ix2 q k) = (show FVec Ideal S8x2048 .f32 from V m c main_v0) (ix2 q k) := by
    unfold iblk
    blk_point [idx t]
  rw [p, h]
  refine pad_apply_of_inside _ _ _ _ _ _ _ _ (ix2 r k) fun b => ?_
  match b with
  | ⟨0, _⟩ => show q.val = 0 + r.val * 1; omega
  | ⟨1, _⟩ => show k.val = 0 + k.val * 1; omega

/-- What an entry reads of the scratch is what the reference reads of the padded sequence. -/
theorem stretch_prior (c : Dev nD) (t : Fin cfg0.N) (d : Nat) (hd : d ≤ 2) (y : S128x2048.Idx) (j : S16384x2048.Idx)
    (h0 : (j 0).val = 128 * t.val + (y 0).val) (h1 : j 1 = y 1) :
    stretch (BitVec.ofNat 32 (grid0.coords t 0).val) (iblk m c 0 t) (iblk m c 1 t) (down (d + 6) (by omega) y)
      = prior (m ((c : Thread nD τ).loc main_arg0)) (back d hd j) := by
  have hy : (y 0).val < 128 := (y 0).isLt
  have hj : (j 0).val < 16384 := (j 0).isLt
  have ht : t.val < 128 := t.isLt
  have hc := (idx t).1
  have e1 : back d hd j 1 = y 1 := h1
  have a0 : (down (d + 6) (by omega) y 0).val = (y 0).val + (d + 6) := rfl
  have b0 : (back d hd j 0).val = d + (j 0).val := rfl
  unfold stretch prior
  by_cases h : (down (d + 6) (by omega) y 0).val < 8
  · rw [dif_pos h]
    by_cases hz : t.val = 0
    · rw [if_pos (by rw [hc, hz]), dif_pos (by omega)]
    · rw [if_neg, dif_neg (by omega)]
      · have hn : d + (j 0).val - 2 = 8 * (16 * t.val - 1) + ((y 0).val + (d + 6)) := by omega
        have p := fun k => above_apply m c t ⟨(y 0).val + (d + 6), h⟩ k ⟨d + (j 0).val - 2, by omega⟩ hn
        rw [e1]
        exact congrArg₂ (· * ·) (p (col 4096 (by omega) (y 1))) (p (col 0 (by omega) (y 1)))
      · intro hb
        have := congrArg BitVec.toNat hb
        rw [hc, BitVec.toNat_ofNat, Nat.mod_eq_of_lt (by omega)] at this
        exact hz this
  · rw [dif_neg h, dif_neg (by omega)]
    have hn : d + (j 0).val - 2 = 128 * t.val + ((y 0).val + (d + 6) - 8) := by omega
    have p := fun k => rows_apply m c t ⟨(y 0).val + (d + 6) - 8, by omega⟩ k ⟨d + (j 0).val - 2, by omega⟩ hn
    rw [e1]
    exact congrArg₂ (· * ·) (p (col 4096 (by omega) (y 1))) (p (col 0 (by omega) (y 1)))

/-- An entry of the block is the reference's entry. -/
theorem entry_eq (c : Dev nD) (t : Fin cfg0.N) (y : S128x2048.Idx) (j : S16384x2048.Idx)
    (h0 : (j 0).val = 128 * t.val + (y 0).val) (h1 : j 1 = y 1) :
    entry (BitVec.ofNat 32 (grid0.coords t 0).val) (iblk m c 0 t) (iblk m c 1 t) (iblk m c 2 t) y
      = val_main_v30 (F := Ideal) (m ((c : Thread nD τ).loc main_arg0)) (m ((c : Thread nD τ).loc main_arg1)) j := by
  rw [ref_apply, ← stretch_prior m c t 0 (by omega) y j h0 h1, ← stretch_prior m c t 1 (by omega) y j h0 h1,
    ← stretch_prior m c t 2 (by omega) y j h0 h1, h1]
  have p := fun k => rows_apply m c t (y 0) k (j 0) h0
  have q0 := taps_apply m c t 0 0 (y 1) rfl
  have q1 := taps_apply m c t 1 1 (y 1) rfl
  have q2 := taps_apply m c t 2 2 (y 1) rfl
  have p6 := p (col 6144 (by omega) (y 1))
  exact congrArg₂ (· * ·) (congrArg₂ (· * ·) (p (col 2048 (by omega) (y 1)))
    (congrArg₂ (· + ·) (congrArg₂ (· + ·) (congrArg (_ * ·) q0) (congrArg (_ * ·) q1)) (congrArg (_ * ·) q2)))
    (congrArg₂ (· * ·) p6 (congrArg gate p6))

theorem final (c : Dev nD) : (dats m 0 c).arrAt 3 cfg0.N = (show FVec Ideal S16384x2048 .bf16 from
    val_main_v30 (F := Ideal) (m ((c : Thread nD τ).loc main_arg0)) (m ((c : Thread nD τ).loc main_arg1))) := by
  refine (dats m 0 c).arrAt_eq_of_covers 3 _ (by decide +kernel) fun t hf y => ?_
  blk_simp
  rw [after0_3]
  unfold outsAt0
  frame_out
  change View.canon (written (BitVec.ofNat 32 (grid0.coords t 0).val) (iblk m c 0 t) (iblk m c 1 t) (iblk m c 2 t) 8 (le_refl 8)) y = _
  rw [written_apply]
  have e := idx t
  refine entry_eq m c t y _ ?_ (Fin.ext ?_)
  · blk_simp [idx t]
    omega
  · blk_simp [idx t]

end Cert.ShortConv

end

end
-- ==== Proof.ShortConvClaim.lean ====
/-
  The value claim of the short convolution.
-/
module

public import proofs.«01_k».proof.Defs
public import proofs.«01_k».proof.Proof.ShortConv

@[expose] public section

noncomputable section

open Idealize.ShloMosaic Idealize.ShloMosaic.TcCoe Idealize.SL.Sem

namespace Cert.ShortConvClaim

/-- The short convolution and its gates, before the output's projection. -/
theorem algebraic31 : Cert.algebraic_Kernel31Ideal_Reference31Ideal := fun m g m' g' _ h =>
  ⟨fun c => Cert.Reference31Ideal.Read.val_main_v30 (F := Ideal)
      (m ((c.tc : Thread Cert.Kernel31Ideal.nD Cert.Kernel31Ideal.τ).loc Cert.Kernel31Ideal.main_arg0))
      (m ((c.tc : Thread Cert.Kernel31Ideal.nD Cert.Kernel31Ideal.τ).loc Cert.Kernel31Ideal.main_arg1)),
    (θ_run _ _ _).mono (fun r hr c => ⟨(hr c).1.trans (ShortConv.final m c), (hr c).2⟩) (Cert.Kernel31Ideal.Value.run_blocks m g),
    (θ_run _ _ _).mono (fun r hr c => ⟨(hr c).1.trans ((Cert.Reference31Ideal.Read.val_main_v30_eq _ _).trans
      (by rw [(h c).1, (h c).2])), (hr c).2⟩) (Cert.Reference31Ideal.Value.run m' g')⟩

end Cert.ShortConvClaim

end

end
-- ==== Proof.ShortConvGrad.lean ====
module

public import proofs.«01_k».proof.Proof.Gen.Kernel28Ideal.Frame.RunA
public import proofs.«01_k».proof.Proof.Gen.Kernel28Ideal.Frame.RunB
public import Idealize.ShloMosaic.Lib.Claim

/-! The run of the short convolution's gradient. The rows are walked from the last block to the first; a scratch carries
the first rows of a block's convolution gradient to the block before it, and the taps' gradient is summed in place. What a
block leaves is a record (`Left`), and each block but the first is a function of the record before it (`later`). -/

@[expose] public section

set_option maxRecDepth 16384

noncomputable section

namespace Cert.ShortConvGrad

open Cert.Kernel28Ideal Cert.Kernel28Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem points (t : Fin cfg0.N) : t.val < 128 := lt_of_lt_of_eq t.isLt (show cfg0.N = 128 from N_0)

theorem is_first {t : Fin cfg0.N} (h : t.val = 0) : cond0_0 (grid0.coords t) :=
  (hcond0_0 t).mpr (by rw [h])

theorem not_first {t : Fin cfg0.N} (h : t.val ≠ 0) : ¬cond0_0 (grid0.coords t) := fun h' => by
  have h1 := (hcond0_0 t).mp h'
  have h2 := points t
  omega

/-- The run of the first block. -/
def firstRun (c : Dev nD) (t : Fin cfg0.N) (h : t.val = 0) :=
  kernelRun0_A c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _) (is_first h)
    (iblk m c 0 t) (iblk m c 1 t) (iblk m c 2 t) (iblk m c 3 t)

/-- The run of a later block, over the taps' gradient `g` so far and the carried rows `k`. -/
def laterRun (c : Dev nD) (t : Fin cfg0.N) (h : t.val ≠ 0) (g : Vec F S8x2048 .f32) (k : Vec F S136x2048 .f32) :=
  kernelRun0_B c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _) (not_first h)
    (iblk m c 0 t) (iblk m c 1 t) (iblk m c 2 t) (iblk m c 3 t) g k

/-- What a block leaves: its rows of the gradient of the projection, the taps' gradient so far, and the carried rows. -/
structure Left (F : FTy → Type) where
  rows : Vec F S128x8192 .bf16
  taps : Vec F S8x2048 .f32
  kept : Vec F S136x2048 .f32

/-- What the first block leaves. -/
def first (c : Dev nD) (t : Fin cfg0.N) (h : t.val = 0) : Left F where
  rows := VO0_4.read (Elt F) (VO0_4.writes (Elt F) VO0_4.junk (firstRun m c t h).1)
  taps := VO0_5.read (Elt F) (VO0_5.writes (Elt F) VO0_5.junk (firstRun m c t h).2.1)
  kept := VS0_1.read (Elt F) (VS0_1.writes (Elt F) VS0_1.junk (firstRun m c t h).2.2.1)

/-- What a later block leaves over what the block before it left. -/
def later (c : Dev nD) (t : Fin cfg0.N) (h : t.val ≠ 0) (p : Left F) : Left F where
  rows := VO0_4.read (Elt F) (VO0_4.writes (Elt F) VO0_4.junk (laterRun m c t h p.taps p.kept).1)
  taps := (ms0_5 t).view.read (Elt F) ((ms0_5 t).view.writes (Elt F) ((hs0_5 t).unread p.taps) (laterRun m c t h p.taps p.kept).2.1)
  kept := VS0_1.read (Elt F) (VS0_1.writes (Elt F) VS0_1.junk (laterRun m c t h p.taps p.kept).2.2.1)

/-- What the blocks up to the `n`th leave. -/
def left (c : Dev nD) : (n : ℕ) → n < cfg0.N → Left F
  | 0, hn => first m c ⟨0, hn⟩ rfl
  | n + 1, hn => later m c ⟨n + 1, hn⟩ (Nat.succ_ne_zero n) (left c n (Nat.lt_of_succ_lt hn))

theorem left_first (c : Dev nD) (t : Fin cfg0.N) (h : t.val = 0) : left m c t.val t.isLt = first m c t h := by
  obtain ⟨n, hn⟩ := t
  cases n with
  | zero => rw [left]
  | succ n => exact absurd h (Nat.succ_ne_zero n)

theorem left_later (c : Dev nD) (t : Fin cfg0.N) (h : t.val ≠ 0) :
    left m c t.val t.isLt = later m c t h (left m c (t.val - 1) (Nat.lt_of_le_of_lt (Nat.sub_le _ _) t.isLt)) := by
  obtain ⟨n, hn⟩ := t
  cases n with
  | zero => exact absurd rfl h
  | succ n => rw [left]; rfl

/-- What is held between blocks: before the first, anything; after it, the carried rows, and the other scratch at anything. -/
def between (c : Dev nD) : (n : ℕ) → n ≤ cfg0.N → sProp 𝕄
  | 0, _ => Pipeline.ΦA spec0 c
  | n + 1, hn => iprop(iprop((∃ d, owns (c : Thread nD τ) scM0_0 fullShare d)
      ∗ owns (c : Thread nD τ) scM0_1 fullShare (left m c n hn).kept) ∗ (∃ r, prngReg c r))

theorem between_zero (c : Dev nD) (n : ℕ) (h : n ≤ cfg0.N) (hz : n = 0) : between m c n h = Pipeline.ΦA spec0 c := by
  subst hz; rw [between]

theorem between_pos (c : Dev nD) (n : ℕ) (h : n ≤ cfg0.N) (hz : n ≠ 0) :
    between m c n h = iprop(iprop((∃ d, owns (c : Thread nD τ) scM0_0 fullShare d)
      ∗ owns (c : Thread nD τ) scM0_1 fullShare (left m c (n - 1) (by omega)).kept) ∗ (∃ r, prngReg c r)) := by
  cases n with
  | zero => exact absurd rfl hz
  | succ n => rw [between]; rfl

/-- The data of the pipeline: each input in place, the outputs and the scratch at what the block leaves. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (left m c t.val t.isLt).rows
    | ⟨5, _⟩ => (left m c t.val t.isLt).taps
  Φ t := between m c t.val (Nat.le_of_lt_succ t.isLt)
  q w := Pipeline.shareOf spec0 w
  owed _ := 0

theorem data_A (c : Dev nD) (w : Fin cfg0.W) : (data m 0 c).A w = V m c (Pipeline.arrRef spec0 w) := by
  dsimp only [data]

theorem data_before (c : Dev nD) (t : Fin cfg0.N) : (data m 0 c).Φ t.castSucc = between m c t.val (Nat.le_of_lt t.isLt) := by
  dsimp only [data]; exact Pipeline.Dat.Φ_castSucc (between m c) t

theorem after_rows (c : Dev nD) (t : Fin cfg0.N) : (data m 0 c).after 4 t = (left m c t.val t.isLt).rows := by dsimp only [data]
theorem after_taps (c : Dev nD) (t : Fin cfg0.N) : (data m 0 c).after 5 t = (left m c t.val t.isLt).taps := by dsimp only [data]

/-- A later block finds the taps' gradient as the block before it left it. -/
theorem before_taps (c : Dev nD) (t : Fin cfg0.N) (h : t.val ≠ 0) (d) :
    (data m 0 c).before 5 t d = (left m c (t.val - 1) (Nat.lt_of_le_of_lt (Nat.sub_le _ _) t.isLt)).taps := by
  have hN := points t
  rw [Dat.before_out_kept _ 5 rfl t h (Bool.eq_false_iff.mpr fun h => by have := (flush0_5 _).mp h; dsimp only at this; omega)
    (fun _ => rfl) (fun _ _ => rfl)]
  dsimp only [data]

/-- What the body is given at a point, -/
def given (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d)))

/-- and what it gives back. -/
def returned (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t))

/-- Each store of output 4 fills its own block, so together they fill the rows. -/
theorem first_rows_cover (c : Dev nD) (t : Fin cfg0.N) (h : t.val = 0) (y : S128x8192.Idx) : ∃ p ∈ (firstRun m c t h).1, y ∈ p.1.set :=
  View.cover_of_tiledL (firstRun m c t h).1 S128x256.size (by unfold firstRun; sl_kernel_rfl) y

theorem first_taps_cover (c : Dev nD) (t : Fin cfg0.N) (h : t.val = 0) (y : S8x2048.Idx) : ∃ p ∈ (firstRun m c t h).2.1, y ∈ p.1.set :=
  View.cover_of_tiledBy (firstRun m c t h).2.1 ![1, 256] (by unfold firstRun; sl_kernel_rfl) y

theorem first_kept_cover (c : Dev nD) (t : Fin cfg0.N) (h : t.val = 0) (y : S136x2048.Idx) : ∃ p ∈ (firstRun m c t h).2.2.1, y ∈ p.1.set :=
  View.cover_of_tiledBy (firstRun m c t h).2.2.1 ![8, 256] (by unfold firstRun; sl_kernel_rfl) y

theorem later_rows_cover (c : Dev nD) (t : Fin cfg0.N) (h : t.val ≠ 0) (g : Vec F S8x2048 .f32) (k : Vec F S136x2048 .f32) (y : S128x8192.Idx) :
    ∃ p ∈ (laterRun m c t h g k).1, y ∈ p.1.set :=
  View.cover_of_tiledL (laterRun m c t h g k).1 S128x256.size (by unfold laterRun; sl_kernel_rfl) y

theorem later_kept_cover (c : Dev nD) (t : Fin cfg0.N) (h : t.val ≠ 0) (g : Vec F S8x2048 .f32) (k : Vec F S136x2048 .f32) (y : S136x2048.Idx) :
    ∃ p ∈ (laterRun m c t h g k).2.2.1, y ∈ p.1.set :=
  View.cover_of_tiledBy (laterRun m c t h g k).2.2.1 ![8, 256] (by unfold laterRun; sl_kernel_rfl) y

/-- At a point the inputs hold their blocks, before and after. -/
theorem inputs (c : Dev nD) (t : Fin cfg0.N) : (∀ d, (data m 0 c).before 0 t d = iblk m c 0 t) ∧ (∀ d, (data m 0 c).before 1 t d = iblk m c 1 t)
    ∧ (∀ d, (data m 0 c).before 2 t d = iblk m c 2 t) ∧ (∀ d, (data m 0 c).before 3 t d = iblk m c 3 t) :=
  ⟨before0_0_of m (data m 0 c) (data_A m c 0) (fun _ => by dsimp only [data]) t,
    before0_1_of m (data m 0 c) (data_A m c 1) (fun _ => by dsimp only [data]) t,
    before0_2_of m (data m 0 c) (data_A m c 2) (fun _ => by dsimp only [data]) t,
    before0_3_of m (data m 0 c) (data_A m c 3) (fun _ => by dsimp only [data]) t⟩

theorem kept_after (c : Dev nD) (t : Fin cfg0.N) : (data m 0 c).Φ t.succ = iprop(iprop((∃ d, owns (c : Thread nD τ) scM0_0 fullShare d)
      ∗ owns (c : Thread nD τ) scM0_1 fullShare (left m c t.val t.isLt).kept) ∗ (∃ r, prngReg c r)) := by
  rw [show (data m 0 c).Φ t.succ = between m c (t.val + 1) t.isLt from rfl, between]

set_option maxHeartbeats 6400000 in
/-- The body at any point takes what it is given to what it returns. -/
theorem body_at (c : Dev nD) (t : Fin cfg0.N) :
    given m c t ⊢ wp frame (wpE (defs₀ (F := F)) Variants.none c none) Set.univ (bodyAt0 t) (fun _ => returned m c t) := by
  obtain ⟨i0, i1, i2, i3⟩ := inputs m c t
  unfold given returned bodyAt0
  simp only [i0, i1, i2, i3]
  rw [show (data m 0 c).owesAt () t.succ = (data m 0 c).owesAt () t.castSucc from rfl,
    show (data m 0 c).after 0 t = iblk m c 0 t by dsimp only [data], show (data m 0 c).after 1 t = iblk m c 1 t by dsimp only [data],
    show (data m 0 c).after 2 t = iblk m c 2 t by dsimp only [data], show (data m 0 c).after 3 t = iblk m c 3 t by dsimp only [data],
    after_rows, after_taps, kept_after, data_before]
  by_cases h : t.val = 0
  · rw [between_zero m c _ _ h, PhiA0_eq, left_first m c t h]
    iintro ⟨⟨⟨Hu, Hk⟩, Hg⟩, Ho, ⟨%d0, H0⟩, ⟨%d1, H1⟩, ⟨%d2, H2⟩, ⟨%d3, H3⟩, ⟨%d4, H4⟩, ⟨%d5, H5⟩⟩
    iapply ((firstRun m c t h).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [Hu]; · iexact Hu
    isplitl [Hk]; · iexact Hk
    iintro ⟨H0, H1, H2, H3, ⟨%e4, H4⟩, ⟨%e5, H5⟩, ⟨%fu, Hu⟩, ⟨%ek, Hk⟩⟩
    isplitl [Hu Hk Hg]
    · isplitl [Hu Hk]
      · isplitl [Hu]
        · iexists _; unfold owns; iexists _; isplitr
          swap; · iexact Hu
          ipureintro; rfl
        unfold owns; iexists _; isplitr
        swap; · iexact Hk
        ipureintro; dsimp only [first]; exact View.read_writes_of_cover _ _ _ _ _ (first_kept_cover m c t h)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; dsimp only [first]; exact View.read_writes_of_cover _ _ _ _ _ (first_rows_cover m c t h)
    unfold owns; iexists _; isplitr
    swap; · iexact H5
    ipureintro; dsimp only [first]; exact View.read_writes_of_cover _ _ _ _ _ (first_taps_cover m c t h)
  · rw [between_pos m c _ _ h, left_later m c t h]
    simp only [before_taps m c t h]
    iintro ⟨⟨⟨Hu, Hk⟩, Hg⟩, Ho, ⟨%d0, H0⟩, ⟨%d1, H1⟩, ⟨%d2, H2⟩, ⟨%d3, H3⟩, ⟨%d4, H4⟩, ⟨%d5, H5⟩⟩
    iapply ((laterRun m c t h _ _).2.2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [Hu]; · iexact Hu
    isplitl [Hk]; · iexact Hk
    iintro ⟨H0, H1, H2, H3, ⟨%e4, H4⟩, H5, ⟨%fu, Hu⟩, ⟨%ek, Hk⟩⟩
    isplitl [Hu Hk Hg]
    · isplitl [Hu Hk]
      · isplitl [Hu]
        · iexists _; unfold owns; iexists _; isplitr
          swap; · iexact Hu
          ipureintro; rfl
        unfold owns; iexists _; isplitr
        swap; · iexact Hk
        ipureintro; dsimp only [later]; exact View.read_writes_of_cover _ _ _ _ _ (later_kept_cover m c t h _ _)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; dsimp only [later]; exact View.read_writes_of_cover _ _ _ _ _ (later_rows_cover m c t h _ _)
    unfold owns; iexists _; isplitr
    swap; · iexact H5
    ipureintro; rfl

theorem body_row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, body_row]
  exact triple_restated (body_at m c t) rfl .rfl fun _ => .rfl

theorem enter (c : Dev nD) : Pipeline.ΦA spec0 c ⊢ (data m 0 c).Φ 0 := by
  rw [show (data m 0 c).Φ 0 = between m c 0 (Nat.zero_le _) from rfl, between_zero m c 0 _ rfl]

theorem leave (c : Dev nD) : (data m 0 c).Φ (Fin.last cfg0.N) ⊢ Pipeline.ΦA spec0 c := by
  have hN : (Fin.last cfg0.N).val ≠ 0 := by rw [Fin.val_last]; have : cfg0.N = 128 := N_0; omega
  rw [show (data m 0 c).Φ (Fin.last cfg0.N) = between m c (Fin.last cfg0.N).val (Nat.le_of_lt_succ (Fin.last cfg0.N).isLt) from rfl,
    between_pos m c _ _ hN, PhiA0_eq]
  iintro ⟨⟨Hu, Hk⟩, Hg⟩
  isplitl [Hu Hk]
  · isplitl [Hu]
    · iexact Hu
    iexists _; iexact Hk
  iexact Hg

set_option backward.isDefEq.respectTransparency.types false in
/-- Every execution ends, the arrays of the pipeline at what the data says and every counter at zero. -/
theorem run_quiescent : θ_run defs (onTc (τ := τ) (main (F := F))) (s₀ m ρ)
    (fun r => (Pipeline.FramePost cfgs (data m) 0 (V m)) r ∧ r.2.sem = fun _ => 0) :=
  Pipeline.θ_run_frame_track_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_A m) (hin := enter m) (hout := leave m)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (data m) (data_A m) ((θ_run defs _ _).mono (fun _ h => h.1) (run_quiescent m ρ))

/-- The same, with every counter at zero: the frame, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.ShortConvGrad

end
-- ==== Proof.ShortConvGradBits.lean ====
module

public import proofs.«01_k».proof.Defs
public import proofs.«01_k».proof.Proof.ShortConvGrad
public import proofs.«01_k».proof.Proof.Gen.Kernel28
public import proofs.«01_k».proof.Proof.Gen.Kernel28.Launch

/-! The run of the short convolution's gradient at the bit-exact reading: both programs have the same text, so the run over
any float values is the run of either. -/

@[expose] public section

set_option maxRecDepth 16384

namespace Cert.ShortConvGrad

open Idealize.ShloMosaic

/-- The kernels' bodies are the same in both programs. -/
theorem bodies {F : FTy → Type} [FloatOps F] : @Cert.Kernel28.defs₀ F _ Cert.Kernel28.Gen.facts
    = @Cert.Kernel28Ideal.defs₀ F _ Cert.Kernel28Ideal.Gen.facts := by
  unfold Cert.Kernel28.defs₀ Cert.Kernel28Ideal.defs₀
  refine congrArg Defs.onTc ?_
  funext l x
  match l, x with
  | 0, (t, s) => rfl
  | ⟨_ + 1, h⟩, _ => exact absurd h (Nat.not_lt.2 (Nat.le_add_left _ _))

/-- So are the tables of all that a program can call. -/
theorem tables {F : FTy → Type} [FloatOps F] : @Cert.Kernel28.defs F _ Cert.Kernel28.Gen.facts
    = @Cert.Kernel28Ideal.defs F _ Cert.Kernel28Ideal.Gen.facts :=
  congrArg (Pipeline.defs Cert.Kernel28Ideal.pcfgs) bodies

theorem frame_bits : Cert.quiescent_Kernel28 (hKernel28 := Cert.Kernel28.Gen.facts) := fun m ρ _ => by
  rw [tables]
  exact frame (F := Bits) m ρ

end Cert.ShortConvGrad
-- ==== Proof.Blocked.lean ====
/-
  The sum that an accumulated block holds at the last point of a run, for products whose contracted axis is cut into
  stretches.
-/
module

public import Idealize.ShloMosaic.Lib.Pipeline.ValueKit

@[expose] public section

namespace Cert.Blocked

open Idealize.ShloMosaic

/-- A block that the first point of every run of `J` points sets to its part plus `first`, and to which each other point
    of the run adds its part, holds at the run's last point `first` of the run's first point plus the sum of all the
    run's parts. -/
theorem at_last {N : ℕ} {ι : Type*} (f : (n : ℕ) → n < N → ι → EReal) (J : ℕ) [NeZero J] (first part : Fin N → ι → EReal)
    (h0 : ∀ t : Fin N, t.val % J = 0 → ∀ i, f t.val t.isLt i = part t i + first t i)
    (hs : ∀ t : Fin N, ¬t.val % J = 0 → ∀ i,
      f t.val t.isLt i = f (t.val - 1) (Nat.lt_of_le_of_lt (Nat.sub_le _ _) t.isLt) i + part t i)
    (t : Fin N) (hr : t.val % J = J - 1) (i : ι) :
    f t.val t.isLt i = first ⟨J * (t.val / J), lt_of_le_of_lt (Nat.mul_div_le _ _) t.isLt⟩ i
      + ∑ s : Fin J, part ⟨J * (t.val / J) + s.val, Pipeline.run_point_lt_of_flush t hr s⟩ i := by
  have key := Pipeline.eq_sum_fin_of_reset_step_apply_of_flush f J (fun _ => (0 : EReal))
    (fun t i => part t i + if t.val % J = 0 then first t i else 0)
    (fun t h i => by rw [h0 t h i, zero_add, if_pos h]) (fun t h i => by rw [hs t h i, if_neg h, add_zero]) t hr i
  rw [key, zero_add, Finset.sum_add_distrib, add_comm]
  congr 1
  have hJ : 0 < J := Nat.pos_of_ne_zero (NeZero.ne J)
  rw [Finset.sum_eq_single (⟨0, hJ⟩ : Fin J)]
  · simp
  · intro s _ hne
    rw [if_neg]
    intro h
    have hlt := s.isLt
    rw [Nat.mul_add_mod, Nat.mod_eq_of_lt hlt] at h
    exact hne (Fin.ext h)
  · intro h
    exact absurd (Finset.mem_univ _) h

end Cert.Blocked
-- ==== Proof.NormGradients.lean ====
/-
  The backward pass of the normalised residual sum: the gradient of the sum and, per device, those of the norm's two
  parameter rows.
-/
module

public import proofs.«01_k».proof.Proof.Blocked
public import proofs.«01_k».proof.Proof.Norm
public import proofs.«01_k».proof.Proof.Gen.Kernel29Ideal.Value
public import proofs.«01_k».proof.Proof.Gen.Reference29Ideal.Run
public import proofs.«01_k».proof.Proof.Gen.Reference29Ideal.Read

@[expose] public section

set_option maxRecDepth 16384

noncomputable section

open Idealize.ShloMosaic Idealize.ShloMosaic.TcCoe Idealize.SL.Sem
open Idealize.ShloMosaic.Pipeline (Dat)

namespace Cert.NormGradient

open Cert.Reference29Ideal (S16384 S16384x1)
open Cert.Kernel29Ideal Cert.Kernel29Ideal.Gen Cert.Reference29Ideal.Read Cert.Norm
variable (m : (ℓ : Loc nD τ sig) → Buf (Elt Ideal) ℓ)

/-! ### The kernel's payloads, entry by entry -/

theorem centre_apply (x y : FVec Ideal S512x1024 .f32) (j : S512x1024.Idx) :
    k0_pay6 (F := Ideal) x y j = centre (row x y (j 0)) (j 1) := by
  pointwise [k0_pay6]
  simp only [centre, row, ix2_eta]

theorem scale_apply (x y : FVec Ideal S512x1024 .f32) (j : S512x1.Idx) :
    k0_pay7 (F := Ideal) x y j = scale (row x y (j 0)) := by
  pointwise [k0_pay7]
  simp only [scale, spread, centre_apply]
  rfl

theorem hat_apply (x y : FVec Ideal S512x1024 .f32) (j : S512x1024.Idx) :
    k0_pay8 (F := Ideal) x y j = hat (row x y (j 0)) (j 1) := by
  pointwise [k0_pay8]
  simp only [hat, scale_apply, centre_apply]
  rfl

theorem change_apply (x y : FVec Ideal S512x1024 .f32) (g : FVec Ideal S1x1024 .f32) (z : FVec Ideal S512x1024 .f32)
    (j : S512x1024.Idx) : k0_pay1 (F := Ideal) (k0_pay9 x y g z) (k0_pay10 x y) j
      = grad (row x y (j 0)) (fun k => z (ix2 (j 0) k) * g (ix2 0 k)) (j 1) := by
  pointwise [k0_pay1, k0_pay9, k0_pay10]
  simp only [grad, scale_apply, hat_apply, ix2_eta]
  rfl

theorem zero_apply (j : S1x1024.Idx) : k0_pay2 (F := Ideal) j = 0 := by
  pointwise [k0_pay2]

theorem zero_apply' (j : S1x1024.Idx) : k0_pay3 (F := Ideal) j = 0 := by
  pointwise [k0_pay3]

theorem gain_apply (x y z : FVec Ideal S512x1024 .f32) (w : FVec Ideal S1x1024 .f32) (j : S1x1024.Idx) :
    k0_pay4 (F := Ideal) (k0_pay8 x y) z w j
      = w j + ∑ n : Fin 512, z (ix2 n (j 1)) * hat (row x y n) (j 1) := by
  pointwise [k0_pay4]
  simp only [hat_apply]
  rfl

theorem shift_apply (z : FVec Ideal S512x1024 .f32) (w : FVec Ideal S1x1024 .f32) (j : S1x1024.Idx) :
    k0_pay5 (F := Ideal) z w j = w j + ∑ n : Fin 512, z (ix2 n (j 1)) := by
  pointwise [k0_pay5]

/-! ### The reference's results, entry by entry -/

theorem ref_centre (x y : FVec Ideal S16384x1024 .f32) (j : S16384x1024.Idx) :
    val_main_v8 (F := Ideal) x y j = centre (row x y (j 0)) (j 1) := by
  pointwise [val_main_v8, val_main_v7, val_main_v6, val_main_v5, val_main_v4, val_main_v3, val_main_v2, val_main_v1, val_main_v0,
    val_main_cst, val_main_cst_0, val_main_cst_1]
  simp only [centre, row, ix2_eta]

theorem ref_centre' (x y : FVec Ideal S16384x1024 .f32) (j : S16384x1024.Idx) :
    val_main_v17 (F := Ideal) x y j = centre (row x y (j 0)) (j 1) :=
  ref_centre x y j

theorem ref_spread (x y : FVec Ideal S16384x1024 .f32) (j : S16384x1.Idx) :
    val_main_v19 (F := Ideal) x y j = spread (row x y (j 0)) := by
  pointwise [val_main_v19, val_main_v18, val_main_v15, val_main_v14, val_main_v13, val_main_v12, val_main_v9, val_main_cst_5,
    val_main_cst_4, val_main_cst_3]
  simp only [spread, ref_centre]
  rfl

theorem ref_scale (x y : FVec Ideal S16384x1024 .f32) (j : S16384x1.Idx) :
    val_main_v20 (F := Ideal) x y j = scale (row x y (j 0)) := by
  pointwise [val_main_v20]
  rw [ref_spread, scale]

theorem ref_hat (x y : FVec Ideal S16384x1024 .f32) (j : S16384x1024.Idx) :
    val_main_v25 (F := Ideal) x y j = hat (row x y (j 0)) (j 1) := by
  pointwise [val_main_v25, val_main_v24]
  simp only [hat, ref_centre', ref_scale]
  rfl

/-- The part of the cotangent that reaches the normalised row. -/
theorem ref_part (g : FVec Ideal S1024 .f32) (z : FVec Ideal S16384x1024 .f32) (j : S16384x1024.Idx) :
    val_main_v40 (F := Ideal) g z j = z j * g (ix1 (j 1)) := by
  pointwise [val_main_v40, val_main_v39, val_main_v32, val_main_v26]

theorem ref_fold (x y : FVec Ideal S16384x1024 .f32) (g : FVec Ideal S1024 .f32) (z : FVec Ideal S16384x1024 .f32)
    (j : S16384.Idx) : val_main_v53 (F := Ideal) x y g z j
      = fold (row x y (j 0)) (fun k => z (ix2 (j 0) k) * g (ix1 k)) := by
  pointwise [val_main_v53, val_main_v52, val_main_v51, val_main_v47, val_main_v44, val_main_v43, val_main_v42, val_main_v23,
    val_main_v22, val_main_v21, val_main_cst_14, val_main_cst_13,
    val_main_cst_11, val_main_cst_6]
  simp only [Fin.sum_univ_one, fold, ref_centre', ref_part, ref_scale, ref_spread]
  rfl

theorem ref_terms (x y : FVec Ideal S16384x1024 .f32) (g : FVec Ideal S1024 .f32) (z : FVec Ideal S16384x1024 .f32)
    (j : S16384x1024.Idx) : val_main_v46 (F := Ideal) x y g z j = (z j * g (ix1 (j 1))) * scale (row x y (j 0))
      ∧ val_main_v55 (F := Ideal) x y g z j = fold (row x y (j 0)) (fun k => z (ix2 (j 0) k) * g (ix1 k))
        * (Ideal.ofBits FTy.f32 0x40000000#32 * centre (row x y (j 0)) (j 1)) := by
  constructor
  · pointwise [val_main_v46, val_main_v45]
    rw [ref_part, ref_scale]
    rfl
  · pointwise [val_main_v55, val_main_v54, val_main_v11, val_main_v10, val_main_cst_2]
    rw [ref_fold, ref_centre]
    rfl

theorem ref_change (x y : FVec Ideal S16384x1024 .f32) (g : FVec Ideal S1024 .f32) (z : FVec Ideal S16384x1024 .f32)
    (j : S16384x1024.Idx) : val_main_v65 (F := Ideal) x y g z j
      = chain (row x y (j 0)) (fun k => z (ix2 (j 0) k) * g (ix1 k)) (j 1) := by
  pointwise [val_main_v65, val_main_v64, val_main_v63, val_main_v62, val_main_v61, val_main_v60, val_main_v59, val_main_v58,
    val_main_v57, val_main_v56, val_main_v50, val_main_v49, val_main_v48, val_main_cst_16, val_main_cst_17, val_main_cst_15,
    val_main_cst_12]
  simp only [Fin.sum_univ_one, chain, (ref_terms x y g z _).1, (ref_terms x y g z _).2, ix2_eta]
  rfl

theorem ref_gain (x y z : FVec Ideal S16384x1024 .f32) (j : S1x1024.Idx) : val_main_v66 (F := Ideal) x y z j
    = ∑ n : Fin 16384, hat (row x y n) (j 1) * z (ix2 n (j 1)) := by
  pointwise [val_main_v66, val_main_v41, val_main_v38, val_main_v37, val_main_v36, val_main_v32, val_main_cst_9, val_main_cst_10]
  simp only [Fin.sum_univ_one, ref_hat]
  rfl

theorem ref_shift (z : FVec Ideal S16384x1024 .f32) (j : S1x1024.Idx) : val_main_v67 (F := Ideal) z j
    = ∑ n : Fin 16384, z (ix2 n (j 1)) := by
  pointwise [val_main_v67, val_main_v35, val_main_v34, val_main_v33, val_main_cst_8, val_main_cst_7]
  rw [Fin.sum_univ_one]

/-! ### The result arrays after the run -/

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

/-- The gradient of the residual sum, where the norm's gain and the cotangent are finite. -/
theorem change_final (c : Dev nD) (hf : ∀ j, val_main_v40 (F := Ideal) (m ((c : Thread nD τ).loc main_arg2))
      (m ((c : Thread nD τ).loc main_arg4)) j ≠ ⊤
    ∧ val_main_v40 (F := Ideal) (m ((c : Thread nD τ).loc main_arg2)) (m ((c : Thread nD τ).loc main_arg4)) j ≠ ⊥) :
    (dats m 0 c).arrAt 4 cfg0.N = (show FVec Ideal S16384x1024 .f32 from
      val_main_v65 (F := Ideal) (m ((c : Thread nD τ).loc main_arg0)) (m ((c : Thread nD τ).loc main_arg1))
        (m ((c : Thread nD τ).loc main_arg2)) (m ((c : Thread nD τ).loc main_arg4))) := by
  refine (dats m 0 c).arrAt_eq_of_covers 4 _ (by decide +kernel) fun t _ y => ?_
  blk_simp
  rw [after0_4, show (outsAt0 m c t.val t.isLt).1 y = k0_pay1 (F := Ideal) (k0_pay9 (iblk m c 0 t) (iblk m c 1 t)
      (iblk m c 2 t) (iblk m c 3 t)) (k0_pay10 (iblk m c 0 t) (iblk m c 1 t)) y from by
    by_cases h : t.val % 32 = 0
    · rw [outsAt0_A m c t h]; unfold out0_A_4; frame_out
    · rw [outsAt0_B m c t h]; unfold out0_B_4; frame_out]
  have hf' := fun (n : Fin 16384) (k : Fin 1024) => hf (ix2 n k)
  simp only [ref_part] at hf'
  rw [change_apply, ref_change]
  refine Eq.trans ?_ (chain_eq_grad _ _ _ fun k => hf' _ k).symm
  have e := idx t
  congr 1
  · funext k
    unfold row
    blk_point [iblk, V, idx t]
  · funext k
    blk_point [iblk, V, idx t]
  · apply Fin.ext
    blk_simp [idx t]

/-- The gradient of the norm's gain, summed over the device's rows. -/
theorem gain_final (c : Dev nD) : (dats m 0 c).arrAt 5 cfg0.N = (show FVec Ideal S1x1024 .f32 from
    val_main_v66 (F := Ideal) (m ((c : Thread nD τ).loc main_arg0)) (m ((c : Thread nD τ).loc main_arg1))
      (m ((c : Thread nD τ).loc main_arg4))) := by
  refine (dats m 0 c).arrAt_eq_of_covers 5 _ (by decide +kernel) fun t hf y => ?_
  blk_simp
  have hr : t.val % 32 = 31 := (flush0_5 t).mp hf
  rw [after0_5, Blocked.at_last (fun n h => (outsAt0 m c n h).2.1) 32 (fun _ _ => 0)
    (fun t j => ∑ n : Fin 512, (show FVec Ideal S512x1024 .f32 from iblk m c 3 t) (ix2 n (j 1))
      * hat (row (show FVec Ideal S512x1024 .f32 from iblk m c 0 t) (show FVec Ideal S512x1024 .f32 from iblk m c 1 t) n) (j 1))
    (fun t h j => by rw [outsAt0_A m c t h]; unfold out0_A_5; frame_out; rw [gain_apply, zero_apply, zero_add, add_zero])
    (fun t h j => by rw [outsAt0_B m c t h]; unfold out0_B_5; frame_out; rw [gain_apply])
    t hr _, zero_add, ref_gain]
  have e := idx t
  refine Fin.sum_mul_add_congr fun s k hl => ?_
  rw [mul_comm]
  congr 1
  · congr 1
    · funext l
      unfold row
      blk_point [iblk, V, idx t, idx ⟨_, Pipeline.run_point_lt_of_flush t hr s⟩]
    · apply Fin.ext
      blk_simp [idx t]
  · blk_point [iblk, V, idx t, idx ⟨_, Pipeline.run_point_lt_of_flush t hr s⟩]

/-- The gradient of the norm's shift, summed over the device's rows. -/
theorem shift_final (c : Dev nD) : (dats m 0 c).arrAt 6 cfg0.N = (show FVec Ideal S1x1024 .f32 from
    val_main_v67 (F := Ideal) (m ((c : Thread nD τ).loc main_arg4))) := by
  refine (dats m 0 c).arrAt_eq_of_covers 6 _ (by decide +kernel) fun t hf y => ?_
  blk_simp
  have hr : t.val % 32 = 31 := (flush0_6 t).mp hf
  rw [after0_6, Blocked.at_last (fun n h => (outsAt0 m c n h).2.2) 32 (fun _ _ => 0)
    (fun t j => ∑ n : Fin 512, (show FVec Ideal S512x1024 .f32 from iblk m c 3 t) (ix2 n (j 1)))
    (fun t h j => by rw [outsAt0_A m c t h]; unfold out0_A_6; frame_out; rw [shift_apply, zero_apply', zero_add, add_zero])
    (fun t h j => by rw [outsAt0_B m c t h]; unfold out0_B_6; frame_out; rw [shift_apply])
    t hr _, zero_add, ref_shift]
  have e := idx t
  refine Fin.sum_mul_add_congr fun s k hl => ?_
  blk_point [iblk, V, idx t, idx ⟨_, Pipeline.run_point_lt_of_flush t hr s⟩]

end Cert.NormGradient
-- ==== Proof.NormLoss.lean ====
/-
  The loss head and, in the same pass, the gradient of the normalised residual sum that feeds it.
-/
module

public import proofs.«01_k».proof.Proof.NormGradients
public import proofs.«01_k».proof.Proof.Gen.Kernel30Ideal.Value
public import proofs.«01_k».proof.Proof.Gen.Reference30Ideal.Run
public import proofs.«01_k».proof.Proof.Gen.Reference30Ideal.Read

@[expose] public section

set_option maxRecDepth 16384

noncomputable section

open Idealize.ShloMosaic Idealize.ShloMosaic.TcCoe Idealize.SL.Sem
open Idealize.ShloMosaic.Pipeline (Dat)

namespace Cert.NormLoss

open Cert.Kernel30Ideal Cert.Kernel30Ideal.Gen Cert.Reference30Ideal.Read Cert.Norm
variable (m : (ℓ : Loc nD τ sig) → Buf (Elt Ideal) ℓ)

theorem half : Ideal.ofBits FTy.f32 0x3F000000#32 = ((1 / 2 : ℝ) : EReal) := by
  simp [Ideal.ofBits, Ideal.ieee, -EReal.coe_mul]; norm_num

theorem per_entry : Ideal.ofBits FTy.f32 0x3A800000#32 = ((1 / 1024 : ℝ) : EReal) := by
  simp [Ideal.ofBits, Ideal.ieee, -EReal.coe_mul]; norm_num

/-- The halved derivative of the mean of squares, written out by the chain rule, is the error over the row's width. -/
theorem slope (e : EReal) : Ideal.div (Ideal.ofBits FTy.f32 0x3F000000#32)
      (Ideal.ofBits FTy.f32 0x44800000#32) * (Ideal.ofBits FTy.f32 0x40000000#32 * e)
    = e * Ideal.ofBits FTy.f32 0x3A800000#32 := by
  rw [half, width, two, per_entry, Ideal.div_coe (by norm_num), ← mul_assoc, ← EReal.coe_mul, ← EReal.coe_mul, mul_comm]
  norm_num

/-- A real factor that isn't negative distributes over a finite sum. -/
theorem mul_sum {n : ℕ} (a : ℝ) (ha : 0 ≤ a) (f : Fin n → EReal) : (a : EReal) * ∑ k, f k = ∑ k, (a : EReal) * f k :=
  map_sum (⟨⟨fun x => (a : EReal) * x, mul_zero _⟩, fun x y =>
    EReal.left_distrib_of_nonneg_of_ne_top (EReal.coe_nonneg.mpr ha) (EReal.coe_ne_top a) x y⟩ : EReal →+ EReal) f Finset.univ

/-- What a row adds to the loss before it is halved: the mean of its squared errors. -/
def miss (e : Fin 1024 → EReal) : EReal := Ideal.div (∑ k, e k * e k) (Ideal.ofBits FTy.f32 0x44800000#32)

/-- The error of a row's entry. -/
def err (r g b t : Fin 1024 → EReal) (k : Fin 1024) : EReal := hat r k * g k + b k - t k

/-! ### The kernel's payloads, entry by entry -/

theorem hat_apply (x y : FVec Ideal S512x1024 .f32) (j : S512x1024.Idx) :
    k0_pay4 (F := Ideal) x y j = hat (row x y (j 0)) (j 1) :=
  NormGradient.hat_apply x y j

theorem err_apply (x y : FVec Ideal S512x1024 .f32) (g b : FVec Ideal S1x1024 .f32) (t : FVec Ideal S512x1024 .f32)
    (j : S512x1024.Idx) : k0_pay6 (F := Ideal) x y g b t j
      = err (row x y (j 0)) (fun k => g (ix2 0 k)) (fun k => b (ix2 0 k)) (fun k => t (ix2 (j 0) k)) (j 1) := by
  pointwise [k0_pay6, k0_pay5]
  simp only [err, hat_apply, ix2_eta]

theorem part_apply (x y : FVec Ideal S512x1024 .f32) (g b : FVec Ideal S1x1024 .f32) (t : FVec Ideal S512x1024 .f32)
    (j : S512x1024.Idx) : k0_pay7 (F := Ideal) x y g b t j
      = err (row x y (j 0)) (fun k => g (ix2 0 k)) (fun k => b (ix2 0 k)) (fun k => t (ix2 (j 0) k)) (j 1)
        * Ideal.ofBits FTy.f32 0x3A800000#32 := by
  pointwise [k0_pay7]
  rw [err_apply]

theorem change_apply (x y : FVec Ideal S512x1024 .f32) (g : FVec Ideal S1x1024 .f32) (z : FVec Ideal S512x1024 .f32)
    (j : S512x1024.Idx) : k0_pay10 (F := Ideal) (k0_pay3 x y) (k0_pay4 x y) (k0_pay5 g) z j
      = grad (row x y (j 0)) (fun k => z (ix2 (j 0) k) * g (ix2 0 k)) (j 1) :=
  NormGradient.change_apply x y g z j

theorem loss_apply (x y : FVec Ideal S512x1024 .f32) (g b : FVec Ideal S1x1024 .f32) (t : FVec Ideal S512x1024 .f32)
    (w : FVec Ideal S1x128 .f32) (j : S1x128.Idx) :
    k0_pay1 (F := Ideal) (k0_pay9 (k0_pay8 x y g b t)) w j
      = w j + Ideal.ofBits FTy.f32 0x3F000000#32 * ∑ n : Fin 512,
        miss (err (row x y n) (fun k => g (ix2 0 k)) (fun k => b (ix2 0 k)) fun k => t (ix2 n k)) := by
  pointwise [k0_pay1, k0_pay9, k0_pay8]
  simp only [miss, err_apply]
  rfl

theorem gain_apply (x y z : FVec Ideal S512x1024 .f32) (w : FVec Ideal S1x1024 .f32) (j : S1x1024.Idx) :
    k0_pay14 (F := Ideal) (k0_pay4 x y) z w j
      = w j + ∑ n : Fin 512, z (ix2 n (j 1)) * hat (row x y n) (j 1) :=
  NormGradient.gain_apply x y z w j

theorem shift_apply (z : FVec Ideal S512x1024 .f32) (w : FVec Ideal S1x1024 .f32) (j : S1x1024.Idx) :
    k0_pay15 (F := Ideal) z w j = w j + ∑ n : Fin 512, z (ix2 n (j 1)) :=
  NormGradient.shift_apply z w j

theorem zeros (j : S1x1024.Idx) (i : S1x128.Idx) :
    k0_pay11 (F := Ideal) j = 0 ∧ k0_pay12 (F := Ideal) j = 0 ∧ k0_pay13 (F := Ideal) i = 0 :=
  ⟨by pointwise [k0_pay11], by pointwise [k0_pay12], by pointwise [k0_pay13]⟩

/-! ### The reference's results, entry by entry -/

theorem ref_hat (x y : FVec Ideal S16384x1024 .f32) :
    val_main_v25 (F := Ideal) x y = Cert.Reference29Ideal.Read.val_main_v25 (F := Ideal) x y := rfl

theorem ref_err (x y : FVec Ideal S16384x1024 .f32) (g b : FVec Ideal Cert.Reference30Ideal.S1024 .f32) (t : FVec Ideal S16384x1024 .f32)
    (j : S16384x1024.Idx) : val_main_v32 (F := Ideal) x y g b t j
      = err (row x y (j 0)) (fun k => g (ix1 k)) (fun k => b (ix1 k)) (fun k => t (ix2 (j 0) k)) (j 1) := by
  pointwise [val_main_v32, val_main_v31, val_main_v30, val_main_v29, val_main_v28, val_main_v27, val_main_v26]
  simp only [err, ref_hat, NormGradient.ref_hat, ix2_eta]

/-- The part of the loss's gradient that reaches the norm. -/
theorem ref_part (x y : FVec Ideal S16384x1024 .f32) (g b : FVec Ideal Cert.Reference30Ideal.S1024 .f32) (t : FVec Ideal S16384x1024 .f32)
    (j : S16384x1024.Idx) : val_main_v46 (F := Ideal) x y g b t j
      = err (row x y (j 0)) (fun k => g (ix1 k)) (fun k => b (ix1 k)) (fun k => t (ix2 (j 0) k)) (j 1)
        * Ideal.ofBits FTy.f32 0x3A800000#32 := by
  pointwise [val_main_v46, val_main_v45, val_main_v44, val_main_v43, val_main_v42, val_main_v41, val_main_v35, val_main_v34,
    val_main_cst_7, val_main_cst_12, val_main_cst_13, val_main_cst_14]
  rw [ref_err]
  exact slope _

/-- Past the loss head the reference is the norm's backward pass, with the loss's gradient for its cotangent. -/
theorem ref_change (x y : FVec Ideal S16384x1024 .f32) (g b : FVec Ideal Cert.Reference30Ideal.S1024 .f32)
    (t : FVec Ideal S16384x1024 .f32) : val_main_v79 (F := Ideal) x y g b t
      = Cert.Reference29Ideal.Read.val_main_v65 (F := Ideal) x y g (val_main_v46 (F := Ideal) x y g b t) := by
  have e : val_main_v54 (F := Ideal) x y g b t
      = Cert.Reference29Ideal.Read.val_main_v40 (F := Ideal) g (val_main_v46 (F := Ideal) x y g b t) := by
    funext j
    rw [NormGradient.ref_part]
    pointwise [val_main_v54, val_main_v53, val_main_v26]
  unfold val_main_v79 val_main_v78 val_main_v77 val_main_v76 val_main_v74 val_main_v73 val_main_v72 val_main_v71
    val_main_v70 val_main_v69 val_main_v68 val_main_v67 val_main_v66 val_main_v64 val_main_v63 val_main_v62 val_main_v61
    val_main_v60 val_main_v58 val_main_v57 val_main_v56
  rw [e]
  rfl

theorem ref_gain (x y : FVec Ideal S16384x1024 .f32) (g b : FVec Ideal Cert.Reference30Ideal.S1024 .f32)
    (t : FVec Ideal S16384x1024 .f32) (j : S1x1024.Idx) : val_main_v80 (F := Ideal) x y g b t j
      = ∑ n : Fin 16384, hat (row x y n) (j 1) * val_main_v46 (F := Ideal) x y g b t (ix2 n (j 1)) := by
  pointwise [val_main_v80, val_main_v55, val_main_v52, val_main_v51, val_main_v50, val_main_cst_17, val_main_cst_18]
  simp only [Fin.sum_univ_one, ref_hat, NormGradient.ref_hat]
  rfl

theorem ref_shift (x y : FVec Ideal S16384x1024 .f32) (g b : FVec Ideal Cert.Reference30Ideal.S1024 .f32)
    (t : FVec Ideal S16384x1024 .f32) (j : S1x1024.Idx) : val_main_v81 (F := Ideal) x y g b t j
      = ∑ n : Fin 16384, val_main_v46 (F := Ideal) x y g b t (ix2 n (j 1)) := by
  pointwise [val_main_v81, val_main_v49, val_main_v48, val_main_v47, val_main_cst_15, val_main_cst_16]
  rw [Fin.sum_univ_one]

theorem ref_loss (x y : FVec Ideal S16384x1024 .f32) (g b : FVec Ideal Cert.Reference30Ideal.S1024 .f32) (t : FVec Ideal S16384x1024 .f32)
    (j : S1x128.Idx) : val_main_v82 (F := Ideal) x y g b t j
      = ∑ n : Fin 16384, Ideal.ofBits FTy.f32 0x3F000000#32
        * miss (err (row x y n) (fun k => g (ix1 k)) (fun k => b (ix1 k)) fun k => t (ix2 n k)) := by
  pointwise [val_main_v82, val_main_v40, val_main_v39, val_main_v38, val_main_v37, val_main_v36, val_main_v33, val_main_cst_8,
    val_main_cst_9, val_main_cst_10, val_main_cst_11]
  simp only [miss, ref_err]
  rw [half]
  exact mul_sum _ (by norm_num) _

/-! ### The result arrays after the run -/

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0] ∧ win0_8.index t = ![0, 0] :=
  (by decide +kernel : ∀ t : Fin grid0.N, _)

/-- A block's rows are those of the arrays. -/
theorem row_block (c : Dev nD) (t : Fin cfg0.N) (n : Fin 512) (N : Fin 16384) (h : N.val = t.val * 512 + n.val) :
    row (show FVec Ideal S512x1024 .f32 from iblk m c 0 t) (show FVec Ideal S512x1024 .f32 from iblk m c 1 t) n
      = row (show FVec Ideal S16384x1024 .f32 from m ((c : Thread nD τ).loc main_arg0))
          (show FVec Ideal S16384x1024 .f32 from m ((c : Thread nD τ).loc main_arg1)) N := by
  have e := idx t
  funext k
  unfold row
  blk_point [iblk, V, idx t, h]

/-- A block's errors are those of the array's rows that it holds. -/
theorem err_block (c : Dev nD) (t : Fin cfg0.N) (n : Fin 512) (N : Fin 16384) (h : N.val = t.val * 512 + n.val) :
    err (row (show FVec Ideal S512x1024 .f32 from iblk m c 0 t) (show FVec Ideal S512x1024 .f32 from iblk m c 1 t) n)
        (fun k => (show FVec Ideal S1x1024 .f32 from iblk m c 2 t) (ix2 0 k))
        (fun k => (show FVec Ideal S1x1024 .f32 from iblk m c 3 t) (ix2 0 k))
        (fun k => (show FVec Ideal S512x1024 .f32 from iblk m c 4 t) (ix2 n k))
      = err (row (show FVec Ideal S16384x1024 .f32 from m ((c : Thread nD τ).loc main_arg0))
          (show FVec Ideal S16384x1024 .f32 from m ((c : Thread nD τ).loc main_arg1)) N)
        (fun k => (show FVec Ideal Cert.Reference30Ideal.S1024 .f32 from m ((c : Thread nD τ).loc main_arg2)) (ix1 k))
        (fun k => (show FVec Ideal Cert.Reference30Ideal.S1024 .f32 from m ((c : Thread nD τ).loc main_arg3)) (ix1 k))
        (fun k => (show FVec Ideal S16384x1024 .f32 from m ((c : Thread nD τ).loc main_arg4)) (ix2 N k)) := by
  have e := idx t
  congr 1
  · exact row_block m c t n N h
  · funext k
    blk_point [iblk, V, idx t]
  · funext k
    blk_point [iblk, V, idx t]
  · funext k
    blk_point [iblk, V, idx t, h]

/-- A block's part of the loss's gradient is the array's. -/
theorem part_block (c : Dev nD) (t : Fin cfg0.N) (n : Fin 512) (N : Fin 16384) (h : N.val = t.val * 512 + n.val)
    (k : Fin 1024) : k0_pay7 (F := Ideal) (iblk m c 0 t) (iblk m c 1 t) (iblk m c 2 t) (iblk m c 3 t) (iblk m c 4 t) (ix2 n k)
      = val_main_v46 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (ix2 N k) := by
  rw [part_apply, ref_part]
  exact congrArg (fun e => e k * Ideal.ofBits FTy.f32 0x3A800000#32) (err_block m c t n N h)

/-- What a grid point leaves in its block of the gradient. -/
theorem change_point (c : Dev nD) (t : Fin cfg0.N) : (outsAt0 m c t.val t.isLt).1
    = k0_pay10 (F := Ideal) (k0_pay3 (iblk m c 0 t) (iblk m c 1 t)) (k0_pay4 (iblk m c 0 t) (iblk m c 1 t))
      (k0_pay5 (iblk m c 2 t))
      (k0_pay7 (iblk m c 0 t) (iblk m c 1 t) (iblk m c 2 t) (iblk m c 3 t) (iblk m c 4 t)) := by
  funext y
  by_cases h : t.val % 32 = 0
  · rw [outsAt0_A m c t h]; unfold out0_A_5; frame_out
  · rw [outsAt0_B m c t h]; unfold out0_B_5; frame_out

/-- An entry of a block, and of the array that the block is a part of. -/
theorem grad_block (c : Dev nD) (t : Fin cfg0.N) (n : Fin 512) (N : Fin 16384) (h : N.val = t.val * 512 + n.val)
    (k : Fin 1024) : grad (row (show FVec Ideal S512x1024 .f32 from iblk m c 0 t)
          (show FVec Ideal S512x1024 .f32 from iblk m c 1 t) n)
        (fun l => k0_pay7 (F := Ideal) (iblk m c 0 t) (iblk m c 1 t) (iblk m c 2 t) (iblk m c 3 t) (iblk m c 4 t) (ix2 n l)
          * (show FVec Ideal S1x1024 .f32 from iblk m c 2 t) (ix2 0 l)) k
      = grad (row (show FVec Ideal S16384x1024 .f32 from m ((c : Thread nD τ).loc main_arg0))
          (show FVec Ideal S16384x1024 .f32 from m ((c : Thread nD τ).loc main_arg1)) N)
        (fun l => val_main_v46 (F := Ideal) (m ((c : Thread nD τ).loc main_arg0)) (m ((c : Thread nD τ).loc main_arg1))
            (m ((c : Thread nD τ).loc main_arg2)) (m ((c : Thread nD τ).loc main_arg3))
            (m ((c : Thread nD τ).loc main_arg4)) (ix2 N l)
          * (show FVec Ideal Cert.Reference30Ideal.S1024 .f32 from m ((c : Thread nD τ).loc main_arg2)) (ix1 l)) k := by
  have e := idx t
  congr 1
  · exact row_block m c t n N h
  · funext l
    rw [part_block m c t n N h l]
    congr 1
    blk_point [iblk, V, idx t]

/-- Each grid point adds its rows' part to the gain's gradient, from zero at the first. -/
theorem gain_point (c : Dev nD) (t : Fin cfg0.N) (j : S1x1024.Idx) : (outsAt0 m c t.val t.isLt).2.1 j
    = (if h : t.val % 32 = 0 then 0 else
        (outsAt0 m c (t.val - 1) (Nat.lt_of_le_of_lt (Nat.sub_le _ _) t.isLt)).2.1 j)
      + ∑ n : Fin 512, k0_pay7 (F := Ideal) (iblk m c 0 t) (iblk m c 1 t) (iblk m c 2 t) (iblk m c 3 t)
        (iblk m c 4 t) (ix2 n (j 1))
      * hat (row (show FVec Ideal S512x1024 .f32 from iblk m c 0 t) (show FVec Ideal S512x1024 .f32 from iblk m c 1 t) n) (j 1) := by
  by_cases h : t.val % 32 = 0
  · rw [dif_pos h, outsAt0_A m c t h]; unfold out0_A_6; frame_out; rw [gain_apply, (zeros j (ix2 0 0)).1]
  · rw [dif_neg h, outsAt0_B m c t h]; unfold out0_B_6; frame_out; rw [gain_apply]

theorem shift_point (c : Dev nD) (t : Fin cfg0.N) (j : S1x1024.Idx) : (outsAt0 m c t.val t.isLt).2.2.1 j
    = (if h : t.val % 32 = 0 then 0 else
        (outsAt0 m c (t.val - 1) (Nat.lt_of_le_of_lt (Nat.sub_le _ _) t.isLt)).2.2.1 j)
      + ∑ n : Fin 512, k0_pay7 (F := Ideal) (iblk m c 0 t) (iblk m c 1 t) (iblk m c 2 t) (iblk m c 3 t)
        (iblk m c 4 t) (ix2 n (j 1)) := by
  by_cases h : t.val % 32 = 0
  · rw [dif_pos h, outsAt0_A m c t h]; unfold out0_A_7; frame_out; rw [shift_apply, (zeros j (ix2 0 0)).2.1]
  · rw [dif_neg h, outsAt0_B m c t h]; unfold out0_B_7; frame_out; rw [shift_apply]

/-- The gradient of the residual sum, where the part of the loss's gradient that reaches the normalised row is finite. -/
theorem change_final (c : Dev nD) (hf : ∀ j, Cert.Reference29Ideal.Read.val_main_v40 (F := Ideal)
        (m ((c : Thread nD τ).loc main_arg2)) (val_main_v46 (F := Ideal) (m ((c : Thread nD τ).loc main_arg0))
          (m ((c : Thread nD τ).loc main_arg1)) (m ((c : Thread nD τ).loc main_arg2)) (m ((c : Thread nD τ).loc main_arg3))
          (m ((c : Thread nD τ).loc main_arg4))) j ≠ ⊤
      ∧ Cert.Reference29Ideal.Read.val_main_v40 (F := Ideal)
        (m ((c : Thread nD τ).loc main_arg2)) (val_main_v46 (F := Ideal) (m ((c : Thread nD τ).loc main_arg0))
          (m ((c : Thread nD τ).loc main_arg1)) (m ((c : Thread nD τ).loc main_arg2)) (m ((c : Thread nD τ).loc main_arg3))
          (m ((c : Thread nD τ).loc main_arg4))) j ≠ ⊥) :
    (dats m 0 c).arrAt 5 cfg0.N = (show FVec Ideal S16384x1024 .f32 from
      val_main_v79 (F := Ideal) (m ((c : Thread nD τ).loc main_arg0)) (m ((c : Thread nD τ).loc main_arg1))
        (m ((c : Thread nD τ).loc main_arg2)) (m ((c : Thread nD τ).loc main_arg3))
        (m ((c : Thread nD τ).loc main_arg4))) := by
  refine (dats m 0 c).arrAt_eq_of_covers 5 _ (by decide +kernel) fun t _ y => ?_
  blk_simp
  rw [after0_5, change_point]
  have hf' := fun (n : Fin 16384) (k : Fin 1024) => hf (ix2 n k)
  simp only [NormGradient.ref_part] at hf'
  rw [change_apply, ref_change, NormGradient.ref_change]
  refine Eq.trans ?_ (chain_eq_grad _ _ _ fun k => hf' _ k).symm
  have e := idx t
  have hk : y 1 = (win0_5.blk t).view.emb y 1 := by
    apply Fin.ext
    blk_simp [idx t]
  have hn : ((win0_5.blk t).view.emb y 0).val = t.val * 512 + (y 0).val := by
    blk_simp [idx t]
  exact (grad_block m c t _ _ hn _).trans (congrArg _ hk)

/-- The gradient of the norm's gain, summed over the device's rows. -/
theorem gain_final (c : Dev nD) : (dats m 0 c).arrAt 6 cfg0.N = (show FVec Ideal S1x1024 .f32 from
    val_main_v80 (F := Ideal) (m ((c : Thread nD τ).loc main_arg0)) (m ((c : Thread nD τ).loc main_arg1))
      (m ((c : Thread nD τ).loc main_arg2)) (m ((c : Thread nD τ).loc main_arg3))
      (m ((c : Thread nD τ).loc main_arg4))) := by
  refine (dats m 0 c).arrAt_eq_of_covers 6 _ (by decide +kernel) fun t hf y => ?_
  blk_simp
  have hr : t.val % 32 = 31 := (flush0_6 t).mp hf
  rw [after0_6, Blocked.at_last (fun n h => (outsAt0 m c n h).2.1) 32 (fun _ _ => 0)
    (fun t j => ∑ n : Fin 512, k0_pay7 (F := Ideal) (iblk m c 0 t) (iblk m c 1 t) (iblk m c 2 t) (iblk m c 3 t)
        (iblk m c 4 t) (ix2 n (j 1))
      * hat (row (show FVec Ideal S512x1024 .f32 from iblk m c 0 t) (show FVec Ideal S512x1024 .f32 from iblk m c 1 t) n) (j 1))
    (fun t h j => by rw [gain_point, dif_pos h, zero_add, add_zero]) (fun t h j => by rw [gain_point, dif_neg h])
    t hr _, zero_add, ref_gain]
  refine Fin.sum_mul_add_congr fun s k hl => ?_
  have e := idx t
  have hy : y 1 = (win0_6.blk t).view.emb y 1 := by
    apply Fin.ext
    blk_simp [idx t]
  have e0 : t.val / 32 = 0 := Nat.div_eq_of_lt t.isLt
  rw [mul_comm, ← hy]
  refine congrArg₂ (· * ·) ?_ (part_block m c _ _ _ (by simp [e0]) _)
  exact congrArg (fun r => hat r (y 1)) (row_block m c _ _ _ (by simp [e0]))

/-- The gradient of the norm's shift, summed over the device's rows. -/
theorem shift_final (c : Dev nD) : (dats m 0 c).arrAt 7 cfg0.N = (show FVec Ideal S1x1024 .f32 from
    val_main_v81 (F := Ideal) (m ((c : Thread nD τ).loc main_arg0)) (m ((c : Thread nD τ).loc main_arg1))
      (m ((c : Thread nD τ).loc main_arg2)) (m ((c : Thread nD τ).loc main_arg3))
      (m ((c : Thread nD τ).loc main_arg4))) := by
  refine (dats m 0 c).arrAt_eq_of_covers 7 _ (by decide +kernel) fun t hf y => ?_
  blk_simp
  have hr : t.val % 32 = 31 := (flush0_7 t).mp hf
  rw [after0_7, Blocked.at_last (fun n h => (outsAt0 m c n h).2.2.1) 32 (fun _ _ => 0)
    (fun t j => ∑ n : Fin 512, k0_pay7 (F := Ideal) (iblk m c 0 t) (iblk m c 1 t) (iblk m c 2 t) (iblk m c 3 t)
        (iblk m c 4 t) (ix2 n (j 1)))
    (fun t h j => by rw [shift_point, dif_pos h, zero_add, add_zero]) (fun t h j => by rw [shift_point, dif_neg h])
    t hr _, zero_add, ref_shift]
  refine Fin.sum_mul_add_congr fun s k hl => ?_
  have e := idx t
  have hy : y 1 = (win0_7.blk t).view.emb y 1 := by
    apply Fin.ext
    blk_simp [idx t]
  have e0 : t.val / 32 = 0 := Nat.div_eq_of_lt t.isLt
  rw [← hy]
  exact part_block m c _ _ _ (by simp [e0]) _

/-- The loss over the device's rows. -/
theorem loss_final (c : Dev nD) : (dats m 0 c).arrAt 8 cfg0.N = (show FVec Ideal S1x128 .f32 from
    val_main_v82 (F := Ideal) (m ((c : Thread nD τ).loc main_arg0)) (m ((c : Thread nD τ).loc main_arg1))
      (m ((c : Thread nD τ).loc main_arg2)) (m ((c : Thread nD τ).loc main_arg3))
      (m ((c : Thread nD τ).loc main_arg4))) := by
  refine (dats m 0 c).arrAt_eq_of_covers 8 _ (by decide +kernel) fun t hf y => ?_
  blk_simp
  have hr : t.val % 32 = 31 := (flush0_8 t).mp hf
  rw [after0_8, Blocked.at_last (fun n h => (outsAt0 m c n h).2.2.2) 32 (fun _ _ => 0)
    (fun t _ => ∑ n : Fin 512, Ideal.ofBits FTy.f32 0x3F000000#32
      * miss (err (row (show FVec Ideal S512x1024 .f32 from iblk m c 0 t) (show FVec Ideal S512x1024 .f32 from iblk m c 1 t) n)
        (fun k => (show FVec Ideal S1x1024 .f32 from iblk m c 2 t) (ix2 0 k))
        (fun k => (show FVec Ideal S1x1024 .f32 from iblk m c 3 t) (ix2 0 k))
        (fun k => (show FVec Ideal S512x1024 .f32 from iblk m c 4 t) (ix2 n k))))
    (fun t h j => by
      rw [outsAt0_A m c t h]; unfold out0_A_8; frame_out
      rw [loss_apply, (zeros (ix2 0 0) j).2.2, zero_add, add_zero, half, mul_sum _ (by norm_num)])
    (fun t h j => by
      rw [outsAt0_B m c t h]; unfold out0_B_8; frame_out; rw [loss_apply, half, mul_sum _ (by norm_num)])
    t hr _, zero_add, ref_loss]
  refine Fin.sum_mul_add_congr fun s k hl => ?_
  have e0 : t.val / 32 = 0 := Nat.div_eq_of_lt t.isLt
  exact congrArg _ (congrArg miss (err_block m c _ _ _ (by simp [e0])))

/-- With a finite gain, shift and target, what reaches the normalised row is finite, whatever the row holds. -/
theorem part_finite (x y : FVec Ideal S16384x1024 .f32) (g b : FVec Ideal Cert.Reference30Ideal.S1024 .f32)
    (t : FVec Ideal S16384x1024 .f32) (hg : ∀ j, g j ≠ ⊤ ∧ g j ≠ ⊥) (hb : ∀ j, b j ≠ ⊤ ∧ b j ≠ ⊥)
    (ht : ∀ j, t j ≠ ⊤ ∧ t j ≠ ⊥) (j : S16384x1024.Idx) :
    Cert.Reference29Ideal.Read.val_main_v40 (F := Ideal) g (val_main_v46 (F := Ideal) x y g b t) j ≠ ⊤
    ∧ Cert.Reference29Ideal.Read.val_main_v40 (F := Ideal) g (val_main_v46 (F := Ideal) x y g b t) j ≠ ⊥ := by
  rw [NormGradient.ref_part, ref_part, per_entry]
  show (hat (row x y (j 0)) (j 1) * g (ix1 (j 1)) + b (ix1 (j 1)) - t (ix2 (j 0) (j 1))) * ((1 / 1024 : ℝ) : EReal)
      * g (ix1 (j 1)) ≠ ⊤
    ∧ (hat (row x y (j 0)) (j 1) * g (ix1 (j 1)) + b (ix1 (j 1)) - t (ix2 (j 0) (j 1))) * ((1 / 1024 : ℝ) : EReal)
      * g (ix1 (j 1)) ≠ ⊥
  have h0 := hat_finite (row x y (j 0)) (j 1)
  have h1 := hg (ix1 (j 1))
  have h2 := hb (ix1 (j 1))
  have h3 := ht (ix2 (j 0) (j 1))
  generalize hat (row x y (j 0)) (j 1) = u at *
  generalize g (ix1 (j 1)) = v at *
  generalize b (ix1 (j 1)) = w at *
  generalize t (ix2 (j 0) (j 1)) = z at *
  lift u to ℝ using h0
  lift v to ℝ using h1
  lift w to ℝ using h2
  lift z to ℝ using h3
  exact ⟨EReal.coe_ne_top ((u * v + w - z) * (1 / 1024) * v), EReal.coe_ne_bot ((u * v + w - z) * (1 / 1024) * v)⟩

end Cert.NormLoss
-- ==== Proof.Finite.lean ====
/-
  What the preconditions of the norms' gradients say over the extended reals: no entry of the arrays that they name is infinite.
-/
module

public import proofs.«01_k».proof.Proof.NormLoss
public import proofs.«01_k».proof.Proof.Gen.Pre_finite_norm_grad
public import proofs.«01_k».proof.Proof.Gen.Pre_finite_norm_loss

@[expose] public section

set_option maxRecDepth 16384

noncomputable section

open Idealize.ShloMosaic Idealize.ShloMosaic.TcCoe Idealize.SL.Sem

namespace Cert.Finite

open Cert.Pre_finite_norm_grad (S1024 S1x1024 S16384x1024 S_)

/-- An entry smaller than the infinity in absolute value is finite. -/
theorem of_lt (x : EReal) (h : Ideal.cmp .olt (max x (-x)) (Ideal.ofBits .f32 0x7F800000#32) = 1#1) :
    x ≠ ⊤ ∧ x ≠ ⊥ := by
  have htop : Ideal.ofBits .f32 0x7F800000#32 = ⊤ := by simp [Ideal.ofBits, Ideal.ieee]
  rw [htop] at h
  have hlt : max x (-x) < ⊤ := by
    by_contra hn
    simp [Ideal.cmp, hn] at h
  refine ⟨fun e => ?_, fun e => ?_⟩ <;> subst e <;> simp at hlt

theorem both : ∀ a b : BitVec 1, a &&& b = 1#1 → a = 1#1 ∧ b = 1#1 := by decide

/-- A vector repeated over the rows has its entry of the column everywhere. -/
theorem repeated (x : IVec S1024 1) (h1 : S1024.BroadcastsInDim S1x1024 (![1] : Fin 1 → Fin S1x1024.rank))
    (h2 : S1x1024.BroadcastsInDim S16384x1024 (![0, 1] : Fin 2 → Fin S16384x1024.rank)) (i : Fin 16384) (k : Fin 1024) :
    broadcastInDim S16384x1024 ![0, 1] h2 (broadcastInDim S1x1024 ![1] h1 x) (ix2 i k) = x (ix1 k) := by
  rw [broadcastInDim_apply _ h2 _ (ix2 i k) (ix2 (⟨0, Nat.one_pos⟩ : Fin 1) k) (fun a => match a with
    | ⟨0, _⟩ => by show 0 = if (1 : Nat) = 1 then 0 else i.val; rw [if_pos rfl]
    | ⟨1, _⟩ => by show k.val = if (1024 : Nat) = 1 then 0 else k.val; rw [if_neg (by decide)])]
  exact broadcastInDim_apply _ h1 x _ (ix1 k) (fun a => match a with
    | ⟨0, _⟩ => by show k.val = if (1024 : Nat) = 1 then 0 else k.val; rw [if_neg (by decide)])

theorem norm_grad (x y : FVec Ideal S16384x1024 .f32) (g b : FVec Ideal S1024 .f32) (z : FVec Ideal S16384x1024 .f32)
    (h : Cert.Pre_finite_norm_grad.fn (F := Ideal) x y g b z = fun _ => 1#1) :
    (∀ k, g (ix1 k) ≠ ⊤ ∧ g (ix1 k) ≠ ⊥) ∧ ∀ i k, z (ix2 i k) ≠ ⊤ ∧ z (ix2 i k) ≠ ⊥ := by
  have e (i : Fin 16384) (k : Fin 1024) := both _ _ (congrFun h (ix2 i k))
  refine ⟨fun k => ?_, fun i k => of_lt _ (e i k).2⟩
  exact of_lt _ ((repeated _ _ _ 0 k).symm.trans (e 0 k).1)

theorem norm_loss (x y : FVec Ideal S16384x1024 .f32) (g b : FVec Ideal S1024 .f32) (t : FVec Ideal S16384x1024 .f32)
    (h : Cert.Pre_finite_norm_loss.fn (F := Ideal) x y g b t = fun _ => 1#1) :
    (∀ k, g (ix1 k) ≠ ⊤ ∧ g (ix1 k) ≠ ⊥) ∧ (∀ k, b (ix1 k) ≠ ⊤ ∧ b (ix1 k) ≠ ⊥)
    ∧ ∀ i k, t (ix2 i k) ≠ ⊤ ∧ t (ix2 i k) ≠ ⊥ := by
  have e (i : Fin 16384) (k : Fin 1024) := both _ _ (congrFun h (ix2 i k))
  have e1 (k : Fin 1024) := both _ _ ((repeated _ _ _ 0 k).symm.trans (e 0 k).1)
  exact ⟨fun k => of_lt _ (e1 k).1, fun k => of_lt _ (e1 k).2, fun i k => of_lt _ (e i k).2⟩

end Cert.Finite

end

end
-- ==== Proof.NormForward.lean ====
/-
  The forward pass of the normalised residual sum, with the operand of the next product beside it.
-/
module

public import proofs.«01_k».proof.Proof.NormGradients
public import proofs.«01_k».proof.Proof.Gen.Kernel27Ideal.Value
public import proofs.«01_k».proof.Proof.Gen.Reference27Ideal.Run
public import proofs.«01_k».proof.Proof.Gen.Reference27Ideal.Read

@[expose] public section

set_option maxRecDepth 16384

noncomputable section

open Idealize.ShloMosaic Idealize.ShloMosaic.TcCoe Idealize.SL.Sem
open Idealize.ShloMosaic.Pipeline (Dat)

namespace Cert.NormForward

open Cert.Kernel27Ideal Cert.Kernel27Ideal.Gen Cert.Reference27Ideal.Read Cert.Norm
variable (m : (ℓ : Loc nD τ sig) → Buf (Elt Ideal) ℓ)

theorem normed_apply (x y : FVec Ideal S512x1024 .f32) (g b : FVec Ideal S1x1024 .f32) (j : S512x1024.Idx) :
    k0_pay1 (F := Ideal) x y g b j = hat (row x y (j 0)) (j 1) * g (ix2 0 (j 1)) + b (ix2 0 (j 1)) := by
  pointwise [k0_pay1]
  simp only [hat, scale, spread, centre, row, ix2_eta]

theorem operand_apply (x y : FVec Ideal S512x1024 .f32) (g b : FVec Ideal S1x1024 .f32) (j : S512x1024.Idx) :
    k0_pay2 (F := Ideal) x y g b j = k0_pay1 (F := Ideal) x y g b j := by
  pointwise [k0_pay2]

/-- The normalised row of this reference is that of the backward pass's. -/
theorem ref_hat (x y : FVec Ideal S16384x1024 .f32) :
    val_main_v20 (F := Ideal) x y = Cert.Reference29Ideal.Read.val_main_v25 (F := Ideal) x y := rfl

theorem ref_apply (x y : FVec Ideal S16384x1024 .f32) (g b : FVec Ideal Cert.Reference27Ideal.S1024 .f32)
    (j : S16384x1024.Idx) :
    val_main_v26 (F := Ideal) x y g b j = hat (row x y (j 0)) (j 1) * g (ix1 (j 1)) + b (ix1 (j 1)) := by
  pointwise [val_main_v26, val_main_v25, val_main_v24, val_main_v23, val_main_v22, val_main_v21]
  rw [ref_hat, NormGradient.ref_hat]

theorem ref_operand (x y : FVec Ideal S16384x1024 .f32) (g b : FVec Ideal Cert.Reference27Ideal.S1024 .f32)
    (j : S16384x1024.Idx) : val_main_v27 (F := Ideal) x y g b j = val_main_v26 (F := Ideal) x y g b j := by
  pointwise [val_main_v27]

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- The norm's result after the run. -/
theorem final (c : Dev nD) : (dats m 0 c).arrAt 4 cfg0.N = (show FVec Ideal S16384x1024 .f32 from
    val_main_v26 (F := Ideal) (m ((c : Thread nD τ).loc main_arg0)) (m ((c : Thread nD τ).loc main_arg1))
      (m ((c : Thread nD τ).loc main_arg2)) (m ((c : Thread nD τ).loc main_arg3))) := by
  refine (dats m 0 c).arrAt_eq_of_covers 4 _ (by decide +kernel) fun t _ y => ?_
  blk_simp
  rw [after0_4]
  unfold out0_4
  frame_out
  rw [normed_apply, ref_apply]
  have e := idx t
  congr 1
  · congr 1
    · congr 1
      · funext k
        unfold row
        blk_point [iblk, V, idx t]
      · apply Fin.ext
        blk_simp [idx t]
    · blk_point [iblk, V, idx t]
  · blk_point [iblk, V, idx t]

/-- The same values as the operand of the next product. -/
theorem operand_final (c : Dev nD) : (dats m 0 c).arrAt 5 cfg0.N = (show FVec Ideal S16384x1024 .bf16 from
    val_main_v27 (F := Ideal) (m ((c : Thread nD τ).loc main_arg0)) (m ((c : Thread nD τ).loc main_arg1))
      (m ((c : Thread nD τ).loc main_arg2)) (m ((c : Thread nD τ).loc main_arg3))) := by
  refine (dats m 0 c).arrAt_eq_of_covers 5 _ (by decide +kernel) fun t _ y => ?_
  blk_simp
  rw [after0_5]
  unfold out0_5
  frame_out
  rw [operand_apply, normed_apply, ref_operand, ref_apply]
  have e := idx t
  congr 1
  · congr 1
    · congr 1
      · funext k
        unfold row
        blk_point [iblk, V, idx t]
      · apply Fin.ext
        blk_simp [idx t]
    · blk_point [iblk, V, idx t]
  · blk_point [iblk, V, idx t]

end Cert.NormForward
-- ==== Proof.NormClaims.lean ====
/-
  The norms: each kernel's results are those of its reference. The gradients need their factors to be finite.
-/
module

public import proofs.«01_k».proof.Defs
public import proofs.«01_k».proof.Proof.Finite
public import proofs.«01_k».proof.Proof.NormForward

@[expose] public section

set_option maxRecDepth 16384

noncomputable section

open Idealize.ShloMosaic Idealize.ShloMosaic.TcCoe Idealize.SL.Sem

namespace Cert.NormClaims

/-- An index of a vector is its coordinate. -/
theorem at_entry {n : Nat} {φ : FTy} (x : FVec Ideal ⟨1, ![n]⟩ φ) (h : ∀ k, x (ix1 k) ≠ ⊤ ∧ x (ix1 k) ≠ ⊥) (j) :
    x j ≠ ⊤ ∧ x j ≠ ⊥ := by
  have e : j = ix1 (j 0) := funext fun a => match a with | ⟨0, _⟩ => rfl
  rw [e]
  exact h (j 0)

/-- An index of a matrix is its coordinates. -/
theorem at_entry2 {n k : Nat} {φ : FTy} (x : FVec Ideal ⟨2, ![n, k]⟩ φ)
    (h : ∀ i j, x (ix2 i j) ≠ ⊤ ∧ x (ix2 i j) ≠ ⊥) (j) : x j ≠ ⊤ ∧ x j ≠ ⊥ := by
  have := h (j 0) (j 1)
  rwa [ix2_eta] at this

/-- A product of two finite entries is finite. -/
theorem mul_finite (a b : EReal) (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

/-- The gradient times the scale is finite where both are. -/
theorem grad_part_finite (g : FVec Ideal Cert.Reference29Ideal.S1024 .f32)
    (z : FVec Ideal Cert.Reference29Ideal.S16384x1024 .f32) (hg : ∀ k, g (ix1 k) ≠ ⊤ ∧ g (ix1 k) ≠ ⊥)
    (hz : ∀ i k, z (ix2 i k) ≠ ⊤ ∧ z (ix2 i k) ≠ ⊥) (j) :
    Cert.Reference29Ideal.Read.val_main_v40 (F := Ideal) g z j ≠ ⊤
    ∧ Cert.Reference29Ideal.Read.val_main_v40 (F := Ideal) g z j ≠ ⊥ := by
  rw [NormGradient.ref_part]
  exact mul_finite _ _ (at_entry2 z hz j) (hg (j 1))

/-- The norm after a layer, and its copy for the next product. -/
theorem algebraic27 : Cert.algebraic_Kernel27Ideal_Reference27Ideal := fun m g m' g' _ h =>
  ⟨fun c => Cert.Reference27Ideal.Read.val_main_v26 (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)),
    fun c => Cert.Reference27Ideal.Read.val_main_v27 (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)),
    (θ_run _ _ _).mono (fun r hr c => ⟨(hr c).1.trans (NormForward.final m c),
      (hr c).2.1.trans (NormForward.operand_final m c),
      (hr c).2.2⟩) (Cert.Kernel27Ideal.Value.run_blocks m g),
    (θ_run _ _ _).mono (fun r hr c => ⟨(hr c).1.trans ((by rw [(h c).1, (h c).2.1, (h c).2.2.1, (h c).2.2.2]; rfl)),
      (hr c).2.1.trans ((by rw [(h c).1, (h c).2.1, (h c).2.2.1, (h c).2.2.2]; rfl)),
      (hr c).2.2⟩) (Cert.Reference27Ideal.Value.run m' g')⟩

/-- The gradients of a norm: of the sum before it, of its scale and of its shift. -/
theorem algebraic29 : Cert.algebraic_Kernel29Ideal_Reference29Ideal_pre_finite_norm_grad := fun m g m' g' hp h =>
  ⟨fun c => Cert.Reference29Ideal.Read.val_main_v65 (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg4)),
    fun c => Cert.Reference29Ideal.Read.val_main_v66 (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg4)),
    fun c => Cert.Reference29Ideal.Read.val_main_v67 (F := Ideal) (m ((c.tc : Thread Cert.Kernel29Ideal.nD Cert.Kernel29Ideal.τ).loc Cert.Kernel29Ideal.main_arg4)),
    (θ_run _ _ _).mono (fun r hr c => ⟨(hr c).1.trans (NormGradient.change_final m c (grad_part_finite _ _ (Finite.norm_grad _ _ _ _ _ (hp c)).1
        (Finite.norm_grad _ _ _ _ _ (hp c)).2)),
      (hr c).2.1.trans (NormGradient.gain_final m c),
      (hr c).2.2.1.trans (NormGradient.shift_final m c),
      (hr c).2.2.2⟩) (Cert.Kernel29Ideal.Value.run_blocks m g),
    (θ_run _ _ _).mono (fun r hr c => ⟨(hr c).1.trans ((Cert.Reference29Ideal.Read.val_main_v65_eq m' c).trans (by rw [(h c).1, (h c).2.1, (h c).2.2.1, (h c).2.2.2.2])),
      (hr c).2.1.trans ((Cert.Reference29Ideal.Read.val_main_v66_eq _ _ _).trans (by rw [(h c).1, (h c).2.1, (h c).2.2.2.2])),
      (hr c).2.2.1.trans ((Cert.Reference29Ideal.Read.val_main_v67_eq _).trans (by rw [(h c).2.2.2.2])),
      (hr c).2.2.2⟩) (Cert.Reference29Ideal.Value.run m' g')⟩

/-- The last norm: the same gradients, from the loss against the target, and the loss. -/
theorem algebraic30 : Cert.algebraic_Kernel30Ideal_Reference30Ideal_pre_finite_norm_loss := fun m g m' g' hp h =>
  ⟨fun c => Cert.Reference30Ideal.Read.val_main_v79 (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)),
    fun c => Cert.Reference30Ideal.Read.val_main_v80 (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)),
    fun c => Cert.Reference30Ideal.Read.val_main_v81 (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)),
    fun c => Cert.Reference30Ideal.Read.val_main_v82 (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)),
    (θ_run _ _ _).mono (fun r hr c => ⟨(hr c).1.trans (NormLoss.change_final m c (NormLoss.part_finite _ _ _ _ _
        (at_entry _ (Finite.norm_loss _ _ _ _ _ (hp c)).1) (at_entry _ (Finite.norm_loss _ _ _ _ _ (hp c)).2.1)
        (at_entry2 _ (Finite.norm_loss _ _ _ _ _ (hp c)).2.2))),
      (hr c).2.1.trans (NormLoss.gain_final m c),
      (hr c).2.2.1.trans (NormLoss.shift_final m c),
      (hr c).2.2.2.1.trans (NormLoss.loss_final m c),
      (hr c).2.2.2.2⟩) (Cert.Kernel30Ideal.Value.run_blocks m g),
    (θ_run _ _ _).mono (fun r hr c => ⟨(hr c).1.trans ((Cert.Reference30Ideal.Read.val_main_v79_eq m' c).trans (by rw [(h c).1, (h c).2.1, (h c).2.2.1, (h c).2.2.2.1, (h c).2.2.2.2])),
      (hr c).2.1.trans ((Cert.Reference30Ideal.Read.val_main_v80_eq m' c).trans (by rw [(h c).1, (h c).2.1, (h c).2.2.1, (h c).2.2.2.1, (h c).2.2.2.2])),
      (hr c).2.2.1.trans ((Cert.Reference30Ideal.Read.val_main_v81_eq _ _ _ _ _).trans (by rw [(h c).1, (h c).2.1, (h c).2.2.1, (h c).2.2.2.1, (h c).2.2.2.2])),
      (hr c).2.2.2.1.trans ((Cert.Reference30Ideal.Read.val_main_v82_eq m' c).trans (by rw [(h c).1, (h c).2.1, (h c).2.2.1, (h c).2.2.2.1, (h c).2.2.2.2])),
      (hr c).2.2.2.2⟩) (Cert.Reference30Ideal.Value.run m' g')⟩

end Cert.NormClaims

end

end
-- ==== Proof.Steps.lean ====
/-
  The AdamW step of every shape of weight: the kernel's rows are the reference's entries.
-/
module

public import proofs.«01_k».proof.Proof.Blocked
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read

@[expose] public section

set_option maxRecDepth 16384

noncomputable section

open Idealize.ShloMosaic Idealize.ShloMosaic.TcCoe Idealize.SL.Sem
open Idealize.ShloMosaic.Pipeline (Dat)

/-! ## The step of one entry -/

namespace Cert.Step

/-- The new first moment, of the gradient and the old moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the weight. -/
def change (w g m v : EReal) : EReal := Ideal.ofBits .f32 0xBA83126F#32
  * (Ideal.div (Ideal.div (first g m) (Ideal.ofBits .f32 0x3F26BD02#32))
      (Ideal.sqrt (Ideal.div (second g v) (Ideal.ofBits .f32 0x3C231ACC#32)) + Ideal.ofBits .f32 0x322BCC77#32)
    + Ideal.ofBits .f32 0x3C23D70A#32 * w)

end Cert.Step

/-! ## gdn_w_in -/

namespace Cert.Step.GdnWIn

open Cert.Kernel13Ideal Cert.Kernel13Ideal.Gen Cert.Reference13Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay4 (F := Ideal) x1 x2 x3 x0 j = change (x0 j) (x1 j) (x2 j) (x3 j) := by
  pointwise [k0_pay4, k0_pay2, k0_pay3, k0_pay1, change, first, second]

theorem change_entry (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

theorem change_ref (x0 x1 x2 x3 : FVec Ideal S2x1024x1544 .f32) (j) : val_main_v24 (F := Ideal) x0 x1 x2 x3 j = change (shapeCast S2048x1544 x0 shapeCasts_S2x1024x1544_S2048x1544 j) (shapeCast S2048x1544 x1 shapeCasts_S2x1024x1544_S2048x1544 j) (shapeCast S2048x1544 x2 shapeCasts_S2x1024x1544_S2048x1544 j) (shapeCast S2048x1544 x3 shapeCasts_S2x1024x1544_S2048x1544 j) :=
  change_entry x0 x1 x2 x3 _

/-- After the run the array of the changes is the reference's. -/
theorem change_final (c : Dev nD) : (dats m 0 c).arrAt 4 cfg0.N = (show FVec Ideal S2048x1544 .f32 from val_main_v24 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay2 (F := Ideal) x1 x2 j = first (x1 j) (x2 j) := by
  pointwise [k0_pay2, k0_pay1, first]

theorem first_entry (x1 x2 j) : val_main_v4 (F := Ideal) x1 x2 j = first (x1 j) (x2 j) := by
  pointwise [val_main_v4, val_main_v3, val_main_v2, val_main_v1, val_main_v0, val_main_cst, val_main_cst_0, first]

theorem first_ref (x1 x2 : FVec Ideal S2x1024x1544 .f32) (j) : val_main_v25 (F := Ideal) x1 x2 j = first (shapeCast S2048x1544 x1 shapeCasts_S2x1024x1544_S2048x1544 j) (shapeCast S2048x1544 x2 shapeCasts_S2x1024x1544_S2048x1544 j) :=
  first_entry x1 x2 _

/-- After the run the array of the first moments is the reference's. -/
theorem first_final (c : Dev nD) : (dats m 0 c).arrAt 5 cfg0.N = (show FVec Ideal S2048x1544 .f32 from val_main_v25 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay3 (F := Ideal) x1 x3 j = second (x1 j) (x3 j) := by
  pointwise [k0_pay3, k0_pay1, second]

theorem second_entry (x1 x3 j) : val_main_v10 (F := Ideal) x1 x3 j = second (x1 j) (x3 j) := by
  pointwise [val_main_v10, val_main_v9, val_main_v8, val_main_v7, val_main_v6, val_main_v5, val_main_cst_1, val_main_cst_2, second]

theorem second_ref (x1 x3 : FVec Ideal S2x1024x1544 .f32) (j) : val_main_v26 (F := Ideal) x1 x3 j = second (shapeCast S2048x1544 x1 shapeCasts_S2x1024x1544_S2048x1544 j) (shapeCast S2048x1544 x3 shapeCasts_S2x1024x1544_S2048x1544 j) :=
  second_entry x1 x3 _

/-- After the run the array of the second moments is the reference's. -/
theorem second_final (c : Dev nD) : (dats m 0 c).arrAt 6 cfg0.N = (show FVec Ideal S2048x1544 .f32 from val_main_v26 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.GdnWIn

/-! ## gdn_conv_w -/

namespace Cert.Step.GdnConvW

open Cert.Kernel14Ideal Cert.Kernel14Ideal.Gen Cert.Reference14Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay4 (F := Ideal) x1 x2 x3 x0 j = change (x0 j) (x1 j) (x2 j) (x3 j) := by
  pointwise [k0_pay4, k0_pay2, k0_pay3, k0_pay1, change, first, second]

theorem change_entry (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

theorem change_ref (x0 x1 x2 x3 : FVec Ideal S2x4x1024 .f32) (j) : val_main_v24 (F := Ideal) x0 x1 x2 x3 j = change (shapeCast S8x1024 x0 shapeCasts_S2x4x1024_S8x1024 j) (shapeCast S8x1024 x1 shapeCasts_S2x4x1024_S8x1024 j) (shapeCast S8x1024 x2 shapeCasts_S2x4x1024_S8x1024 j) (shapeCast S8x1024 x3 shapeCasts_S2x4x1024_S8x1024 j) :=
  change_entry x0 x1 x2 x3 _

/-- After the run the array of the changes is the reference's. -/
theorem change_final (c : Dev nD) : (dats m 0 c).arrAt 4 cfg0.N = (show FVec Ideal S8x1024 .f32 from val_main_v24 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay2 (F := Ideal) x1 x2 j = first (x1 j) (x2 j) := by
  pointwise [k0_pay2, k0_pay1, first]

theorem first_entry (x1 x2 j) : val_main_v4 (F := Ideal) x1 x2 j = first (x1 j) (x2 j) := by
  pointwise [val_main_v4, val_main_v3, val_main_v2, val_main_v1, val_main_v0, val_main_cst, val_main_cst_0, first]

theorem first_ref (x1 x2 : FVec Ideal S2x4x1024 .f32) (j) : val_main_v25 (F := Ideal) x1 x2 j = first (shapeCast S8x1024 x1 shapeCasts_S2x4x1024_S8x1024 j) (shapeCast S8x1024 x2 shapeCasts_S2x4x1024_S8x1024 j) :=
  first_entry x1 x2 _

/-- After the run the array of the first moments is the reference's. -/
theorem first_final (c : Dev nD) : (dats m 0 c).arrAt 5 cfg0.N = (show FVec Ideal S8x1024 .f32 from val_main_v25 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay3 (F := Ideal) x1 x3 j = second (x1 j) (x3 j) := by
  pointwise [k0_pay3, k0_pay1, second]

theorem second_entry (x1 x3 j) : val_main_v10 (F := Ideal) x1 x3 j = second (x1 j) (x3 j) := by
  pointwise [val_main_v10, val_main_v9, val_main_v8, val_main_v7, val_main_v6, val_main_v5, val_main_cst_1, val_main_cst_2, second]

theorem second_ref (x1 x3 : FVec Ideal S2x4x1024 .f32) (j) : val_main_v26 (F := Ideal) x1 x3 j = second (shapeCast S8x1024 x1 shapeCasts_S2x4x1024_S8x1024 j) (shapeCast S8x1024 x3 shapeCasts_S2x4x1024_S8x1024 j) :=
  second_entry x1 x3 _

/-- After the run the array of the second moments is the reference's. -/
theorem second_final (c : Dev nD) : (dats m 0 c).arrAt 6 cfg0.N = (show FVec Ideal S8x1024 .f32 from val_main_v26 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.GdnConvW

/-! ## gdn_a_log and gdn_dt_bias -/

namespace Cert.Step.GdnALog

open Cert.Kernel15Ideal Cert.Kernel15Ideal.Gen Cert.Reference15Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay3 (F := Ideal) x1 x2 x3 x0 j = change (x0 j) (x1 j) (x2 j) (x3 j) := by
  pointwise [k0_pay3, k0_pay1, k0_pay2, change, first, second]

theorem change_ref (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

/-- After the run the array of the changes is the reference's. -/
theorem change_final (c : Dev nD) : (dats m 0 c).arrAt 4 cfg0.N = (show FVec Ideal S2x16 .f32 from val_main_v23 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay1 (F := Ideal) x1 x2 j = first (x1 j) (x2 j) := by
  pointwise [k0_pay1, first]

theorem first_ref (x1 x2 j) : val_main_v4 (F := Ideal) x1 x2 j = first (x1 j) (x2 j) := by
  pointwise [val_main_v4, val_main_v3, val_main_v2, val_main_v1, val_main_v0, val_main_cst, val_main_cst_0, first]

/-- After the run the array of the first moments is the reference's. -/
theorem first_final (c : Dev nD) : (dats m 0 c).arrAt 5 cfg0.N = (show FVec Ideal S2x16 .f32 from val_main_v4 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay2 (F := Ideal) x1 x3 j = second (x1 j) (x3 j) := by
  pointwise [k0_pay2, second]

theorem second_ref (x1 x3 j) : val_main_v10 (F := Ideal) x1 x3 j = second (x1 j) (x3 j) := by
  pointwise [val_main_v10, val_main_v9, val_main_v8, val_main_v7, val_main_v6, val_main_v5, val_main_cst_1, val_main_cst_2, second]

/-- After the run the array of the second moments is the reference's. -/
theorem second_final (c : Dev nD) : (dats m 0 c).arrAt 6 cfg0.N = (show FVec Ideal S2x16 .f32 from val_main_v10 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.GdnALog

/-! ## gdn_norm_w -/

namespace Cert.Step.GdnNormW

open Cert.Kernel16Ideal Cert.Kernel16Ideal.Gen Cert.Reference16Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay3 (F := Ideal) x1 x2 x3 x0 j = change (x0 j) (x1 j) (x2 j) (x3 j) := by
  pointwise [k0_pay3, k0_pay1, k0_pay2, change, first, second]

theorem change_ref (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

/-- After the run the array of the changes is the reference's. -/
theorem change_final (c : Dev nD) : (dats m 0 c).arrAt 4 cfg0.N = (show FVec Ideal S2x128 .f32 from val_main_v23 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay1 (F := Ideal) x1 x2 j = first (x1 j) (x2 j) := by
  pointwise [k0_pay1, first]

theorem first_ref (x1 x2 j) : val_main_v4 (F := Ideal) x1 x2 j = first (x1 j) (x2 j) := by
  pointwise [val_main_v4, val_main_v3, val_main_v2, val_main_v1, val_main_v0, val_main_cst, val_main_cst_0, first]

/-- After the run the array of the first moments is the reference's. -/
theorem first_final (c : Dev nD) : (dats m 0 c).arrAt 5 cfg0.N = (show FVec Ideal S2x128 .f32 from val_main_v4 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay2 (F := Ideal) x1 x3 j = second (x1 j) (x3 j) := by
  pointwise [k0_pay2, second]

theorem second_ref (x1 x3 j) : val_main_v10 (F := Ideal) x1 x3 j = second (x1 j) (x3 j) := by
  pointwise [val_main_v10, val_main_v9, val_main_v8, val_main_v7, val_main_v6, val_main_v5, val_main_cst_1, val_main_cst_2, second]

/-- After the run the array of the second moments is the reference's. -/
theorem second_final (c : Dev nD) : (dats m 0 c).arrAt 6 cfg0.N = (show FVec Ideal S2x128 .f32 from val_main_v10 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.GdnNormW

/-! ## gdn_w_out -/

namespace Cert.Step.GdnWOut

open Cert.Kernel17Ideal Cert.Kernel17Ideal.Gen Cert.Reference17Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay4 (F := Ideal) x1 x2 x3 x0 j = change (x0 j) (x1 j) (x2 j) (x3 j) := by
  pointwise [k0_pay4, k0_pay2, k0_pay3, k0_pay1, change, first, second]

theorem change_entry (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

theorem change_ref (x0 x1 x2 x3 : FVec Ideal S2x512x1024 .f32) (j) : val_main_v24 (F := Ideal) x0 x1 x2 x3 j = change (shapeCast S1024x1024 x0 shapeCasts_S2x512x1024_S1024x1024 j) (shapeCast S1024x1024 x1 shapeCasts_S2x512x1024_S1024x1024 j) (shapeCast S1024x1024 x2 shapeCasts_S2x512x1024_S1024x1024 j) (shapeCast S1024x1024 x3 shapeCasts_S2x512x1024_S1024x1024 j) :=
  change_entry x0 x1 x2 x3 _

/-- After the run the array of the changes is the reference's. -/
theorem change_final (c : Dev nD) : (dats m 0 c).arrAt 4 cfg0.N = (show FVec Ideal S1024x1024 .f32 from val_main_v24 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay2 (F := Ideal) x1 x2 j = first (x1 j) (x2 j) := by
  pointwise [k0_pay2, k0_pay1, first]

theorem first_entry (x1 x2 j) : val_main_v4 (F := Ideal) x1 x2 j = first (x1 j) (x2 j) := by
  pointwise [val_main_v4, val_main_v3, val_main_v2, val_main_v1, val_main_v0, val_main_cst, val_main_cst_0, first]

theorem first_ref (x1 x2 : FVec Ideal S2x512x1024 .f32) (j) : val_main_v25 (F := Ideal) x1 x2 j = first (shapeCast S1024x1024 x1 shapeCasts_S2x512x1024_S1024x1024 j) (shapeCast S1024x1024 x2 shapeCasts_S2x512x1024_S1024x1024 j) :=
  first_entry x1 x2 _

/-- After the run the array of the first moments is the reference's. -/
theorem first_final (c : Dev nD) : (dats m 0 c).arrAt 5 cfg0.N = (show FVec Ideal S1024x1024 .f32 from val_main_v25 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay3 (F := Ideal) x1 x3 j = second (x1 j) (x3 j) := by
  pointwise [k0_pay3, k0_pay1, second]

theorem second_entry (x1 x3 j) : val_main_v10 (F := Ideal) x1 x3 j = second (x1 j) (x3 j) := by
  pointwise [val_main_v10, val_main_v9, val_main_v8, val_main_v7, val_main_v6, val_main_v5, val_main_cst_1, val_main_cst_2, second]

theorem second_ref (x1 x3 : FVec Ideal S2x512x1024 .f32) (j) : val_main_v26 (F := Ideal) x1 x3 j = second (shapeCast S1024x1024 x1 shapeCasts_S2x512x1024_S1024x1024 j) (shapeCast S1024x1024 x3 shapeCasts_S2x512x1024_S1024x1024 j) :=
  second_entry x1 x3 _

/-- After the run the array of the second moments is the reference's. -/
theorem second_final (c : Dev nD) : (dats m 0 c).arrAt 6 cfg0.N = (show FVec Ideal S1024x1024 .f32 from val_main_v26 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.GdnWOut

/-! ## sc_w_in -/

namespace Cert.Step.ScWIn

open Cert.Kernel18Ideal Cert.Kernel18Ideal.Gen Cert.Reference18Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay4 (F := Ideal) x1 x2 x3 x0 j = change (x0 j) (x1 j) (x2 j) (x3 j) := by
  pointwise [k0_pay4, k0_pay2, k0_pay3, k0_pay1, change, first, second]

theorem change_entry (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

theorem change_ref (x0 x1 x2 x3 : FVec Ideal S1x1024x2048 .f32) (j) : val_main_v24 (F := Ideal) x0 x1 x2 x3 j = change (shapeCast S1024x2048 x0 shapeCasts_S1x1024x2048_S1024x2048 j) (shapeCast S1024x2048 x1 shapeCasts_S1x1024x2048_S1024x2048 j) (shapeCast S1024x2048 x2 shapeCasts_S1x1024x2048_S1024x2048 j) (shapeCast S1024x2048 x3 shapeCasts_S1x1024x2048_S1024x2048 j) :=
  change_entry x0 x1 x2 x3 _

/-- After the run the array of the changes is the reference's. -/
theorem change_final (c : Dev nD) : (dats m 0 c).arrAt 4 cfg0.N = (show FVec Ideal S1024x2048 .f32 from val_main_v24 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay2 (F := Ideal) x1 x2 j = first (x1 j) (x2 j) := by
  pointwise [k0_pay2, k0_pay1, first]

theorem first_entry (x1 x2 j) : val_main_v4 (F := Ideal) x1 x2 j = first (x1 j) (x2 j) := by
  pointwise [val_main_v4, val_main_v3, val_main_v2, val_main_v1, val_main_v0, val_main_cst, val_main_cst_0, first]

theorem first_ref (x1 x2 : FVec Ideal S1x1024x2048 .f32) (j) : val_main_v25 (F := Ideal) x1 x2 j = first (shapeCast S1024x2048 x1 shapeCasts_S1x1024x2048_S1024x2048 j) (shapeCast S1024x2048 x2 shapeCasts_S1x1024x2048_S1024x2048 j) :=
  first_entry x1 x2 _

/-- After the run the array of the first moments is the reference's. -/
theorem first_final (c : Dev nD) : (dats m 0 c).arrAt 5 cfg0.N = (show FVec Ideal S1024x2048 .f32 from val_main_v25 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay3 (F := Ideal) x1 x3 j = second (x1 j) (x3 j) := by
  pointwise [k0_pay3, k0_pay1, second]

theorem second_entry (x1 x3 j) : val_main_v10 (F := Ideal) x1 x3 j = second (x1 j) (x3 j) := by
  pointwise [val_main_v10, val_main_v9, val_main_v8, val_main_v7, val_main_v6, val_main_v5, val_main_cst_1, val_main_cst_2, second]

theorem second_ref (x1 x3 : FVec Ideal S1x1024x2048 .f32) (j) : val_main_v26 (F := Ideal) x1 x3 j = second (shapeCast S1024x2048 x1 shapeCasts_S1x1024x2048_S1024x2048 j) (shapeCast S1024x2048 x3 shapeCasts_S1x1024x2048_S1024x2048 j) :=
  second_entry x1 x3 _

/-- After the run the array of the second moments is the reference's. -/
theorem second_final (c : Dev nD) : (dats m 0 c).arrAt 6 cfg0.N = (show FVec Ideal S1024x2048 .f32 from val_main_v26 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.ScWIn

/-! ## sc_conv_w -/

namespace Cert.Step.ScConvW

open Cert.Kernel19Ideal Cert.Kernel19Ideal.Gen Cert.Reference19Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay4 (F := Ideal) x1 x2 x3 x0 j = change (x0 j) (x1 j) (x2 j) (x3 j) := by
  pointwise [k0_pay4, k0_pay2, k0_pay3, k0_pay1, change, first, second]

theorem change_entry (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

theorem change_ref (x0 x1 x2 x3 : FVec Ideal S1x3x512 .f32) (j) : val_main_v24 (F := Ideal) x0 x1 x2 x3 j = change (shapeCast S3x512 x0 shapeCasts_S1x3x512_S3x512 j) (shapeCast S3x512 x1 shapeCasts_S1x3x512_S3x512 j) (shapeCast S3x512 x2 shapeCasts_S1x3x512_S3x512 j) (shapeCast S3x512 x3 shapeCasts_S1x3x512_S3x512 j) :=
  change_entry x0 x1 x2 x3 _

/-- After the run the array of the changes is the reference's. -/
theorem change_final (c : Dev nD) : (dats m 0 c).arrAt 4 cfg0.N = (show FVec Ideal S3x512 .f32 from val_main_v24 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay2 (F := Ideal) x1 x2 j = first (x1 j) (x2 j) := by
  pointwise [k0_pay2, k0_pay1, first]

theorem first_entry (x1 x2 j) : val_main_v4 (F := Ideal) x1 x2 j = first (x1 j) (x2 j) := by
  pointwise [val_main_v4, val_main_v3, val_main_v2, val_main_v1, val_main_v0, val_main_cst, val_main_cst_0, first]

theorem first_ref (x1 x2 : FVec Ideal S1x3x512 .f32) (j) : val_main_v25 (F := Ideal) x1 x2 j = first (shapeCast S3x512 x1 shapeCasts_S1x3x512_S3x512 j) (shapeCast S3x512 x2 shapeCasts_S1x3x512_S3x512 j) :=
  first_entry x1 x2 _

/-- After the run the array of the first moments is the reference's. -/
theorem first_final (c : Dev nD) : (dats m 0 c).arrAt 5 cfg0.N = (show FVec Ideal S3x512 .f32 from val_main_v25 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay3 (F := Ideal) x1 x3 j = second (x1 j) (x3 j) := by
  pointwise [k0_pay3, k0_pay1, second]

theorem second_entry (x1 x3 j) : val_main_v10 (F := Ideal) x1 x3 j = second (x1 j) (x3 j) := by
  pointwise [val_main_v10, val_main_v9, val_main_v8, val_main_v7, val_main_v6, val_main_v5, val_main_cst_1, val_main_cst_2, second]

theorem second_ref (x1 x3 : FVec Ideal S1x3x512 .f32) (j) : val_main_v26 (F := Ideal) x1 x3 j = second (shapeCast S3x512 x1 shapeCasts_S1x3x512_S3x512 j) (shapeCast S3x512 x3 shapeCasts_S1x3x512_S3x512 j) :=
  second_entry x1 x3 _

/-- After the run the array of the second moments is the reference's. -/
theorem second_final (c : Dev nD) : (dats m 0 c).arrAt 6 cfg0.N = (show FVec Ideal S3x512 .f32 from val_main_v26 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.ScConvW

/-! ## sc_w_out and ssd_w_out -/

namespace Cert.Step.WOut

open Cert.Kernel20Ideal Cert.Kernel20Ideal.Gen Cert.Reference20Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay4 (F := Ideal) x1 x2 x3 x0 j = change (x0 j) (x1 j) (x2 j) (x3 j) := by
  pointwise [k0_pay4, k0_pay2, k0_pay3, k0_pay1, change, first, second]

theorem change_entry (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

theorem change_ref (x0 x1 x2 x3 : FVec Ideal S1x512x1024 .f32) (j) : val_main_v24 (F := Ideal) x0 x1 x2 x3 j = change (shapeCast S512x1024 x0 shapeCasts_S1x512x1024_S512x1024 j) (shapeCast S512x1024 x1 shapeCasts_S1x512x1024_S512x1024 j) (shapeCast S512x1024 x2 shapeCasts_S1x512x1024_S512x1024 j) (shapeCast S512x1024 x3 shapeCasts_S1x512x1024_S512x1024 j) :=
  change_entry x0 x1 x2 x3 _

/-- After the run the array of the changes is the reference's. -/
theorem change_final (c : Dev nD) : (dats m 0 c).arrAt 4 cfg0.N = (show FVec Ideal S512x1024 .f32 from val_main_v24 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay2 (F := Ideal) x1 x2 j = first (x1 j) (x2 j) := by
  pointwise [k0_pay2, k0_pay1, first]

theorem first_entry (x1 x2 j) : val_main_v4 (F := Ideal) x1 x2 j = first (x1 j) (x2 j) := by
  pointwise [val_main_v4, val_main_v3, val_main_v2, val_main_v1, val_main_v0, val_main_cst, val_main_cst_0, first]

theorem first_ref (x1 x2 : FVec Ideal S1x512x1024 .f32) (j) : val_main_v25 (F := Ideal) x1 x2 j = first (shapeCast S512x1024 x1 shapeCasts_S1x512x1024_S512x1024 j) (shapeCast S512x1024 x2 shapeCasts_S1x512x1024_S512x1024 j) :=
  first_entry x1 x2 _

/-- After the run the array of the first moments is the reference's. -/
theorem first_final (c : Dev nD) : (dats m 0 c).arrAt 5 cfg0.N = (show FVec Ideal S512x1024 .f32 from val_main_v25 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay3 (F := Ideal) x1 x3 j = second (x1 j) (x3 j) := by
  pointwise [k0_pay3, k0_pay1, second]

theorem second_entry (x1 x3 j) : val_main_v10 (F := Ideal) x1 x3 j = second (x1 j) (x3 j) := by
  pointwise [val_main_v10, val_main_v9, val_main_v8, val_main_v7, val_main_v6, val_main_v5, val_main_cst_1, val_main_cst_2, second]

theorem second_ref (x1 x3 : FVec Ideal S1x512x1024 .f32) (j) : val_main_v26 (F := Ideal) x1 x3 j = second (shapeCast S512x1024 x1 shapeCasts_S1x512x1024_S512x1024 j) (shapeCast S512x1024 x3 shapeCasts_S1x512x1024_S512x1024 j) :=
  second_entry x1 x3 _

/-- After the run the array of the second moments is the reference's. -/
theorem second_final (c : Dev nD) : (dats m 0 c).arrAt 6 cfg0.N = (show FVec Ideal S512x1024 .f32 from val_main_v26 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.WOut

/-! ## ssd_w_in -/

namespace Cert.Step.SsdWIn

open Cert.Kernel21Ideal Cert.Kernel21Ideal.Gen Cert.Reference21Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay4 (F := Ideal) x1 x2 x3 x0 j = change (x0 j) (x1 j) (x2 j) (x3 j) := by
  pointwise [k0_pay4, k0_pay2, k0_pay3, k0_pay1, change, first, second]

theorem change_entry (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

theorem change_ref (x0 x1 x2 x3 : FVec Ideal S1x1024x1288 .f32) (j) : val_main_v24 (F := Ideal) x0 x1 x2 x3 j = change (shapeCast S1024x1288 x0 shapeCasts_S1x1024x1288_S1024x1288 j) (shapeCast S1024x1288 x1 shapeCasts_S1x1024x1288_S1024x1288 j) (shapeCast S1024x1288 x2 shapeCasts_S1x1024x1288_S1024x1288 j) (shapeCast S1024x1288 x3 shapeCasts_S1x1024x1288_S1024x1288 j) :=
  change_entry x0 x1 x2 x3 _

/-- After the run the array of the changes is the reference's. -/
theorem change_final (c : Dev nD) : (dats m 0 c).arrAt 4 cfg0.N = (show FVec Ideal S1024x1288 .f32 from val_main_v24 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay2 (F := Ideal) x1 x2 j = first (x1 j) (x2 j) := by
  pointwise [k0_pay2, k0_pay1, first]

theorem first_entry (x1 x2 j) : val_main_v4 (F := Ideal) x1 x2 j = first (x1 j) (x2 j) := by
  pointwise [val_main_v4, val_main_v3, val_main_v2, val_main_v1, val_main_v0, val_main_cst, val_main_cst_0, first]

theorem first_ref (x1 x2 : FVec Ideal S1x1024x1288 .f32) (j) : val_main_v25 (F := Ideal) x1 x2 j = first (shapeCast S1024x1288 x1 shapeCasts_S1x1024x1288_S1024x1288 j) (shapeCast S1024x1288 x2 shapeCasts_S1x1024x1288_S1024x1288 j) :=
  first_entry x1 x2 _

/-- After the run the array of the first moments is the reference's. -/
theorem first_final (c : Dev nD) : (dats m 0 c).arrAt 5 cfg0.N = (show FVec Ideal S1024x1288 .f32 from val_main_v25 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay3 (F := Ideal) x1 x3 j = second (x1 j) (x3 j) := by
  pointwise [k0_pay3, k0_pay1, second]

theorem second_entry (x1 x3 j) : val_main_v10 (F := Ideal) x1 x3 j = second (x1 j) (x3 j) := by
  pointwise [val_main_v10, val_main_v9, val_main_v8, val_main_v7, val_main_v6, val_main_v5, val_main_cst_1, val_main_cst_2, second]

theorem second_ref (x1 x3 : FVec Ideal S1x1024x1288 .f32) (j) : val_main_v26 (F := Ideal) x1 x3 j = second (shapeCast S1024x1288 x1 shapeCasts_S1x1024x1288_S1024x1288 j) (shapeCast S1024x1288 x3 shapeCasts_S1x1024x1288_S1024x1288 j) :=
  second_entry x1 x3 _

/-- After the run the array of the second moments is the reference's. -/
theorem second_final (c : Dev nD) : (dats m 0 c).arrAt 6 cfg0.N = (show FVec Ideal S1024x1288 .f32 from val_main_v26 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.SsdWIn

/-! ## ssd_conv_w -/

namespace Cert.Step.SsdConvW

open Cert.Kernel22Ideal Cert.Kernel22Ideal.Gen Cert.Reference22Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay4 (F := Ideal) x1 x2 x3 x0 j = change (x0 j) (x1 j) (x2 j) (x3 j) := by
  pointwise [k0_pay4, k0_pay2, k0_pay3, k0_pay1, change, first, second]

theorem change_entry (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

theorem change_ref (x0 x1 x2 x3 : FVec Ideal S1x4x768 .f32) (j) : val_main_v24 (F := Ideal) x0 x1 x2 x3 j = change (shapeCast S4x768 x0 shapeCasts_S1x4x768_S4x768 j) (shapeCast S4x768 x1 shapeCasts_S1x4x768_S4x768 j) (shapeCast S4x768 x2 shapeCasts_S1x4x768_S4x768 j) (shapeCast S4x768 x3 shapeCasts_S1x4x768_S4x768 j) :=
  change_entry x0 x1 x2 x3 _

/-- After the run the array of the changes is the reference's. -/
theorem change_final (c : Dev nD) : (dats m 0 c).arrAt 4 cfg0.N = (show FVec Ideal S4x768 .f32 from val_main_v24 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay2 (F := Ideal) x1 x2 j = first (x1 j) (x2 j) := by
  pointwise [k0_pay2, k0_pay1, first]

theorem first_entry (x1 x2 j) : val_main_v4 (F := Ideal) x1 x2 j = first (x1 j) (x2 j) := by
  pointwise [val_main_v4, val_main_v3, val_main_v2, val_main_v1, val_main_v0, val_main_cst, val_main_cst_0, first]

theorem first_ref (x1 x2 : FVec Ideal S1x4x768 .f32) (j) : val_main_v25 (F := Ideal) x1 x2 j = first (shapeCast S4x768 x1 shapeCasts_S1x4x768_S4x768 j) (shapeCast S4x768 x2 shapeCasts_S1x4x768_S4x768 j) :=
  first_entry x1 x2 _

/-- After the run the array of the first moments is the reference's. -/
theorem first_final (c : Dev nD) : (dats m 0 c).arrAt 5 cfg0.N = (show FVec Ideal S4x768 .f32 from val_main_v25 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay3 (F := Ideal) x1 x3 j = second (x1 j) (x3 j) := by
  pointwise [k0_pay3, k0_pay1, second]

theorem second_entry (x1 x3 j) : val_main_v10 (F := Ideal) x1 x3 j = second (x1 j) (x3 j) := by
  pointwise [val_main_v10, val_main_v9, val_main_v8, val_main_v7, val_main_v6, val_main_v5, val_main_cst_1, val_main_cst_2, second]

theorem second_ref (x1 x3 : FVec Ideal S1x4x768 .f32) (j) : val_main_v26 (F := Ideal) x1 x3 j = second (shapeCast S4x768 x1 shapeCasts_S1x4x768_S4x768 j) (shapeCast S4x768 x3 shapeCasts_S1x4x768_S4x768 j) :=
  second_entry x1 x3 _

/-- After the run the array of the second moments is the reference's. -/
theorem second_final (c : Dev nD) : (dats m 0 c).arrAt 6 cfg0.N = (show FVec Ideal S4x768 .f32 from val_main_v26 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.SsdConvW

/-! ## ssd_conv_b -/

namespace Cert.Step.SsdConvB

open Cert.Kernel23Ideal Cert.Kernel23Ideal.Gen Cert.Reference23Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay3 (F := Ideal) x1 x2 x3 x0 j = change (x0 j) (x1 j) (x2 j) (x3 j) := by
  pointwise [k0_pay3, k0_pay1, k0_pay2, change, first, second]

theorem change_ref (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

/-- After the run the array of the changes is the reference's. -/
theorem change_final (c : Dev nD) : (dats m 0 c).arrAt 4 cfg0.N = (show FVec Ideal S1x768 .f32 from val_main_v23 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay1 (F := Ideal) x1 x2 j = first (x1 j) (x2 j) := by
  pointwise [k0_pay1, first]

theorem first_ref (x1 x2 j) : val_main_v4 (F := Ideal) x1 x2 j = first (x1 j) (x2 j) := by
  pointwise [val_main_v4, val_main_v3, val_main_v2, val_main_v1, val_main_v0, val_main_cst, val_main_cst_0, first]

/-- After the run the array of the first moments is the reference's. -/
theorem first_final (c : Dev nD) : (dats m 0 c).arrAt 5 cfg0.N = (show FVec Ideal S1x768 .f32 from val_main_v4 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay2 (F := Ideal) x1 x3 j = second (x1 j) (x3 j) := by
  pointwise [k0_pay2, second]

theorem second_ref (x1 x3 j) : val_main_v10 (F := Ideal) x1 x3 j = second (x1 j) (x3 j) := by
  pointwise [val_main_v10, val_main_v9, val_main_v8, val_main_v7, val_main_v6, val_main_v5, val_main_cst_1, val_main_cst_2, second]

/-- After the run the array of the second moments is the reference's. -/
theorem second_final (c : Dev nD) : (dats m 0 c).arrAt 6 cfg0.N = (show FVec Ideal S1x768 .f32 from val_main_v10 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.SsdConvB

/-! ## ssd_a_log, ssd_dt_bias and ssd_d_skip -/

namespace Cert.Step.SsdALog

open Cert.Kernel24Ideal Cert.Kernel24Ideal.Gen Cert.Reference24Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay3 (F := Ideal) x1 x2 x3 x0 j = change (x0 j) (x1 j) (x2 j) (x3 j) := by
  pointwise [k0_pay3, k0_pay1, k0_pay2, change, first, second]

theorem change_ref (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

/-- After the run the array of the changes is the reference's. -/
theorem change_final (c : Dev nD) : (dats m 0 c).arrAt 4 cfg0.N = (show FVec Ideal S1x32 .f32 from val_main_v23 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay1 (F := Ideal) x1 x2 j = first (x1 j) (x2 j) := by
  pointwise [k0_pay1, first]

theorem first_ref (x1 x2 j) : val_main_v4 (F := Ideal) x1 x2 j = first (x1 j) (x2 j) := by
  pointwise [val_main_v4, val_main_v3, val_main_v2, val_main_v1, val_main_v0, val_main_cst, val_main_cst_0, first]

/-- After the run the array of the first moments is the reference's. -/
theorem first_final (c : Dev nD) : (dats m 0 c).arrAt 5 cfg0.N = (show FVec Ideal S1x32 .f32 from val_main_v4 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay2 (F := Ideal) x1 x3 j = second (x1 j) (x3 j) := by
  pointwise [k0_pay2, second]

theorem second_ref (x1 x3 j) : val_main_v10 (F := Ideal) x1 x3 j = second (x1 j) (x3 j) := by
  pointwise [val_main_v10, val_main_v9, val_main_v8, val_main_v7, val_main_v6, val_main_v5, val_main_cst_1, val_main_cst_2, second]

/-- After the run the array of the second moments is the reference's. -/
theorem second_final (c : Dev nD) : (dats m 0 c).arrAt 6 cfg0.N = (show FVec Ideal S1x32 .f32 from val_main_v10 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.SsdALog

/-! ## ssd_norm_w -/

namespace Cert.Step.SsdNormW

open Cert.Kernel25Ideal Cert.Kernel25Ideal.Gen Cert.Reference25Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay3 (F := Ideal) x1 x2 x3 x0 j = change (x0 j) (x1 j) (x2 j) (x3 j) := by
  pointwise [k0_pay3, k0_pay1, k0_pay2, change, first, second]

theorem change_ref (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

/-- After the run the array of the changes is the reference's. -/
theorem change_final (c : Dev nD) : (dats m 0 c).arrAt 4 cfg0.N = (show FVec Ideal S1x512 .f32 from val_main_v23 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay1 (F := Ideal) x1 x2 j = first (x1 j) (x2 j) := by
  pointwise [k0_pay1, first]

theorem first_ref (x1 x2 j) : val_main_v4 (F := Ideal) x1 x2 j = first (x1 j) (x2 j) := by
  pointwise [val_main_v4, val_main_v3, val_main_v2, val_main_v1, val_main_v0, val_main_cst, val_main_cst_0, first]

/-- After the run the array of the first moments is the reference's. -/
theorem first_final (c : Dev nD) : (dats m 0 c).arrAt 5 cfg0.N = (show FVec Ideal S1x512 .f32 from val_main_v4 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay2 (F := Ideal) x1 x3 j = second (x1 j) (x3 j) := by
  pointwise [k0_pay2, second]

theorem second_ref (x1 x3 j) : val_main_v10 (F := Ideal) x1 x3 j = second (x1 j) (x3 j) := by
  pointwise [val_main_v10, val_main_v9, val_main_v8, val_main_v7, val_main_v6, val_main_v5, val_main_cst_1, val_main_cst_2, second]

/-- After the run the array of the second moments is the reference's. -/
theorem second_final (c : Dev nD) : (dats m 0 c).arrAt 6 cfg0.N = (show FVec Ideal S1x512 .f32 from val_main_v10 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.SsdNormW

/-! ## ln_g and ln_b -/

namespace Cert.Step.Norm

open Cert.Kernel26Ideal Cert.Kernel26Ideal.Gen Cert.Reference26Ideal.Read
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem change_pay (x1 x2 x3 x0 j) : k0_pay3 (F := Ideal) x1 x2 x3 x0 j = change (x0 j) (x1 j) (x2 j) (x3 j) := by
  pointwise [k0_pay3, k0_pay1, k0_pay2, change, first, second]

theorem change_ref (x0 x1 x2 x3 j) : val_main_v23 (F := Ideal) x0 x1 x2 x3 j = change (x0 j) (x1 j) (x2 j) (x3 j) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, change, first, second]

/-- After the run the array of the changes is the reference's. -/
theorem change_final (c : Dev nD) : (dats m 0 c).arrAt 4 cfg0.N = (show FVec Ideal S4x1024 .f32 from val_main_v23 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  blk_simp
  rw [after0_4]
  unfold out0_4
  frame_out
  rw [change_pay, change_ref]
  congr 1 <;> blk_point [iblk, V, idx t]

theorem first_pay (x1 x2 j) : k0_pay1 (F := Ideal) x1 x2 j = first (x1 j) (x2 j) := by
  pointwise [k0_pay1, first]

theorem first_ref (x1 x2 j) : val_main_v4 (F := Ideal) x1 x2 j = first (x1 j) (x2 j) := by
  pointwise [val_main_v4, val_main_v3, val_main_v2, val_main_v1, val_main_v0, val_main_cst, val_main_cst_0, first]

/-- After the run the array of the first moments is the reference's. -/
theorem first_final (c : Dev nD) : (dats m 0 c).arrAt 5 cfg0.N = (show FVec Ideal S4x1024 .f32 from val_main_v4 (F := Ideal) (m ((c : Thread nD τ).loc main_arg1)) (m ((c : Thread nD τ).loc main_arg2))) := by
  refine (dats m 0 c).arrAt_eq_of_covers 5 _ (by decide +kernel) fun t hf y => ?_
  blk_simp
  rw [after0_5]
  unfold out0_5
  frame_out
  rw [first_pay, first_ref]
  congr 1 <;> blk_point [iblk, V, idx t]

theorem second_pay (x1 x3 j) : k0_pay2 (F := Ideal) x1 x3 j = second (x1 j) (x3 j) := by
  pointwise [k0_pay2, second]

theorem second_ref (x1 x3 j) : val_main_v10 (F := Ideal) x1 x3 j = second (x1 j) (x3 j) := by
  pointwise [val_main_v10, val_main_v9, val_main_v8, val_main_v7, val_main_v6, val_main_v5, val_main_cst_1, val_main_cst_2, second]

/-- After the run the array of the second moments is the reference's. -/
theorem second_final (c : Dev nD) : (dats m 0 c).arrAt 6 cfg0.N = (show FVec Ideal S4x1024 .f32 from val_main_v10 (F := Ideal) (m ((c : Thread nD τ).loc main_arg1)) (m ((c : Thread nD τ).loc main_arg3))) := by
  refine (dats m 0 c).arrAt_eq_of_covers 6 _ (by decide +kernel) fun t hf y => ?_
  blk_simp
  rw [after0_6]
  unfold out0_6
  frame_out
  rw [second_pay, second_ref]
  congr 1 <;> blk_point [iblk, V, idx t]

end Cert.Step.Norm
-- ==== Proof.Shards.lean ====
/-
  The sums over the chips of the weights' gradients, and the shards of `w_in`: cut from its gradient, and joined into it.
-/
module

public import proofs.«01_k».proof.Proof.Blocked
public import Idealize.ShloMosaic.Lib.KernelVsHost
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel33Ideal.Value
public import proofs.«01_k».proof.Proof.Gen.Reference33Ideal.Run
public import proofs.«01_k».proof.Proof.Gen.Reference33Ideal.Read
public import proofs.«01_k».proof.Proof.Gen.Kernel34Ideal.Value
public import proofs.«01_k».proof.Proof.Gen.Reference34Ideal.Run
public import proofs.«01_k».proof.Proof.Gen.Reference34Ideal.Read
public import proofs.«01_k».proof.Proof.Gen.Kernel35Ideal.Value
public import proofs.«01_k».proof.Proof.Gen.Reference35Ideal.Run
public import proofs.«01_k».proof.Proof.Gen.Reference35Ideal.Read
public import proofs.«01_k».proof.Proof.Gen.Kernel36Ideal.Value
public import proofs.«01_k».proof.Proof.Gen.Reference36Ideal.Run
public import proofs.«01_k».proof.Proof.Gen.Reference36Ideal.Read
public import proofs.«01_k».proof.Proof.Gen.Kernel37Ideal.Value
public import proofs.«01_k».proof.Proof.Gen.Reference37Ideal.Run
public import proofs.«01_k».proof.Proof.Gen.Reference37Ideal.Read
public import proofs.«01_k».proof.Proof.Gen.Kernel38Ideal.Value
public import proofs.«01_k».proof.Proof.Gen.Reference38Ideal.Run
public import proofs.«01_k».proof.Proof.Gen.Reference38Ideal.Read
public import proofs.«01_k».proof.Proof.Gen.Kernel39Ideal.Value
public import proofs.«01_k».proof.Proof.Gen.Reference39Ideal.Run
public import proofs.«01_k».proof.Proof.Gen.Reference39Ideal.Read

@[expose] public section

set_option maxRecDepth 16384

noncomputable section

open Idealize.ShloMosaic Idealize.ShloMosaic.TcCoe Idealize.SL.Sem
open Idealize.ShloMosaic.Pipeline (Dat)

/-! ## Columns of a block -/

namespace Cert.Merge

/-- Writes that all agree with one function, and that reach an index, leave it there. -/
theorem canon_agree {s : Shape} {e : EltTy} {Val : EltTy → Type} [∀ e, Nonempty (Val e)] (E : s.Idx → Val e) (L : List (View.Piece Val s e)) (y : s.Idx)
    (h : ∃ p ∈ L, y ∈ p.1.set) (hE : ∀ p ∈ L, ∀ x, p.2 x = E (p.1.emb x)) : View.canon L y = E y :=
  View.canon_apply_of_pieces E L hE y h

/-- A stretch of columns holds the indices between its first column and its last. -/
theorem cols {R C off n : Nat} (inb) (y : (⟨2, ![R, C]⟩ : Shape).Idx) (h : off ≤ (y 1).val) (h' : (y 1).val < off + n) :
    y ∈ (Rect.unit (s := ⟨2, ![R, C]⟩) ![0, off] ![R, n] inb).set :=
  Rect.mem_set_unit.mpr fun b => match b with
    | ⟨0, _⟩ => ⟨Nat.zero_le _, by have h0 : (y 0).val < R := (y 0).isLt; show (y 0).val < 0 + R; omega⟩
    | ⟨1, _⟩ => ⟨h, h'⟩

theorem row {R C off n : Nat} (inb) (j : (Rect.unit (s := ⟨2, ![R, C]⟩) ![0, off] ![R, n] inb).shape.Idx) :
    ((Rect.unit (s := ⟨2, ![R, C]⟩) ![0, off] ![R, n] inb).emb j 0).val = (j 0).val :=
  (ValueKit.rect_emb_unit_val (s := ⟨2, ![R, C]⟩) ![0, off] ![R, n] inb j 0).trans (Nat.zero_add _)

theorem column {R C off n : Nat} (inb) (j : (Rect.unit (s := ⟨2, ![R, C]⟩) ![0, off] ![R, n] inb).shape.Idx) :
    ((Rect.unit (s := ⟨2, ![R, C]⟩) ![0, off] ![R, n] inb).emb j 1).val = off + (j 1).val :=
  ValueKit.rect_emb_unit_val (s := ⟨2, ![R, C]⟩) ![0, off] ![R, n] inb j 1

end Cert.Merge

/-! ## The sum over the chips of the products' weights' gradients -/

namespace Cert.ChipSum.Products

open Cert.Kernel32Ideal Cert.Kernel32Ideal.Gen Cert.Kernel32Ideal.Value Cert.Reference32Ideal.Read
variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

theorem pay (x0 x1 x2 x3 j) : k0_pay1 (F := Ideal) x0 x1 x2 x3 j
    = x0 (ix3 0 (j 0) (j 1)) + x1 (ix3 0 (j 0) (j 1)) + x2 (ix3 0 (j 0) (j 1)) + x3 (ix3 0 (j 0) (j 1)) := by
  pointwise [k0_pay1]

theorem at_chip (j : Cert.Reference32Ideal.S4352x1024.Idx) (k : Fin 4) : idx_main_v2 j k = ix3 k (j 0) (j 1) :=
  funext fun a => match a with
    | ⟨0, _⟩ => rfl
    | ⟨1, _⟩ => rfl
    | ⟨2, _⟩ => rfl

theorem ref (x j) : val_main_v2 (F := Ideal) x j
    = x (ix3 0 (j 0) (j 1)) + x (ix3 1 (j 0) (j 1)) + x (ix3 2 (j 0) (j 1)) + x (ix3 3 (j 0) (j 1)) := by
  rw [val_main_v2_apply, Fin.sum_univ_four]
  pointwise [val_main_v1, val_main_v0, val_main_cst, at_chip]

/-- After the run the array of the sums is the reference's. -/
theorem final (c : Dev nD) : (dats m 0 c).arrAt 1 cfg0.N
    = (show FVec Ideal S4352x1024 .f32 from val_main_v2 (F := Ideal) (m ((c : Thread nD τ).loc main_arg0))) := by
  refine (dats m 0 c).arrAt_eq_of_covers 1 _ (by decide +kernel) fun t hf y => ?_
  blk_simp
  rw [after0_1]
  unfold out0_1
  frame_out
  rw [pay, ref]
  congr 3 <;> blk_point [iblk, V, idx t]

end Cert.ChipSum.Products

/-! ## The sum over the chips of the other weights' gradients -/

namespace Cert.ChipSum.Others

open Cert.Kernel33Ideal Cert.Kernel33Ideal.Gen Cert.Kernel33Ideal.Value Cert.Reference33Ideal.Read
variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

theorem pay (x0 x1 x2 x3 j) : k0_pay1 (F := Ideal) x0 x1 x2 x3 j
    = x0 (ix3 0 (j 0) (j 1)) + x1 (ix3 0 (j 0) (j 1)) + x2 (ix3 0 (j 0) (j 1)) + x3 (ix3 0 (j 0) (j 1)) := by
  pointwise [k0_pay1]

theorem at_chip (j : Cert.Reference33Ideal.S256x1024.Idx) (k : Fin 4) : idx_main_v0 j k = ix3 k (j 0) (j 1) :=
  funext fun a => match a with
    | ⟨0, _⟩ => rfl
    | ⟨1, _⟩ => rfl
    | ⟨2, _⟩ => rfl

theorem ref (x j) : val_main_v0 (F := Ideal) x j
    = x (ix3 0 (j 0) (j 1)) + x (ix3 1 (j 0) (j 1)) + x (ix3 2 (j 0) (j 1)) + x (ix3 3 (j 0) (j 1)) := by
  rw [val_main_v0_apply, Fin.sum_univ_four]
  pointwise [val_main_cst, at_chip]

/-- After the run the array of the sums is the reference's. -/
theorem final (c : Dev nD) : (dats m 0 c).arrAt 1 cfg0.N
    = (show FVec Ideal S256x1024 .f32 from val_main_v0 (F := Ideal) (m ((c : Thread nD τ).loc main_arg0))) := by
  refine (dats m 0 c).arrAt_eq_of_covers 1 _ (by decide +kernel) fun t hf y => ?_
  blk_simp
  rw [after0_1]
  unfold out0_1
  frame_out
  rw [pay, ref]
  congr 3 <;> blk_point [iblk, V, idx t]

end Cert.ChipSum.Others

/-! ## The shards of a `gdn` layer's gradient -/

namespace Cert.Split.Gdn

open Cert.Kernel34Ideal Cert.Kernel34Ideal.Gen Cert.Reference34Ideal.Read
variable (m : (ℓ : Loc nD τ sig) → Buf (Elt Ideal) ℓ)

theorem idx : ∀ t : Fin cfg0.N, win0_0.index t = ![t.val, 0] ∧ win0_1.index t = ![0, t.val, 0] :=
  (by decide +kernel : ∀ t : Fin grid0.N, _)

/-- One block of all the shards, of the block of rows. -/
def cut (x : Vec Ideal S128x6272 .f32) : Vec Ideal S4x128x1544 .f32 := fun y =>
  x (ix2 (y 1) ⟨1544 * (y 0).val + (y 2).val, by
    have h : (y 0).val < 4 := (y 0).isLt; have h' : (y 2).val < 1544 := (y 2).isLt; omega⟩)

theorem ref (x j) : val_main_v2 (F := Ideal) x j = x (ix2 (j 1) ⟨1544 * (j 0).val + (j 2).val, by
    have h : (j 0).val < 4 := (j 0).isLt; have h' : (j 2).val < 1544 := (j 2).isLt; omega⟩) := by
  rw [val_main_v2_apply, val_main_v1_apply, val_main_v0_apply]
  blk_point

theorem out (x y) : out0_1 (F := Ideal) x y = cut x y := by
  unfold out0_1
  refine View.canon_apply_of_pieces (cut x) _ (fun p hp j => ?_) y (cover0_1 _ _ _ _ y)
  simp only [List.mem_cons, List.not_mem_nil, or_false] at hp
  rcases hp with rfl | rfl | rfl | rfl
  all_goals
    pointwise [k0_pay1, k0_pay2, k0_pay3, k0_pay4]
    unfold cut
    blk_point

/-- After the run the array of the shards is the reference's. -/
theorem final (c : Dev nD) : (dats m 0 c).arrAt 1 cfg0.N
    = (show FVec Ideal S4x1024x1544 .f32 from val_main_v2 (F := Ideal) (m ((c : Thread nD τ).loc main_arg0))) := by
  refine (dats m 0 c).arrAt_eq_of_covers 1 _ (by decide +kernel) fun t hf y => ?_
  blk_simp
  rw [after0_1, out, ref]
  unfold cut
  blk_point [iblk, V, idx t]

end Cert.Split.Gdn

/-! ## The shards of an `sc` layer's gradient -/

namespace Cert.Split.Sc

open Cert.Kernel35Ideal Cert.Kernel35Ideal.Gen Cert.Reference35Ideal.Read
variable (m : (ℓ : Loc nD τ sig) → Buf (Elt Ideal) ℓ)

theorem idx : ∀ t : Fin cfg0.N, win0_0.index t = ![t.val, 0] ∧ win0_1.index t = ![0, t.val, 0] :=
  (by decide +kernel : ∀ t : Fin grid0.N, _)

/-- One block of all the shards, of the block of rows. -/
def cut (x : Vec Ideal S128x8192 .f32) : Vec Ideal S4x128x2048 .f32 := fun y =>
  x (ix2 (y 1) ⟨2048 * (y 0).val + (y 2).val, by
    have h : (y 0).val < 4 := (y 0).isLt; have h' : (y 2).val < 2048 := (y 2).isLt; omega⟩)

theorem ref (x j) : val_main_v1 (F := Ideal) x j = x (ix2 (j 1) ⟨2048 * (j 0).val + (j 2).val, by
    have h : (j 0).val < 4 := (j 0).isLt; have h' : (j 2).val < 2048 := (j 2).isLt; omega⟩) := by
  rw [val_main_v1_apply, val_main_v0_apply]
  blk_point

theorem out (x y) : out0_1 (F := Ideal) x y = cut x y := by
  unfold out0_1
  refine View.canon_apply_of_pieces (cut x) _ (fun p hp j => ?_) y (cover0_1 _ _ _ _ y)
  simp only [List.mem_cons, List.not_mem_nil, or_false] at hp
  rcases hp with rfl | rfl | rfl | rfl
  all_goals
    pointwise [k0_pay1, k0_pay2, k0_pay3, k0_pay4]
    unfold cut
    blk_point

/-- After the run the array of the shards is the reference's. -/
theorem final (c : Dev nD) : (dats m 0 c).arrAt 1 cfg0.N
    = (show FVec Ideal S4x1024x2048 .f32 from val_main_v1 (F := Ideal) (m ((c : Thread nD τ).loc main_arg0))) := by
  refine (dats m 0 c).arrAt_eq_of_covers 1 _ (by decide +kernel) fun t hf y => ?_
  blk_simp
  rw [after0_1, out, ref]
  unfold cut
  blk_point [iblk, V, idx t]

end Cert.Split.Sc

/-! ## The shards of an `ssd` layer's gradient -/

namespace Cert.Split.Ssd

open Cert.Kernel36Ideal Cert.Kernel36Ideal.Gen Cert.Reference36Ideal.Read
variable (m : (ℓ : Loc nD τ sig) → Buf (Elt Ideal) ℓ)

theorem idx : ∀ t : Fin cfg0.N, win0_0.index t = ![t.val, 0] ∧ win0_1.index t = ![0, t.val, 0] :=
  (by decide +kernel : ∀ t : Fin grid0.N, _)

/-- One block of all the shards, of the block of rows. -/
def cut (x : Vec Ideal S128x5376 .f32) : Vec Ideal S4x128x1288 .f32 := fun y =>
  x (ix2 (y 1) ⟨1288 * (y 0).val + (y 2).val, by
    have h : (y 0).val < 4 := (y 0).isLt; have h' : (y 2).val < 1288 := (y 2).isLt; omega⟩)

theorem ref (x j) : val_main_v2 (F := Ideal) x j = x (ix2 (j 1) ⟨1288 * (j 0).val + (j 2).val, by
    have h : (j 0).val < 4 := (j 0).isLt; have h' : (j 2).val < 1288 := (j 2).isLt; omega⟩) := by
  rw [val_main_v2_apply, val_main_v1_apply, val_main_v0_apply]
  blk_point

theorem out (x y) : out0_1 (F := Ideal) x y = cut x y := by
  unfold out0_1
  refine View.canon_apply_of_pieces (cut x) _ (fun p hp j => ?_) y (cover0_1 _ _ _ _ y)
  simp only [List.mem_cons, List.not_mem_nil, or_false] at hp
  rcases hp with rfl | rfl | rfl | rfl
  all_goals
    pointwise [k0_pay1, k0_pay2, k0_pay3, k0_pay4]
    unfold cut
    blk_point

/-- After the run the array of the shards is the reference's. -/
theorem final (c : Dev nD) : (dats m 0 c).arrAt 1 cfg0.N
    = (show FVec Ideal S4x1024x1288 .f32 from val_main_v2 (F := Ideal) (m ((c : Thread nD τ).loc main_arg0))) := by
  refine (dats m 0 c).arrAt_eq_of_covers 1 _ (by decide +kernel) fun t hf y => ?_
  blk_simp
  rw [after0_1, out, ref]
  unfold cut
  blk_point [iblk, V, idx t]

end Cert.Split.Ssd

/-! ## An `sc` layer's `w_in` from its shards -/

namespace Cert.Merge.Sc

open Cert.Kernel38Ideal Cert.Kernel38Ideal.Gen Cert.Reference38Ideal.Read
variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

/-- One block of rows, of the block of all the shards. -/
def join (x : Vec Ideal S4x128x2048 .bf16) : Vec Ideal S128x8192 .bf16 := fun y =>
  x (ix3 ⟨(y 1).val / 2048, by have h : (y 1).val < 8192 := (y 1).isLt; omega⟩ (y 0)
    ⟨(y 1).val % 2048, Nat.mod_lt _ (by omega)⟩)

theorem out (x y) : out0_1 (F := Ideal) x y = join x y := by
  unfold out0_1
  refine View.canon_apply_of_pieces (join x) _ (fun p hp j => ?_) y (cover0_1 _ _ _ _ y)
  simp only [List.mem_cons, List.not_mem_nil, or_false] at hp
  rcases hp with rfl | rfl | rfl | rfl
  all_goals
    pointwise [k0_pay1, k0_pay2, k0_pay3, k0_pay4]
    unfold join
    blk_point

theorem ref (x j) : val_main_v3 (F := Ideal) x j = x (ix3 ⟨(j 1).val / 2048, by have h : (j 1).val < 8192 := (j 1).isLt; omega⟩ (j 0)
    ⟨(j 1).val % 2048, Nat.mod_lt _ (by omega)⟩) := by
  pointwise [val_main_v3, val_main_v2]
  rw [val_main_v1_apply, val_main_v0_apply]
  blk_point

/-- After the run the result array is the reference's. -/
theorem final (c : Dev nD) : (dats m 0 c).arrAt 1 cfg0.N
    = (show FVec Ideal S1024x8192 .bf16 from val_main_v3 (F := Ideal) (m ((c : Thread nD τ).loc main_arg0))) := by
  refine (dats m 0 c).arrAt_eq_of_covers 1 _ (by decide +kernel) fun t hf y => ?_
  blk_simp
  rw [after0_1, out, ref]
  unfold join
  blk_point [iblk, V, idx t]

end Cert.Merge.Sc

/-! ## A `gdn` layer's `w_in` from its shards -/

namespace Cert.Merge.Gdn

open Cert.Kernel37Ideal Cert.Kernel37Ideal.Gen Cert.Reference37Ideal.Read
variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

/-- One block of rows, of the block of all the shards: zero right of the shards. -/
def join (x : Vec Ideal S4x128x1544 .bf16) : Vec Ideal S128x6272 .bf16 := fun y =>
  if h : (y 1).val < 6176 then x (ix3 ⟨(y 1).val / 1544, by omega⟩ (y 0) ⟨(y 1).val % 1544, Nat.mod_lt _ (by omega)⟩) else (0 : EReal)

theorem join_left (x : Vec Ideal S4x128x1544 .bf16) (y : S128x6272.Idx) (s : Fin 4) (a : Fin 128) (b : Fin 1544)
    (h0 : (y 0).val = a.val) (h1 : (y 1).val = 1544 * s.val + b.val) : join x y = x (ix3 s a b) := by
  have hy : (y 1).val < 6176 := by omega
  unfold join
  rw [dif_pos hy]
  congr 1
  funext d
  match d with
  | ⟨0, _⟩ => exact Fin.ext (by show (y 1).val / 1544 = s.val; omega)
  | ⟨1, _⟩ => exact Fin.ext h0
  | ⟨2, _⟩ => exact Fin.ext (by show (y 1).val % 1544 = b.val; omega)

theorem join_right (x : Vec Ideal S4x128x1544 .bf16) (y : S128x6272.Idx) (h : 6176 ≤ (y 1).val) : join x y = (0 : EReal) :=
  dif_neg (by omega)

theorem out (c : Dev nD) (t : Fin cfg0.N) (y) : outsAt0 m c t y = join (iblk m c 0 t) y := by
  unfold outsAt0
  frame_out
  refine canon_agree (join (iblk m c 0 t)) _ y ?_ fun p hp j => ?_
  · have hy : (y 1).val < 6272 := (y 1).isLt
    by_cases h4 : 6176 ≤ (y 1).val
    · exact ⟨_, List.mem_cons_self, cols inb_S128x6272_S128x96_0_6176 y (by omega) (by omega)⟩
    refine (?_ : ∃ p ∈ _, _).imp fun _ h => ⟨List.mem_cons_of_mem _ h.1, h.2⟩
    by_cases h3 : 4632 ≤ (y 1).val
    · exact ⟨_, List.mem_cons_self, cols inb_S128x6272_S128x1544_0_4632 y (by omega) (by omega)⟩
    refine (?_ : ∃ p ∈ _, _).imp fun _ h => ⟨List.mem_cons_of_mem _ h.1, h.2⟩
    by_cases h2 : 3088 ≤ (y 1).val
    · exact ⟨_, List.mem_cons_self, cols inb_S128x6272_S128x1544_0_3088 y (by omega) (by omega)⟩
    refine (?_ : ∃ p ∈ _, _).imp fun _ h => ⟨List.mem_cons_of_mem _ h.1, h.2⟩
    by_cases h1 : 1544 ≤ (y 1).val
    · exact ⟨_, List.mem_cons_self, cols inb_S128x6272_S128x1544_0_1544 y (by omega) (by omega)⟩
    exact ⟨_, List.mem_cons_of_mem _ List.mem_cons_self, cols inb_S128x6272_S128x1544_0_0 y (by omega) (by omega)⟩
  · simp only [List.mem_cons, List.not_mem_nil, or_false] at hp
    rcases hp with rfl | rfl | rfl | rfl | rfl
    · rw [join_right _ _ (by rw [column]; omega)]
      pointwise [k0_pay5]
    · rw [join_left _ _ 3 (j 0) (j 1) (row _ j) (column _ j)]
      pointwise [k0_pay4]
    · rw [join_left _ _ 2 (j 0) (j 1) (row _ j) (column _ j)]
      pointwise [k0_pay3]
    · rw [join_left _ _ 1 (j 0) (j 1) (row _ j) (column _ j)]
      pointwise [k0_pay2]
    · rw [join_left _ _ 0 (j 0) (j 1) (row _ j) (column _ j)]
      pointwise [k0_pay1]

theorem ref (x j) : val_main_v3 (F := Ideal) x j
    = if h : (j 1).val < 6176 then x (ix3 ⟨(j 1).val / 1544, by omega⟩ (j 0) ⟨(j 1).val % 1544, Nat.mod_lt _ (by omega)⟩) else (0 : EReal) := by
  pointwise [val_main_v3, val_main_v2]
  split
  · rw [val_main_v1_apply, val_main_v0_apply]
    blk_point
  · exact sitofp_zero (φ := .bf16)

/-- After the run the result array is the reference's. -/
theorem final (c : Dev nD) : (dats m 0 c).arrAt 1 cfg0.N
    = (show FVec Ideal S1024x6272 .bf16 from val_main_v3 (F := Ideal) (m ((c : Thread nD τ).loc main_arg0))) := by
  refine (dats m 0 c).arrAt_eq_of_covers 1 _ (by decide +kernel) fun t hf y => ?_
  have e := idx t
  blk_simp
  rw [after0_1, out, ref]
  unfold join
  blk_simp [idx t]
  split
  · blk_point [iblk, V, idx t]
  · rfl

end Cert.Merge.Gdn

/-! ## An `ssd` layer's `w_in` from its shards -/

namespace Cert.Merge.Ssd

open Cert.Kernel39Ideal Cert.Kernel39Ideal.Gen Cert.Reference39Ideal.Read
variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

/-- One block of rows, of the block of all the shards: zero right of the shards. -/
def join (x : Vec Ideal S4x128x1288 .bf16) : Vec Ideal S128x5376 .bf16 := fun y =>
  if h : (y 1).val < 5152 then x (ix3 ⟨(y 1).val / 1288, by omega⟩ (y 0) ⟨(y 1).val % 1288, Nat.mod_lt _ (by omega)⟩) else (0 : EReal)

theorem join_left (x : Vec Ideal S4x128x1288 .bf16) (y : S128x5376.Idx) (s : Fin 4) (a : Fin 128) (b : Fin 1288)
    (h0 : (y 0).val = a.val) (h1 : (y 1).val = 1288 * s.val + b.val) : join x y = x (ix3 s a b) := by
  have hy : (y 1).val < 5152 := by omega
  unfold join
  rw [dif_pos hy]
  congr 1
  funext d
  match d with
  | ⟨0, _⟩ => exact Fin.ext (by show (y 1).val / 1288 = s.val; omega)
  | ⟨1, _⟩ => exact Fin.ext h0
  | ⟨2, _⟩ => exact Fin.ext (by show (y 1).val % 1288 = b.val; omega)

theorem join_right (x : Vec Ideal S4x128x1288 .bf16) (y : S128x5376.Idx) (h : 5152 ≤ (y 1).val) : join x y = (0 : EReal) :=
  dif_neg (by omega)

theorem out (c : Dev nD) (t : Fin cfg0.N) (y) : outsAt0 m c t y = join (iblk m c 0 t) y := by
  unfold outsAt0
  frame_out
  refine canon_agree (join (iblk m c 0 t)) _ y ?_ fun p hp j => ?_
  · have hy : (y 1).val < 5376 := (y 1).isLt
    by_cases h4 : 5152 ≤ (y 1).val
    · exact ⟨_, List.mem_cons_self, cols inb_S128x5376_S128x224_0_5152 y (by omega) (by omega)⟩
    refine (?_ : ∃ p ∈ _, _).imp fun _ h => ⟨List.mem_cons_of_mem _ h.1, h.2⟩
    by_cases h3 : 3864 ≤ (y 1).val
    · exact ⟨_, List.mem_cons_self, cols inb_S128x5376_S128x1288_0_3864 y (by omega) (by omega)⟩
    refine (?_ : ∃ p ∈ _, _).imp fun _ h => ⟨List.mem_cons_of_mem _ h.1, h.2⟩
    by_cases h2 : 2576 ≤ (y 1).val
    · exact ⟨_, List.mem_cons_self, cols inb_S128x5376_S128x1288_0_2576 y (by omega) (by omega)⟩
    refine (?_ : ∃ p ∈ _, _).imp fun _ h => ⟨List.mem_cons_of_mem _ h.1, h.2⟩
    by_cases h1 : 1288 ≤ (y 1).val
    · exact ⟨_, List.mem_cons_self, cols inb_S128x5376_S128x1288_0_1288 y (by omega) (by omega)⟩
    exact ⟨_, List.mem_cons_of_mem _ List.mem_cons_self, cols inb_S128x5376_S128x1288_0_0 y (by omega) (by omega)⟩
  · simp only [List.mem_cons, List.not_mem_nil, or_false] at hp
    rcases hp with rfl | rfl | rfl | rfl | rfl
    · rw [join_right _ _ (by rw [column]; omega)]
      pointwise [k0_pay5]
    · rw [join_left _ _ 3 (j 0) (j 1) (row _ j) (column _ j)]
      pointwise [k0_pay4]
    · rw [join_left _ _ 2 (j 0) (j 1) (row _ j) (column _ j)]
      pointwise [k0_pay3]
    · rw [join_left _ _ 1 (j 0) (j 1) (row _ j) (column _ j)]
      pointwise [k0_pay2]
    · rw [join_left _ _ 0 (j 0) (j 1) (row _ j) (column _ j)]
      pointwise [k0_pay1]

theorem ref (x j) : val_main_v3 (F := Ideal) x j
    = if h : (j 1).val < 5152 then x (ix3 ⟨(j 1).val / 1288, by omega⟩ (j 0) ⟨(j 1).val % 1288, Nat.mod_lt _ (by omega)⟩) else (0 : EReal) := by
  pointwise [val_main_v3, val_main_v2]
  split
  · rw [val_main_v1_apply, val_main_v0_apply]
    blk_point
  · exact sitofp_zero (φ := .bf16)

/-- After the run the result array is the reference's. -/
theorem final (c : Dev nD) : (dats m 0 c).arrAt 1 cfg0.N
    = (show FVec Ideal S1024x5376 .bf16 from val_main_v3 (F := Ideal) (m ((c : Thread nD τ).loc main_arg0))) := by
  refine (dats m 0 c).arrAt_eq_of_covers 1 _ (by decide +kernel) fun t hf y => ?_
  have e := idx t
  blk_simp
  rw [after0_1, out, ref]
  unfold join
  blk_simp [idx t]
  split
  · blk_point [iblk, V, idx t]
  · rfl

end Cert.Merge.Ssd

end

end
-- ==== Proof.ShardClaims.lean ====
/-
  The value claims of the sums over the chips, and of the shards of `w_in`.
-/
module

public import proofs.«01_k».proof.Defs
public import proofs.«01_k».proof.Proof.Shards

@[expose] public section

noncomputable section

open Idealize.ShloMosaic Idealize.ShloMosaic.TcCoe Idealize.SL.Sem

namespace Cert.ShardClaims

/-- The sum over the chips of the products' weights' gradients. -/
theorem algebraic32 : Cert.algebraic_Kernel32Ideal_Reference32Ideal := fun m g m' g' _ h =>
  ⟨fun c => Cert.Reference32Ideal.Read.val_main_v2 (F := Ideal)
      (m ((c.tc : Thread Cert.Kernel32Ideal.nD Cert.Kernel32Ideal.τ).loc Cert.Kernel32Ideal.main_arg0)),
    (θ_run _ _ _).mono (fun r hr c => ⟨(hr c).1.trans (ChipSum.Products.final m c), (hr c).2⟩) (Cert.Kernel32Ideal.Value.run_blocks m g),
    (θ_run _ _ _).mono (fun r hr c => ⟨(hr c).1.trans ((Cert.Reference32Ideal.Read.val_main_v2_eq _).trans
      (by rw [h c])), (hr c).2⟩) (Cert.Reference32Ideal.Value.run m' g')⟩

/-- The sum over the chips of the other weights' gradients. -/
theorem algebraic33 : Cert.algebraic_Kernel33Ideal_Reference33Ideal := fun m g m' g' _ h =>
  ⟨fun c => Cert.Reference33Ideal.Read.val_main_v0 (F := Ideal)
      (m ((c.tc : Thread Cert.Kernel33Ideal.nD Cert.Kernel33Ideal.τ).loc Cert.Kernel33Ideal.main_arg0)),
    (θ_run _ _ _).mono (fun r hr c => ⟨(hr c).1.trans (ChipSum.Others.final m c), (hr c).2⟩) (Cert.Kernel33Ideal.Value.run_blocks m g),
    (θ_run _ _ _).mono (fun r hr c => ⟨(hr c).1.trans ((Cert.Reference33Ideal.Read.val_main_v0_eq _).trans
      (by rw [h c])), (hr c).2⟩) (Cert.Reference33Ideal.Value.run m' g')⟩

/-- The shards of a `gdn` layer's gradient of `w_in`. -/
theorem algebraic34 : Cert.algebraic_Kernel34Ideal_Reference34Ideal := fun m g m' g' _ h =>
  ⟨fun c => Cert.Reference34Ideal.Read.val_main_v2 (F := Ideal)
      (m ((c.tc : Thread Cert.Kernel34Ideal.nD Cert.Kernel34Ideal.τ).loc Cert.Kernel34Ideal.main_arg0)),
    (θ_run _ _ _).mono (fun r hr c => ⟨(hr c).1.trans (Split.Gdn.final m c), (hr c).2⟩) (Cert.Kernel34Ideal.Value.run_blocks m g),
    (θ_run _ _ _).mono (fun r hr c => ⟨(hr c).1.trans ((Cert.Reference34Ideal.Read.val_main_v2_eq _).trans
      (by rw [h c])), (hr c).2⟩) (Cert.Reference34Ideal.Value.run m' g')⟩

/-- The shards of an `sc` layer's gradient of `w_in`. -/
theorem algebraic35 : Cert.algebraic_Kernel35Ideal_Reference35Ideal := fun m g m' g' _ h =>
  ⟨fun c => Cert.Reference35Ideal.Read.val_main_v1 (F := Ideal)
      (m ((c.tc : Thread Cert.Kernel35Ideal.nD Cert.Kernel35Ideal.τ).loc Cert.Kernel35Ideal.main_arg0)),
    (θ_run _ _ _).mono (fun r hr c => ⟨(hr c).1.trans (Split.Sc.final m c), (hr c).2⟩) (Cert.Kernel35Ideal.Value.run_blocks m g),
    (θ_run _ _ _).mono (fun r hr c => ⟨(hr c).1.trans ((Cert.Reference35Ideal.Read.val_main_v1_eq _).trans
      (by rw [h c])), (hr c).2⟩) (Cert.Reference35Ideal.Value.run m' g')⟩

/-- The shards of an `ssd` layer's gradient of `w_in`. -/
theorem algebraic36 : Cert.algebraic_Kernel36Ideal_Reference36Ideal := fun m g m' g' _ h =>
  ⟨fun c => Cert.Reference36Ideal.Read.val_main_v2 (F := Ideal)
      (m ((c.tc : Thread Cert.Kernel36Ideal.nD Cert.Kernel36Ideal.τ).loc Cert.Kernel36Ideal.main_arg0)),
    (θ_run _ _ _).mono (fun r hr c => ⟨(hr c).1.trans (Split.Ssd.final m c), (hr c).2⟩) (Cert.Kernel36Ideal.Value.run_blocks m g),
    (θ_run _ _ _).mono (fun r hr c => ⟨(hr c).1.trans ((Cert.Reference36Ideal.Read.val_main_v2_eq _).trans
      (by rw [h c])), (hr c).2⟩) (Cert.Reference36Ideal.Value.run m' g')⟩

/-- A `gdn` layer's `w_in` from its shards. -/
theorem algebraic37 : Cert.algebraic_Kernel37Ideal_Reference37Ideal := fun m g m' g' _ h =>
  ⟨fun c => Cert.Reference37Ideal.Read.val_main_v3 (F := Ideal)
      (m ((c.tc : Thread Cert.Kernel37Ideal.nD Cert.Kernel37Ideal.τ).loc Cert.Kernel37Ideal.main_arg0)),
    (θ_run _ _ _).mono (fun r hr c => ⟨(hr c).1.trans (Merge.Gdn.final m c), (hr c).2⟩) (Cert.Kernel37Ideal.Value.run_blocks m g),
    (θ_run _ _ _).mono (fun r hr c => ⟨(hr c).1.trans ((Cert.Reference37Ideal.Read.val_main_v3_eq _).trans
      (by rw [h c])), (hr c).2⟩) (Cert.Reference37Ideal.Value.run m' g')⟩

/-- An `sc` layer's `w_in` from its shards. -/
theorem algebraic38 : Cert.algebraic_Kernel38Ideal_Reference38Ideal := fun m g m' g' _ h =>
  ⟨fun c => Cert.Reference38Ideal.Read.val_main_v3 (F := Ideal)
      (m ((c.tc : Thread Cert.Kernel38Ideal.nD Cert.Kernel38Ideal.τ).loc Cert.Kernel38Ideal.main_arg0)),
    (θ_run _ _ _).mono (fun r hr c => ⟨(hr c).1.trans (Merge.Sc.final m c), (hr c).2⟩) (Cert.Kernel38Ideal.Value.run_blocks m g),
    (θ_run _ _ _).mono (fun r hr c => ⟨(hr c).1.trans ((Cert.Reference38Ideal.Read.val_main_v3_eq _).trans
      (by rw [h c])), (hr c).2⟩) (Cert.Reference38Ideal.Value.run m' g')⟩

/-- An `ssd` layer's `w_in` from its shards. -/
theorem algebraic39 : Cert.algebraic_Kernel39Ideal_Reference39Ideal := fun m g m' g' _ h =>
  ⟨fun c => Cert.Reference39Ideal.Read.val_main_v3 (F := Ideal)
      (m ((c.tc : Thread Cert.Kernel39Ideal.nD Cert.Kernel39Ideal.τ).loc Cert.Kernel39Ideal.main_arg0)),
    (θ_run _ _ _).mono (fun r hr c => ⟨(hr c).1.trans (Merge.Ssd.final m c), (hr c).2⟩) (Cert.Kernel39Ideal.Value.run_blocks m g),
    (θ_run _ _ _).mono (fun r hr c => ⟨(hr c).1.trans ((Cert.Reference39Ideal.Read.val_main_v3_eq _).trans
      (by rw [h c])), (hr c).2⟩) (Cert.Reference39Ideal.Value.run m' g')⟩

end Cert.ShardClaims

end

end
-- ==== Proof.InputGradients.lean ====
/-
  The gradients of the layers' inputs: `dproj @ w_inᵀ + ALPHA · dr`, the product's contracted axis cut into blocks.
-/
module

public import proofs.«01_k».proof.Proof.Blocked
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

open Idealize.ShloMosaic Idealize.ShloMosaic.TcCoe Idealize.SL.Sem
open Idealize.ShloMosaic.Pipeline (Dat)

/-! ## A `gdn` layer -/

namespace Cert.InputGradient.Gdn

open Cert.KernelIdeal Cert.KernelIdeal.Gen Cert.ReferenceIdeal.Read
variable (m : (ℓ : Loc nD τ sig) → Buf (Elt Ideal) ℓ)

/-- The reference's result: the scaled residual gradient plus the product with the transposed weight. -/
abbrev REF (w : FVec Ideal S1024x6272 .f32) (d : FVec Ideal S16384x6272 .f32) (r : FVec Ideal S16384x1024 .f32) :
    FVec Ideal S16384x1024 .f32 :=
  val_main_v8 (F := Ideal) w d r

theorem first_apply (x0 x1 x2 j) : k0_pay2 (F := Ideal) x0 x1 x2 j
    = (∑ k : Fin 896, x0 (ix2 (j 0) k) * x1 (ix2 (j 1) k)) + Ideal.ofBits .f32 0x3FD744FD#32 * x2 j := by
  pointwise [k0_pay2, k0_pay1]

theorem step_apply (x0 x1 x2 j) : k0_pay3 (F := Ideal) x0 x1 x2 j
    = x2 j + ∑ k : Fin 896, x0 (ix2 (j 0) k) * x1 (ix2 (j 1) k) := by
  pointwise [k0_pay3, k0_pay1]

theorem ref_apply (x1 x2 x3 j) : REF x1 x2 x3 j = Ideal.ofBits .f32 0x3FD744FD#32 * x3 j
    + ∑ k : Fin 6272, x2 (ix2 (j 0) k) * x1 (ix2 (j 1) k) := by
  pointwise [val_main_v8, val_main_v7, val_main_v4, val_main_v3, val_main_cst_0]

theorem idx : ∀ t : Fin cfg0.N, win0_0.index t = ![t.val / 7, t.val % 7] ∧ win0_1.index t = ![0, t.val % 7]
    ∧ win0_2.index t = ![t.val / 7, 0] ∧ win0_3.index t = ![t.val / 7, 0] :=
  (by decide +kernel : ∀ t : Fin grid0.N, _)

/-- After the run the result array is the reference's result. -/
theorem final (c : Dev nD) : (dats m 0 c).arrAt 3 cfg0.N = REF (m ((c : Thread nD τ).loc main_arg1))
    (m ((c : Thread nD τ).loc main_arg2)) (m ((c : Thread nD τ).loc main_arg3)) := by
  refine (dats m 0 c).arrAt_eq_of_covers 3 _ (by decide +kernel) fun t hf y => ?_
  blk_simp
  rw [after0_3, Blocked.at_last (fun n h => outsAt0 m c n h) 7
    (fun t j => Ideal.ofBits .f32 0x3FD744FD#32 * (show FVec Ideal S2048x1024 .f32 from iblk m c 2 t) j)
    (fun t j => ∑ k : Fin 896, (show FVec Ideal S2048x896 .bf16 from iblk m c 0 t) (ix2 (j 0) k)
      * (show FVec Ideal S1024x896 .bf16 from iblk m c 1 t) (ix2 (j 1) k))
    (fun t h j => by rw [outsAt0_A m c t h (by omega)]; frame_out; rw [first_apply])
    (fun t h j => by rw [outsAt0_B m c t h (by omega)]; frame_out; rw [step_apply])
    t ((flush0_3 t).mp hf) _, ref_apply]
  have e := idx t
  congr 1
  · blk_point [iblk, V, idx t, idx ⟨_, lt_of_le_of_lt (Nat.mul_div_le t.val 7) t.isLt⟩]
  · refine Fin.sum_mul_add_congr fun s k hl => ?_
    blk_point [iblk, V, idx t, idx ⟨_, Pipeline.run_point_lt_of_flush t ((flush0_3 t).mp hf) s⟩]

end Cert.InputGradient.Gdn

/-! ## A `sc` layer -/

namespace Cert.InputGradient.Sc

open Cert.Kernel2Ideal Cert.Kernel2Ideal.Gen Cert.Reference2Ideal.Read
variable (m : (ℓ : Loc nD τ sig) → Buf (Elt Ideal) ℓ)

/-- The reference's result: the scaled residual gradient plus the product with the transposed weight. -/
abbrev REF (w : FVec Ideal S1024x8192 .f32) (d : FVec Ideal S16384x8192 .f32) (r : FVec Ideal S16384x1024 .f32) :
    FVec Ideal S16384x1024 .f32 :=
  val_main_v8 (F := Ideal) w d r

theorem first_apply (x0 x1 x2 j) : k0_pay2 (F := Ideal) x0 x1 x2 j
    = (∑ k : Fin 1024, x0 (ix2 (j 0) k) * x1 (ix2 (j 1) k)) + Ideal.ofBits .f32 0x3FD744FD#32 * x2 j := by
  pointwise [k0_pay2, k0_pay1]

theorem step_apply (x0 x1 x2 j) : k0_pay3 (F := Ideal) x0 x1 x2 j
    = x2 j + ∑ k : Fin 1024, x0 (ix2 (j 0) k) * x1 (ix2 (j 1) k) := by
  pointwise [k0_pay3, k0_pay1]

theorem ref_apply (x1 x2 x3 j) : REF x1 x2 x3 j = Ideal.ofBits .f32 0x3FD744FD#32 * x3 j
    + ∑ k : Fin 8192, x2 (ix2 (j 0) k) * x1 (ix2 (j 1) k) := by
  pointwise [val_main_v8, val_main_v7, val_main_v4, val_main_v3, val_main_cst_0]

theorem idx : ∀ t : Fin cfg0.N, win0_0.index t = ![t.val / 8, t.val % 8] ∧ win0_1.index t = ![0, t.val % 8]
    ∧ win0_2.index t = ![t.val / 8, 0] ∧ win0_3.index t = ![t.val / 8, 0] :=
  (by decide +kernel : ∀ t : Fin grid0.N, _)

/-- After the run the result array is the reference's result. -/
theorem final (c : Dev nD) : (dats m 0 c).arrAt 3 cfg0.N = REF (m ((c : Thread nD τ).loc main_arg1))
    (m ((c : Thread nD τ).loc main_arg2)) (m ((c : Thread nD τ).loc main_arg3)) := by
  refine (dats m 0 c).arrAt_eq_of_covers 3 _ (by decide +kernel) fun t hf y => ?_
  blk_simp
  rw [after0_3, Blocked.at_last (fun n h => outsAt0 m c n h) 8
    (fun t j => Ideal.ofBits .f32 0x3FD744FD#32 * (show FVec Ideal S2048x1024 .f32 from iblk m c 2 t) j)
    (fun t j => ∑ k : Fin 1024, (show FVec Ideal S2048x1024 .bf16 from iblk m c 0 t) (ix2 (j 0) k)
      * (show FVec Ideal S1024x1024 .bf16 from iblk m c 1 t) (ix2 (j 1) k))
    (fun t h j => by rw [outsAt0_A m c t h (by omega)]; frame_out; rw [first_apply])
    (fun t h j => by rw [outsAt0_B m c t h (by omega)]; frame_out; rw [step_apply])
    t ((flush0_3 t).mp hf) _, ref_apply]
  have e := idx t
  congr 1
  · blk_point [iblk, V, idx t, idx ⟨_, lt_of_le_of_lt (Nat.mul_div_le t.val 8) t.isLt⟩]
  · refine Fin.sum_mul_add_congr fun s k hl => ?_
    blk_point [iblk, V, idx t, idx ⟨_, Pipeline.run_point_lt_of_flush t ((flush0_3 t).mp hf) s⟩]

end Cert.InputGradient.Sc

/-! ## A `ssd` layer -/

namespace Cert.InputGradient.Ssd

open Cert.Kernel3Ideal Cert.Kernel3Ideal.Gen Cert.Reference3Ideal.Read
variable (m : (ℓ : Loc nD τ sig) → Buf (Elt Ideal) ℓ)

/-- The reference's result: the scaled residual gradient plus the product with the transposed weight. -/
abbrev REF (w : FVec Ideal S1024x5376 .f32) (d : FVec Ideal S16384x5376 .f32) (r : FVec Ideal S16384x1024 .f32) :
    FVec Ideal S16384x1024 .f32 :=
  val_main_v8 (F := Ideal) w d r

theorem first_apply (x0 x1 x2 j) : k0_pay2 (F := Ideal) x0 x1 x2 j
    = (∑ k : Fin 896, x0 (ix2 (j 0) k) * x1 (ix2 (j 1) k)) + Ideal.ofBits .f32 0x3FD744FD#32 * x2 j := by
  pointwise [k0_pay2, k0_pay1]

theorem step_apply (x0 x1 x2 j) : k0_pay3 (F := Ideal) x0 x1 x2 j
    = x2 j + ∑ k : Fin 896, x0 (ix2 (j 0) k) * x1 (ix2 (j 1) k) := by
  pointwise [k0_pay3, k0_pay1]

theorem ref_apply (x1 x2 x3 j) : REF x1 x2 x3 j = Ideal.ofBits .f32 0x3FD744FD#32 * x3 j
    + ∑ k : Fin 5376, x2 (ix2 (j 0) k) * x1 (ix2 (j 1) k) := by
  pointwise [val_main_v8, val_main_v7, val_main_v4, val_main_v3, val_main_cst_0]

theorem idx : ∀ t : Fin cfg0.N, win0_0.index t = ![t.val / 6, t.val % 6] ∧ win0_1.index t = ![0, t.val % 6]
    ∧ win0_2.index t = ![t.val / 6, 0] ∧ win0_3.index t = ![t.val / 6, 0] :=
  (by decide +kernel : ∀ t : Fin grid0.N, _)

/-- After the run the result array is the reference's result. -/
theorem final (c : Dev nD) : (dats m 0 c).arrAt 3 cfg0.N = REF (m ((c : Thread nD τ).loc main_arg1))
    (m ((c : Thread nD τ).loc main_arg2)) (m ((c : Thread nD τ).loc main_arg3)) := by
  refine (dats m 0 c).arrAt_eq_of_covers 3 _ (by decide +kernel) fun t hf y => ?_
  blk_simp
  rw [after0_3, Blocked.at_last (fun n h => outsAt0 m c n h) 6
    (fun t j => Ideal.ofBits .f32 0x3FD744FD#32 * (show FVec Ideal S2048x1024 .f32 from iblk m c 2 t) j)
    (fun t j => ∑ k : Fin 896, (show FVec Ideal S2048x896 .bf16 from iblk m c 0 t) (ix2 (j 0) k)
      * (show FVec Ideal S1024x896 .bf16 from iblk m c 1 t) (ix2 (j 1) k))
    (fun t h j => by rw [outsAt0_A m c t h (by omega)]; frame_out; rw [first_apply])
    (fun t h j => by rw [outsAt0_B m c t h (by omega)]; frame_out; rw [step_apply])
    t ((flush0_3 t).mp hf) _, ref_apply]
  have e := idx t
  congr 1
  · blk_point [iblk, V, idx t, idx ⟨_, lt_of_le_of_lt (Nat.mul_div_le t.val 6) t.isLt⟩]
  · refine Fin.sum_mul_add_congr fun s k hl => ?_
    blk_point [iblk, V, idx t, idx ⟨_, Pipeline.run_point_lt_of_flush t ((flush0_3 t).mp hf) s⟩]

end Cert.InputGradient.Ssd
-- ==== Proof.WeightGradients.lean ====
/-
  The gradients of the layers' weights, `xᵀ @ dproj` and `mixᵀ @ dr`, the product's contracted axis cut into 16 blocks.
-/
module

public import proofs.«01_k».proof.Proof.Blocked
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384

noncomputable section

open Idealize.ShloMosaic Idealize.ShloMosaic.TcCoe Idealize.SL.Sem
open Idealize.ShloMosaic.Pipeline (Dat)

/-! ## The `w_in` of a `gdn` layer -/

namespace Cert.WeightGradient.Gdn

open Cert.Kernel4Ideal Cert.Kernel4Ideal.Gen Cert.Reference4Ideal.Read
variable (m : (ℓ : Loc nD τ sig) → Buf (Elt Ideal) ℓ)

/-- The reference's result: the transpose of the product of the gradient with the layer's operand. -/
abbrev REF (x : FVec Ideal S16384x1024 .f32) (d : FVec Ideal S16384x6272 .f32) : FVec Ideal S1024x6272 .f32 :=
  val_main_v2 (F := Ideal) x d

theorem first_apply (x0 x1 j) : k0_pay1 (F := Ideal) x0 x1 j
    = ∑ k : Fin 1024, x0 (ix2 k (j 0)) * x1 (ix2 k (j 1)) := by
  pointwise [k0_pay1]

theorem step_apply (x0 x1 x2 j) : k0_pay2 (F := Ideal) x0 x1 x2 j
    = x2 j + ∑ k : Fin 1024, x0 (ix2 k (j 0)) * x1 (ix2 k (j 1)) := by
  pointwise [k0_pay2, k0_pay1]

theorem ref_apply (x y j) : REF x y j = ∑ k : Fin 16384, x (ix2 k (j 0)) * y (ix2 k (j 1)) := by
  pointwise [val_main_v2, val_main_v1]
  exact Finset.sum_congr rfl fun k _ => mul_comm _ _

theorem idx : ∀ t : Fin cfg0.N, win0_0.index t = ![t.val % 16, t.val / 112] ∧ win0_1.index t = ![t.val % 16, t.val / 16 % 7]
    ∧ win0_2.index t = ![t.val / 112, t.val / 16 % 7] :=
  (by decide +kernel : ∀ t : Fin grid0.N, _)

/-- After the run the result array is the reference's result. -/
theorem final (c : Dev nD) : (dats m 0 c).arrAt 2 cfg0.N = REF (m ((c : Thread nD τ).loc main_arg0))
    (m ((c : Thread nD τ).loc main_arg2)) := by
  refine (dats m 0 c).arrAt_eq_of_covers 2 _ (by decide +kernel) fun t hf y => ?_
  blk_simp
  rw [after0_2, Blocked.at_last (fun n h => outsAt0 m c n h) 16 (fun _ _ => 0)
    (fun t j => ∑ k : Fin 1024, (show FVec Ideal S1024x1024 .bf16 from iblk m c 0 t) (ix2 k (j 0))
      * (show FVec Ideal S1024x896 .bf16 from iblk m c 1 t) (ix2 k (j 1)))
    (fun t h j => by rw [outsAt0_A m c t h (by omega)]; frame_out; rw [first_apply, add_zero])
    (fun t h j => by rw [outsAt0_B m c t h (by omega)]; frame_out; rw [step_apply])
    t ((flush0_2 t).mp hf) _, zero_add, ref_apply]
  have e := idx t
  refine Fin.sum_mul_add_congr fun s k hl => ?_
  blk_point [iblk, V, idx t, idx ⟨_, Pipeline.run_point_lt_of_flush t ((flush0_2 t).mp hf) s⟩]

end Cert.WeightGradient.Gdn

/-! ## The `w_in` of an `sc` layer -/

namespace Cert.WeightGradient.Sc

open Cert.Kernel5Ideal Cert.Kernel5Ideal.Gen Cert.Reference5Ideal.Read
variable (m : (ℓ : Loc nD τ sig) → Buf (Elt Ideal) ℓ)

/-- The reference's result: the transpose of the product of the gradient with the layer's operand. -/
abbrev REF (x : FVec Ideal S16384x1024 .f32) (d : FVec Ideal S16384x8192 .f32) : FVec Ideal S1024x8192 .f32 :=
  val_main_v2 (F := Ideal) x d

theorem first_apply (x0 x1 j) : k0_pay1 (F := Ideal) x0 x1 j
    = ∑ k : Fin 1024, x0 (ix2 k (j 0)) * x1 (ix2 k (j 1)) := by
  pointwise [k0_pay1]

theorem step_apply (x0 x1 x2 j) : k0_pay2 (F := Ideal) x0 x1 x2 j
    = x2 j + ∑ k : Fin 1024, x0 (ix2 k (j 0)) * x1 (ix2 k (j 1)) := by
  pointwise [k0_pay2, k0_pay1]

theorem ref_apply (x y j) : REF x y j = ∑ k : Fin 16384, x (ix2 k (j 0)) * y (ix2 k (j 1)) := by
  pointwise [val_main_v2, val_main_v1]
  exact Finset.sum_congr rfl fun k _ => mul_comm _ _

theorem idx : ∀ t : Fin cfg0.N, win0_0.index t = ![t.val % 16, t.val / 128] ∧ win0_1.index t = ![t.val % 16, t.val / 16 % 8]
    ∧ win0_2.index t = ![t.val / 128, t.val / 16 % 8] :=
  (by decide +kernel : ∀ t : Fin grid0.N, _)

/-- After the run the result array is the reference's result. -/
theorem final (c : Dev nD) : (dats m 0 c).arrAt 2 cfg0.N = REF (m ((c : Thread nD τ).loc main_arg0))
    (m ((c : Thread nD τ).loc main_arg2)) := by
  refine (dats m 0 c).arrAt_eq_of_covers 2 _ (by decide +kernel) fun t hf y => ?_
  blk_simp
  rw [after0_2, Blocked.at_last (fun n h => outsAt0 m c n h) 16 (fun _ _ => 0)
    (fun t j => ∑ k : Fin 1024, (show FVec Ideal S1024x1024 .bf16 from iblk m c 0 t) (ix2 k (j 0))
      * (show FVec Ideal S1024x1024 .bf16 from iblk m c 1 t) (ix2 k (j 1)))
    (fun t h j => by rw [outsAt0_A m c t h (by omega)]; frame_out; rw [first_apply, add_zero])
    (fun t h j => by rw [outsAt0_B m c t h (by omega)]; frame_out; rw [step_apply])
    t ((flush0_2 t).mp hf) _, zero_add, ref_apply]
  have e := idx t
  refine Fin.sum_mul_add_congr fun s k hl => ?_
  blk_point [iblk, V, idx t, idx ⟨_, Pipeline.run_point_lt_of_flush t ((flush0_2 t).mp hf) s⟩]

end Cert.WeightGradient.Sc

/-! ## The `w_in` of an `ssd` layer -/

namespace Cert.WeightGradient.Ssd

open Cert.Kernel6Ideal Cert.Kernel6Ideal.Gen Cert.Reference6Ideal.Read
variable (m : (ℓ : Loc nD τ sig) → Buf (Elt Ideal) ℓ)

/-- The reference's result: the transpose of the product of the gradient with the layer's operand. -/
abbrev REF (x : FVec Ideal S16384x1024 .f32) (d : FVec Ideal S16384x5376 .f32) : FVec Ideal S1024x5376 .f32 :=
  val_main_v2 (F := Ideal) x d

theorem first_apply (x0 x1 j) : k0_pay1 (F := Ideal) x0 x1 j
    = ∑ k : Fin 1024, x0 (ix2 k (j 0)) * x1 (ix2 k (j 1)) := by
  pointwise [k0_pay1]

theorem step_apply (x0 x1 x2 j) : k0_pay2 (F := Ideal) x0 x1 x2 j
    = x2 j + ∑ k : Fin 1024, x0 (ix2 k (j 0)) * x1 (ix2 k (j 1)) := by
  pointwise [k0_pay2, k0_pay1]

theorem ref_apply (x y j) : REF x y j = ∑ k : Fin 16384, x (ix2 k (j 0)) * y (ix2 k (j 1)) := by
  pointwise [val_main_v2, val_main_v1]
  exact Finset.sum_congr rfl fun k _ => mul_comm _ _

theorem idx : ∀ t : Fin cfg0.N, win0_0.index t = ![t.val % 16, t.val / 96] ∧ win0_1.index t = ![t.val % 16, t.val / 16 % 6]
    ∧ win0_2.index t = ![t.val / 96, t.val / 16 % 6] :=
  (by decide +kernel : ∀ t : Fin grid0.N, _)

/-- After the run the result array is the reference's result. -/
theorem final (c : Dev nD) : (dats m 0 c).arrAt 2 cfg0.N = REF (m ((c : Thread nD τ).loc main_arg0))
    (m ((c : Thread nD τ).loc main_arg2)) := by
  refine (dats m 0 c).arrAt_eq_of_covers 2 _ (by decide +kernel) fun t hf y => ?_
  blk_simp
  rw [after0_2, Blocked.at_last (fun n h => outsAt0 m c n h) 16 (fun _ _ => 0)
    (fun t j => ∑ k : Fin 1024, (show FVec Ideal S1024x1024 .bf16 from iblk m c 0 t) (ix2 k (j 0))
      * (show FVec Ideal S1024x896 .bf16 from iblk m c 1 t) (ix2 k (j 1)))
    (fun t h j => by rw [outsAt0_A m c t h (by omega)]; frame_out; rw [first_apply, add_zero])
    (fun t h j => by rw [outsAt0_B m c t h (by omega)]; frame_out; rw [step_apply])
    t ((flush0_2 t).mp hf) _, zero_add, ref_apply]
  have e := idx t
  refine Fin.sum_mul_add_congr fun s k hl => ?_
  blk_point [iblk, V, idx t, idx ⟨_, Pipeline.run_point_lt_of_flush t ((flush0_2 t).mp hf) s⟩]

end Cert.WeightGradient.Ssd

/-! ## The `w_out` of a layer -/

namespace Cert.WeightGradient.Out

open Cert.Kernel8Ideal Cert.Kernel8Ideal.Gen Cert.Reference8Ideal.Read
variable (m : (ℓ : Loc nD τ sig) → Buf (Elt Ideal) ℓ)

/-- The reference's result: the transpose of the product of the gradient with the layer's operand. -/
abbrev REF (x : FVec Ideal S16384x2048 .f32) (d : FVec Ideal S16384x1024 .f32) : FVec Ideal S2048x1024 .f32 :=
  val_main_v2 (F := Ideal) x d

theorem first_apply (x0 x1 j) : k0_pay1 (F := Ideal) x0 x1 j
    = ∑ k : Fin 1024, x0 (ix2 k (j 0)) * x1 (ix2 k (j 1)) := by
  pointwise [k0_pay1]

theorem step_apply (x0 x1 x2 j) : k0_pay2 (F := Ideal) x0 x1 x2 j
    = x2 j + ∑ k : Fin 1024, x0 (ix2 k (j 0)) * x1 (ix2 k (j 1)) := by
  pointwise [k0_pay2, k0_pay1]

theorem ref_apply (x y j) : REF x y j = ∑ k : Fin 16384, x (ix2 k (j 0)) * y (ix2 k (j 1)) := by
  pointwise [val_main_v2, val_main_v1]
  exact Finset.sum_congr rfl fun k _ => mul_comm _ _

theorem idx : ∀ t : Fin cfg0.N, win0_0.index t = ![t.val % 16, t.val / 16] ∧ win0_1.index t = ![t.val % 16, t.val / 16 % 1]
    ∧ win0_2.index t = ![t.val / 16, t.val / 16 % 1] :=
  (by decide +kernel : ∀ t : Fin grid0.N, _)

/-- After the run the result array is the reference's result. -/
theorem final (c : Dev nD) : (dats m 0 c).arrAt 2 cfg0.N = REF (m ((c : Thread nD τ).loc main_arg0))
    (m ((c : Thread nD τ).loc main_arg2)) := by
  refine (dats m 0 c).arrAt_eq_of_covers 2 _ (by decide +kernel) fun t hf y => ?_
  blk_simp
  rw [after0_2, Blocked.at_last (fun n h => outsAt0 m c n h) 16 (fun _ _ => 0)
    (fun t j => ∑ k : Fin 1024, (show FVec Ideal S1024x1024 .bf16 from iblk m c 0 t) (ix2 k (j 0))
      * (show FVec Ideal S1024x1024 .f32 from iblk m c 1 t) (ix2 k (j 1)))
    (fun t h j => by rw [outsAt0_A m c t h (by omega)]; frame_out; rw [first_apply, add_zero])
    (fun t h j => by rw [outsAt0_B m c t h (by omega)]; frame_out; rw [step_apply])
    t ((flush0_2 t).mp hf) _, zero_add, ref_apply]
  have e := idx t
  refine Fin.sum_mul_add_congr fun s k hl => ?_
  blk_point [iblk, V, idx t, idx ⟨_, Pipeline.run_point_lt_of_flush t ((flush0_2 t).mp hf) s⟩]

end Cert.WeightGradient.Out
-- ==== Proof.Projections.lean ====
/-
  The layers' projections and the gradient of a mixer's output: products whose blocks hold the whole contracted axis or half of it.
-/
module

public import proofs.«01_k».proof.Proof.Blocked
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

open Idealize.ShloMosaic Idealize.ShloMosaic.TcCoe Idealize.SL.Sem
open Idealize.ShloMosaic.Pipeline (Dat)

/-! ## The gradient of a mixer's output -/

namespace Cert.MixGradient

open Cert.Kernel7Ideal Cert.Kernel7Ideal.Gen Cert.Reference7Ideal.Read
variable (m : (ℓ : Loc nD τ sig) → Buf (Elt Ideal) ℓ)

/-- The reference's result: the product of the gradient with the transposed weight. -/
abbrev REF (w : FVec Ideal S2048x1024 .f32) (d : FVec Ideal S16384x1024 .f32) : FVec Ideal S16384x2048 .f32 :=
  val_main_v3 (F := Ideal) w d

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- After the run the result array is the reference's result. -/
theorem final (c : Dev nD) : (dats m 0 c).arrAt 2 cfg0.N = REF (m ((c : Thread nD τ).loc main_arg1))
    (m ((c : Thread nD τ).loc main_arg2)) := by
  refine (dats m 0 c).arrAt_eq_of_covers 2 _ (by decide +kernel) fun t hf y => ?_
  blk_simp
  rw [after0_2]
  unfold outsAt0
  frame_out
  have e := idx t
  pointwise [k0_pay1, REF, val_main_v3]
  blk_point [iblk, V, idx t]

end Cert.MixGradient

/-! ## The projection of a `gdn` layer -/

namespace Cert.Projection.Gdn

open Cert.Kernel9Ideal Cert.Kernel9Ideal.Gen Cert.Reference9Ideal.Read
variable (m : (ℓ : Loc nD τ sig) → Buf (Elt Ideal) ℓ)

/-- The reference's result: the product. -/
abbrev REF (x : FVec Ideal S16384x1024 .f32) (w : FVec Ideal S1024x6272 .f32) : FVec Ideal S16384x6272 .f32 :=
  val_main_v0 (F := Ideal) x w

theorem idx : ∀ t : Fin cfg0.N, win0_0.index t = ![t.val / 7, 0] ∧ win0_1.index t = ![0, t.val % 7] ∧ win0_2.index t = ![t.val / 7, t.val % 7] :=
  (by decide +kernel : ∀ t : Fin grid0.N, _)

/-- After the run the result array is the reference's result. -/
theorem final (c : Dev nD) : (dats m 0 c).arrAt 2 cfg0.N = REF (m ((c : Thread nD τ).loc main_arg0))
    (m ((c : Thread nD τ).loc main_arg1)) := by
  refine (dats m 0 c).arrAt_eq_of_covers 2 _ (by decide +kernel) fun t hf y => ?_
  blk_simp
  rw [after0_2]
  unfold outsAt0
  frame_out
  have e := idx t
  pointwise [k0_pay1, REF, val_main_v0]
  blk_point [iblk, V, idx t]

end Cert.Projection.Gdn

/-! ## The projection of an `sc` layer -/

namespace Cert.Projection.Sc

open Cert.Kernel10Ideal Cert.Kernel10Ideal.Gen Cert.Reference10Ideal.Read
variable (m : (ℓ : Loc nD τ sig) → Buf (Elt Ideal) ℓ)

/-- The reference's result: the product. -/
abbrev REF (x : FVec Ideal S16384x1024 .f32) (w : FVec Ideal S1024x8192 .f32) : FVec Ideal S16384x8192 .f32 :=
  val_main_v0 (F := Ideal) x w

theorem idx : ∀ t : Fin cfg0.N, win0_0.index t = ![t.val / 8, 0] ∧ win0_1.index t = ![0, t.val % 8] ∧ win0_2.index t = ![t.val / 8, t.val % 8] :=
  (by decide +kernel : ∀ t : Fin grid0.N, _)

/-- After the run the result array is the reference's result. -/
theorem final (c : Dev nD) : (dats m 0 c).arrAt 2 cfg0.N = REF (m ((c : Thread nD τ).loc main_arg0))
    (m ((c : Thread nD τ).loc main_arg1)) := by
  refine (dats m 0 c).arrAt_eq_of_covers 2 _ (by decide +kernel) fun t hf y => ?_
  blk_simp
  rw [after0_2]
  unfold outsAt0
  frame_out
  have e := idx t
  pointwise [k0_pay1, REF, val_main_v0]
  blk_point [iblk, V, idx t]

end Cert.Projection.Sc

/-! ## The projection of an `ssd` layer -/

namespace Cert.Projection.Ssd

open Cert.Kernel11Ideal Cert.Kernel11Ideal.Gen Cert.Reference11Ideal.Read
variable (m : (ℓ : Loc nD τ sig) → Buf (Elt Ideal) ℓ)

/-- The reference's result: the product. -/
abbrev REF (x : FVec Ideal S16384x1024 .f32) (w : FVec Ideal S1024x5376 .f32) : FVec Ideal S16384x5376 .f32 :=
  val_main_v0 (F := Ideal) x w

theorem idx : ∀ t : Fin cfg0.N, win0_0.index t = ![t.val / 6, 0] ∧ win0_1.index t = ![0, t.val % 6] ∧ win0_2.index t = ![t.val / 6, t.val % 6] :=
  (by decide +kernel : ∀ t : Fin grid0.N, _)

/-- After the run the result array is the reference's result. -/
theorem final (c : Dev nD) : (dats m 0 c).arrAt 2 cfg0.N = REF (m ((c : Thread nD τ).loc main_arg0))
    (m ((c : Thread nD τ).loc main_arg1)) := by
  refine (dats m 0 c).arrAt_eq_of_covers 2 _ (by decide +kernel) fun t hf y => ?_
  blk_simp
  rw [after0_2]
  unfold outsAt0
  frame_out
  have e := idx t
  pointwise [k0_pay1, REF, val_main_v0]
  blk_point [iblk, V, idx t]

end Cert.Projection.Ssd

/-! ## The output projection -/

namespace Cert.OutProjection

open Cert.Kernel12Ideal Cert.Kernel12Ideal.Gen Cert.Reference12Ideal.Read
variable (m : (ℓ : Loc nD τ sig) → Buf (Elt Ideal) ℓ)

/-- The reference's result: the product. -/
abbrev REF (x : FVec Ideal S16384x2048 .f32) (w : FVec Ideal S2048x1024 .f32) : FVec Ideal S16384x1024 .f32 :=
  val_main_v0 (F := Ideal) x w

theorem first_apply (x0 x1 j) : k0_pay1 (F := Ideal) x0 x1 j
    = ∑ k : Fin 1024, x0 (ix2 (j 0) k) * x1 (ix2 k (j 1)) := by
  pointwise [k0_pay1]

theorem step_apply (x0 x1 x2 j) : k0_pay2 (F := Ideal) x0 x1 x2 j
    = x2 j + ∑ k : Fin 1024, x0 (ix2 (j 0) k) * x1 (ix2 k (j 1)) := by
  pointwise [k0_pay2, k0_pay1]

theorem ref_apply (x y j) : REF x y j = ∑ k : Fin 2048, x (ix2 (j 0) k) * y (ix2 k (j 1)) := by
  pointwise [val_main_v0]

theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- After the run the result array is the reference's result. -/
theorem final (c : Dev nD) : (dats m 0 c).arrAt 2 cfg0.N = REF (m ((c : Thread nD τ).loc main_arg0))
    (m ((c : Thread nD τ).loc main_arg1)) := by
  refine (dats m 0 c).arrAt_eq_of_covers 2 _ (by decide +kernel) fun t hf y => ?_
  blk_simp
  rw [after0_2, Blocked.at_last (fun n h => outsAt0 m c n h) 2 (fun _ _ => 0)
    (fun t j => ∑ k : Fin 1024, (show FVec Ideal S2048x1024 .bf16 from iblk m c 0 t) (ix2 (j 0) k)
      * (show FVec Ideal S1024x1024 .bf16 from iblk m c 1 t) (ix2 k (j 1)))
    (fun t h j => by rw [outsAt0_A m c t h (by omega)]; frame_out; rw [first_apply, add_zero])
    (fun t h j => by rw [outsAt0_B m c t h (by omega)]; frame_out; rw [step_apply])
    t ((flush0_2 t).mp hf) _, zero_add, ref_apply]
  have e := idx t
  refine Fin.sum_mul_add_congr fun s k hl => ?_
  blk_point [iblk, V, idx t, idx ⟨_, Pipeline.run_point_lt_of_flush t ((flush0_2 t).mp hf) s⟩]

end Cert.OutProjection
-- ==== Proof.lean ====
module

public import proofs.«01_k».proof.Defs
public import proofs.«01_k».proof.Proof.ShortConvClaim
public import proofs.«01_k».proof.Proof.ShortConvGrad
public import proofs.«01_k».proof.Proof.ShortConvGradBits
public import proofs.«01_k».proof.Proof.NormClaims
public import proofs.«01_k».proof.Proof.Steps
public import proofs.«01_k».proof.Proof.Shards
public import proofs.«01_k».proof.Proof.ShardClaims
public import proofs.«01_k».proof.Proof.InputGradients
public import proofs.«01_k».proof.Proof.WeightGradients
public import proofs.«01_k».proof.Proof.Projections
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Launch
public import proofs.«01_k».proof.Proof.Gen.Kernel28Ideal
public import proofs.«01_k».proof.Proof.Gen.Kernel28Ideal.Launch
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Reference34Ideal
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Reference35Ideal
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Reference36Ideal
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Reference37Ideal
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Reference38Ideal
public import proofs.«01_k».proof.Proof.Gen.Kernel39
public import proofs.«01_k».proof.Proof.Gen.Kernel39.Skeleton
public import proofs.«01_k».proof.Proof.Gen.Kernel39.Launch
public import proofs.«01_k».proof.Proof.Gen.Kernel39.Points
public import proofs.«01_k».proof.Proof.Gen.Kernel39.Frame
public import proofs.«01_k».proof.Proof.Gen.Kernel39Ideal
public import proofs.«01_k».proof.Proof.Gen.Kernel39Ideal.Skeleton
public import proofs.«01_k».proof.Proof.Gen.Kernel39Ideal.Launch
public import proofs.«01_k».proof.Proof.Gen.Kernel39Ideal.Points
public import proofs.«01_k».proof.Proof.Gen.Kernel39Ideal.Frame
public import proofs.«01_k».proof.Proof.Gen.Reference39Ideal
public import proofs.«01_k».proof.Proof.Gen.Pre_finite_norm_grad
public import proofs.«01_k».proof.Proof.Gen.Pre_finite_norm_loss
public import Idealize.ShloMosaic.Adequacy
public import Idealize.ShloMosaic.Init

@[expose] public section

noncomputable section

namespace Cert.Proof

open Idealize.ShloMosaic Idealize.SL.Sem

/-- `KernelIdeal` and `ReferenceIdeal` end with the same result. -/
theorem algebraic : Cert.algebraic_KernelIdeal_ReferenceIdeal := fun m g m' g' _ h =>
  ⟨fun c => InputGradient.Gdn.REF (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    (θ_run _ _ _).mono (fun r hr c => ⟨(hr c).1.trans (InputGradient.Gdn.final m c), (hr c).2⟩) (Cert.KernelIdeal.Value.run_blocks m g),
    (θ_run _ _ _).mono (fun r hr c => ⟨(hr c).1.trans (by rw [(h c).2.1, (h c).2.2.1, (h c).2.2.2]; rfl), (hr c).2⟩) (Cert.ReferenceIdeal.Value.run m' g')⟩

/-- `Kernel2Ideal` and `Reference2Ideal` end with the same result. -/
theorem algebraic2 : Cert.algebraic_Kernel2Ideal_Reference2Ideal := fun m g m' g' _ h =>
  ⟨fun c => InputGradient.Sc.REF (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    (θ_run _ _ _).mono (fun r hr c => ⟨(hr c).1.trans (InputGradient.Sc.final m c), (hr c).2⟩) (Cert.Kernel2Ideal.Value.run_blocks m g),
    (θ_run _ _ _).mono (fun r hr c => ⟨(hr c).1.trans (by rw [(h c).2.1, (h c).2.2.1, (h c).2.2.2]; rfl), (hr c).2⟩) (Cert.Reference2Ideal.Value.run m' g')⟩

/-- `Kernel3Ideal` and `Reference3Ideal` end with the same result. -/
theorem algebraic3 : Cert.algebraic_Kernel3Ideal_Reference3Ideal := fun m g m' g' _ h =>
  ⟨fun c => InputGradient.Ssd.REF (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    (θ_run _ _ _).mono (fun r hr c => ⟨(hr c).1.trans (InputGradient.Ssd.final m c), (hr c).2⟩) (Cert.Kernel3Ideal.Value.run_blocks m g),
    (θ_run _ _ _).mono (fun r hr c => ⟨(hr c).1.trans (by rw [(h c).2.1, (h c).2.2.1, (h c).2.2.2]; rfl), (hr c).2⟩) (Cert.Reference3Ideal.Value.run m' g')⟩

/-- `Kernel4Ideal` and `Reference4Ideal` end with the same result. -/
theorem algebraic4 : Cert.algebraic_Kernel4Ideal_Reference4Ideal := fun m g m' g' _ h =>
  ⟨fun c => WeightGradient.Gdn.REF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg2)),
    (θ_run _ _ _).mono (fun r hr c => ⟨(hr c).1.trans (WeightGradient.Gdn.final m c), (hr c).2⟩) (Cert.Kernel4Ideal.Value.run_blocks m g),
    (θ_run _ _ _).mono (fun r hr c => ⟨(hr c).1.trans (by rw [(h c).1, (h c).2.2]; rfl), (hr c).2⟩) (Cert.Reference4Ideal.Value.run m' g')⟩

/-- `Kernel5Ideal` and `Reference5Ideal` end with the same result. -/
theorem algebraic5 : Cert.algebraic_Kernel5Ideal_Reference5Ideal := fun m g m' g' _ h =>
  ⟨fun c => WeightGradient.Sc.REF (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)),
    (θ_run _ _ _).mono (fun r hr c => ⟨(hr c).1.trans (WeightGradient.Sc.final m c), (hr c).2⟩) (Cert.Kernel5Ideal.Value.run_blocks m g),
    (θ_run _ _ _).mono (fun r hr c => ⟨(hr c).1.trans (by rw [(h c).1, (h c).2.2]; rfl), (hr c).2⟩) (Cert.Reference5Ideal.Value.run m' g')⟩

/-- `Kernel6Ideal` and `Reference6Ideal` end with the same result. -/
theorem algebraic6 : Cert.algebraic_Kernel6Ideal_Reference6Ideal := fun m g m' g' _ h =>
  ⟨fun c => WeightGradient.Ssd.REF (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg2)),
    (θ_run _ _ _).mono (fun r hr c => ⟨(hr c).1.trans (WeightGradient.Ssd.final m c), (hr c).2⟩) (Cert.Kernel6Ideal.Value.run_blocks m g),
    (θ_run _ _ _).mono (fun r hr c => ⟨(hr c).1.trans (by rw [(h c).1, (h c).2.2]; rfl), (hr c).2⟩) (Cert.Reference6Ideal.Value.run m' g')⟩

/-- `Kernel7Ideal` and `Reference7Ideal` end with the same result. -/
theorem algebraic7 : Cert.algebraic_Kernel7Ideal_Reference7Ideal := fun m g m' g' _ h =>
  ⟨fun c => MixGradient.REF (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    (θ_run _ _ _).mono (fun r hr c => ⟨(hr c).1.trans (MixGradient.final m c), (hr c).2⟩) (Cert.Kernel7Ideal.Value.run_blocks m g),
    (θ_run _ _ _).mono (fun r hr c => ⟨(hr c).1.trans (by rw [(h c).2.1, (h c).2.2]; rfl), (hr c).2⟩) (Cert.Reference7Ideal.Value.run m' g')⟩

/-- `Kernel8Ideal` and `Reference8Ideal` end with the same result. -/
theorem algebraic8 : Cert.algebraic_Kernel8Ideal_Reference8Ideal := fun m g m' g' _ h =>
  ⟨fun c => WeightGradient.Out.REF (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg2)),
    (θ_run _ _ _).mono (fun r hr c => ⟨(hr c).1.trans (WeightGradient.Out.final m c), (hr c).2⟩) (Cert.Kernel8Ideal.Value.run_blocks m g),
    (θ_run _ _ _).mono (fun r hr c => ⟨(hr c).1.trans (by rw [(h c).1, (h c).2.2]; rfl), (hr c).2⟩) (Cert.Reference8Ideal.Value.run m' g')⟩

/-- `Kernel9Ideal` and `Reference9Ideal` end with the same result. -/
theorem algebraic9 : Cert.algebraic_Kernel9Ideal_Reference9Ideal := fun m g m' g' _ h =>
  ⟨fun c => Projection.Gdn.REF (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run _ _ _).mono (fun r hr c => ⟨(hr c).1.trans (Projection.Gdn.final m c), (hr c).2⟩) (Cert.Kernel9Ideal.Value.run_blocks m g),
    (θ_run _ _ _).mono (fun r hr c => ⟨(hr c).1.trans (by rw [(h c).1, (h c).2]; rfl), (hr c).2⟩) (Cert.Reference9Ideal.Value.run m' g')⟩

/-- `Kernel10Ideal` and `Reference10Ideal` end with the same result. -/
theorem algebraic10 : Cert.algebraic_Kernel10Ideal_Reference10Ideal := fun m g m' g' _ h =>
  ⟨fun c => Projection.Sc.REF (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    (θ_run _ _ _).mono (fun r hr c => ⟨(hr c).1.trans (Projection.Sc.final m c), (hr c).2⟩) (Cert.Kernel10Ideal.Value.run_blocks m g),
    (θ_run _ _ _).mono (fun r hr c => ⟨(hr c).1.trans (by rw [(h c).1, (h c).2]; rfl), (hr c).2⟩) (Cert.Reference10Ideal.Value.run m' g')⟩

/-- `Kernel11Ideal` and `Reference11Ideal` end with the same result. -/
theorem algebraic11 : Cert.algebraic_Kernel11Ideal_Reference11Ideal := fun m g m' g' _ h =>
  ⟨fun c => Projection.Ssd.REF (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    (θ_run _ _ _).mono (fun r hr c => ⟨(hr c).1.trans (Projection.Ssd.final m c), (hr c).2⟩) (Cert.Kernel11Ideal.Value.run_blocks m g),
    (θ_run _ _ _).mono (fun r hr c => ⟨(hr c).1.trans (by rw [(h c).1, (h c).2]; rfl), (hr c).2⟩) (Cert.Reference11Ideal.Value.run m' g')⟩

/-- `Kernel12Ideal` and `Reference12Ideal` end with the same result. -/
theorem algebraic12 : Cert.algebraic_Kernel12Ideal_Reference12Ideal := fun m g m' g' _ h =>
  ⟨fun c => OutProjection.REF (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run _ _ _).mono (fun r hr c => ⟨(hr c).1.trans (OutProjection.final m c), (hr c).2⟩) (Cert.Kernel12Ideal.Value.run_blocks m g),
    (θ_run _ _ _).mono (fun r hr c => ⟨(hr c).1.trans (by rw [(h c).1, (h c).2]; rfl), (hr c).2⟩) (Cert.Reference12Ideal.Value.run m' g')⟩

/-- `Kernel13Ideal` and `Reference13Ideal` end with the same three results. -/
theorem algebraic13 : Cert.algebraic_Kernel13Ideal_Reference13Ideal := fun m g m' g' _ h =>
  ⟨fun c => Cert.Reference13Ideal.Read.val_main_v24 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)),
    fun c => Cert.Reference13Ideal.Read.val_main_v25 (F := Ideal) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)),
    fun c => Cert.Reference13Ideal.Read.val_main_v26 (F := Ideal) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg3)),
    (θ_run _ _ _).mono (fun r hr c => ⟨(hr c).1.trans (Step.GdnWIn.change_final m c), (hr c).2.1.trans (Step.GdnWIn.first_final m c),
      (hr c).2.2.1.trans (Step.GdnWIn.second_final m c), (hr c).2.2.2⟩) (Cert.Kernel13Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference13Ideal.Value.run m' g')⟩

/-- `Kernel14Ideal` and `Reference14Ideal` end with the same three results. -/
theorem algebraic14 : Cert.algebraic_Kernel14Ideal_Reference14Ideal := fun m g m' g' _ h =>
  ⟨fun c => Cert.Reference14Ideal.Read.val_main_v24 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)),
    fun c => Cert.Reference14Ideal.Read.val_main_v25 (F := Ideal) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)),
    fun c => Cert.Reference14Ideal.Read.val_main_v26 (F := Ideal) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg3)),
    (θ_run _ _ _).mono (fun r hr c => ⟨(hr c).1.trans (Step.GdnConvW.change_final m c), (hr c).2.1.trans (Step.GdnConvW.first_final m c),
      (hr c).2.2.1.trans (Step.GdnConvW.second_final m c), (hr c).2.2.2⟩) (Cert.Kernel14Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference14Ideal.Value.run m' g')⟩

/-- `Kernel15Ideal` and `Reference15Ideal` end with the same three results. -/
theorem algebraic15 : Cert.algebraic_Kernel15Ideal_Reference15Ideal := fun m g m' g' _ h =>
  ⟨fun c => Cert.Reference15Ideal.Read.val_main_v23 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)),
    fun c => Cert.Reference15Ideal.Read.val_main_v4 (F := Ideal) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)),
    fun c => Cert.Reference15Ideal.Read.val_main_v10 (F := Ideal) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg3)),
    (θ_run _ _ _).mono (fun r hr c => ⟨(hr c).1.trans (Step.GdnALog.change_final m c), (hr c).2.1.trans (Step.GdnALog.first_final m c),
      (hr c).2.2.1.trans (Step.GdnALog.second_final m c), (hr c).2.2.2⟩) (Cert.Kernel15Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference15Ideal.Value.run m' g')⟩

/-- `Kernel16Ideal` and `Reference16Ideal` end with the same three results. -/
theorem algebraic16 : Cert.algebraic_Kernel16Ideal_Reference16Ideal := fun m g m' g' _ h =>
  ⟨fun c => Cert.Reference16Ideal.Read.val_main_v23 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)),
    fun c => Cert.Reference16Ideal.Read.val_main_v4 (F := Ideal) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)),
    fun c => Cert.Reference16Ideal.Read.val_main_v10 (F := Ideal) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg3)),
    (θ_run _ _ _).mono (fun r hr c => ⟨(hr c).1.trans (Step.GdnNormW.change_final m c), (hr c).2.1.trans (Step.GdnNormW.first_final m c),
      (hr c).2.2.1.trans (Step.GdnNormW.second_final m c), (hr c).2.2.2⟩) (Cert.Kernel16Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference16Ideal.Value.run m' g')⟩

/-- `Kernel17Ideal` and `Reference17Ideal` end with the same three results. -/
theorem algebraic17 : Cert.algebraic_Kernel17Ideal_Reference17Ideal := fun m g m' g' _ h =>
  ⟨fun c => Cert.Reference17Ideal.Read.val_main_v24 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)),
    fun c => Cert.Reference17Ideal.Read.val_main_v25 (F := Ideal) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)),
    fun c => Cert.Reference17Ideal.Read.val_main_v26 (F := Ideal) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg3)),
    (θ_run _ _ _).mono (fun r hr c => ⟨(hr c).1.trans (Step.GdnWOut.change_final m c), (hr c).2.1.trans (Step.GdnWOut.first_final m c),
      (hr c).2.2.1.trans (Step.GdnWOut.second_final m c), (hr c).2.2.2⟩) (Cert.Kernel17Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference17Ideal.Value.run m' g')⟩

/-- `Kernel18Ideal` and `Reference18Ideal` end with the same three results. -/
theorem algebraic18 : Cert.algebraic_Kernel18Ideal_Reference18Ideal := fun m g m' g' _ h =>
  ⟨fun c => Cert.Reference18Ideal.Read.val_main_v24 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)),
    fun c => Cert.Reference18Ideal.Read.val_main_v25 (F := Ideal) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)),
    fun c => Cert.Reference18Ideal.Read.val_main_v26 (F := Ideal) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg3)),
    (θ_run _ _ _).mono (fun r hr c => ⟨(hr c).1.trans (Step.ScWIn.change_final m c), (hr c).2.1.trans (Step.ScWIn.first_final m c),
      (hr c).2.2.1.trans (Step.ScWIn.second_final m c), (hr c).2.2.2⟩) (Cert.Kernel18Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference18Ideal.Value.run m' g')⟩

/-- `Kernel19Ideal` and `Reference19Ideal` end with the same three results. -/
theorem algebraic19 : Cert.algebraic_Kernel19Ideal_Reference19Ideal := fun m g m' g' _ h =>
  ⟨fun c => Cert.Reference19Ideal.Read.val_main_v24 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)),
    fun c => Cert.Reference19Ideal.Read.val_main_v25 (F := Ideal) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)),
    fun c => Cert.Reference19Ideal.Read.val_main_v26 (F := Ideal) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg3)),
    (θ_run _ _ _).mono (fun r hr c => ⟨(hr c).1.trans (Step.ScConvW.change_final m c), (hr c).2.1.trans (Step.ScConvW.first_final m c),
      (hr c).2.2.1.trans (Step.ScConvW.second_final m c), (hr c).2.2.2⟩) (Cert.Kernel19Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference19Ideal.Value.run m' g')⟩

/-- `Kernel20Ideal` and `Reference20Ideal` end with the same three results. -/
theorem algebraic20 : Cert.algebraic_Kernel20Ideal_Reference20Ideal := fun m g m' g' _ h =>
  ⟨fun c => Cert.Reference20Ideal.Read.val_main_v24 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)),
    fun c => Cert.Reference20Ideal.Read.val_main_v25 (F := Ideal) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)),
    fun c => Cert.Reference20Ideal.Read.val_main_v26 (F := Ideal) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg3)),
    (θ_run _ _ _).mono (fun r hr c => ⟨(hr c).1.trans (Step.WOut.change_final m c), (hr c).2.1.trans (Step.WOut.first_final m c),
      (hr c).2.2.1.trans (Step.WOut.second_final m c), (hr c).2.2.2⟩) (Cert.Kernel20Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference20Ideal.Value.run m' g')⟩

/-- `Kernel21Ideal` and `Reference21Ideal` end with the same three results. -/
theorem algebraic21 : Cert.algebraic_Kernel21Ideal_Reference21Ideal := fun m g m' g' _ h =>
  ⟨fun c => Cert.Reference21Ideal.Read.val_main_v24 (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)),
    fun c => Cert.Reference21Ideal.Read.val_main_v25 (F := Ideal) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)),
    fun c => Cert.Reference21Ideal.Read.val_main_v26 (F := Ideal) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg3)),
    (θ_run _ _ _).mono (fun r hr c => ⟨(hr c).1.trans (Step.SsdWIn.change_final m c), (hr c).2.1.trans (Step.SsdWIn.first_final m c),
      (hr c).2.2.1.trans (Step.SsdWIn.second_final m c), (hr c).2.2.2⟩) (Cert.Kernel21Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference21Ideal.Value.run m' g')⟩

/-- `Kernel22Ideal` and `Reference22Ideal` end with the same three results. -/
theorem algebraic22 : Cert.algebraic_Kernel22Ideal_Reference22Ideal := fun m g m' g' _ h =>
  ⟨fun c => Cert.Reference22Ideal.Read.val_main_v24 (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)),
    fun c => Cert.Reference22Ideal.Read.val_main_v25 (F := Ideal) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)),
    fun c => Cert.Reference22Ideal.Read.val_main_v26 (F := Ideal) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg3)),
    (θ_run _ _ _).mono (fun r hr c => ⟨(hr c).1.trans (Step.SsdConvW.change_final m c), (hr c).2.1.trans (Step.SsdConvW.first_final m c),
      (hr c).2.2.1.trans (Step.SsdConvW.second_final m c), (hr c).2.2.2⟩) (Cert.Kernel22Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference22Ideal.Value.run m' g')⟩

/-- `Kernel23Ideal` and `Reference23Ideal` end with the same three results. -/
theorem algebraic23 : Cert.algebraic_Kernel23Ideal_Reference23Ideal := fun m g m' g' _ h =>
  ⟨fun c => Cert.Reference23Ideal.Read.val_main_v23 (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)),
    fun c => Cert.Reference23Ideal.Read.val_main_v4 (F := Ideal) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)),
    fun c => Cert.Reference23Ideal.Read.val_main_v10 (F := Ideal) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg3)),
    (θ_run _ _ _).mono (fun r hr c => ⟨(hr c).1.trans (Step.SsdConvB.change_final m c), (hr c).2.1.trans (Step.SsdConvB.first_final m c),
      (hr c).2.2.1.trans (Step.SsdConvB.second_final m c), (hr c).2.2.2⟩) (Cert.Kernel23Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference23Ideal.Value.run m' g')⟩

/-- `Kernel24Ideal` and `Reference24Ideal` end with the same three results. -/
theorem algebraic24 : Cert.algebraic_Kernel24Ideal_Reference24Ideal := fun m g m' g' _ h =>
  ⟨fun c => Cert.Reference24Ideal.Read.val_main_v23 (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)),
    fun c => Cert.Reference24Ideal.Read.val_main_v4 (F := Ideal) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)),
    fun c => Cert.Reference24Ideal.Read.val_main_v10 (F := Ideal) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg3)),
    (θ_run _ _ _).mono (fun r hr c => ⟨(hr c).1.trans (Step.SsdALog.change_final m c), (hr c).2.1.trans (Step.SsdALog.first_final m c),
      (hr c).2.2.1.trans (Step.SsdALog.second_final m c), (hr c).2.2.2⟩) (Cert.Kernel24Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference24Ideal.Value.run m' g')⟩

/-- `Kernel25Ideal` and `Reference25Ideal` end with the same three results. -/
theorem algebraic25 : Cert.algebraic_Kernel25Ideal_Reference25Ideal := fun m g m' g' _ h =>
  ⟨fun c => Cert.Reference25Ideal.Read.val_main_v23 (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)),
    fun c => Cert.Reference25Ideal.Read.val_main_v4 (F := Ideal) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)),
    fun c => Cert.Reference25Ideal.Read.val_main_v10 (F := Ideal) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg3)),
    (θ_run _ _ _).mono (fun r hr c => ⟨(hr c).1.trans (Step.SsdNormW.change_final m c), (hr c).2.1.trans (Step.SsdNormW.first_final m c),
      (hr c).2.2.1.trans (Step.SsdNormW.second_final m c), (hr c).2.2.2⟩) (Cert.Kernel25Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference25Ideal.Value.run m' g')⟩

/-- `Kernel26Ideal` and `Reference26Ideal` end with the same three results. -/
theorem algebraic26 : Cert.algebraic_Kernel26Ideal_Reference26Ideal := fun m g m' g' _ h =>
  ⟨fun c => Cert.Reference26Ideal.Read.val_main_v23 (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)),
    fun c => Cert.Reference26Ideal.Read.val_main_v4 (F := Ideal) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)),
    fun c => Cert.Reference26Ideal.Read.val_main_v10 (F := Ideal) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg3)),
    (θ_run _ _ _).mono (fun r hr c => ⟨(hr c).1.trans (Step.Norm.change_final m c), (hr c).2.1.trans (Step.Norm.first_final m c),
      (hr c).2.2.1.trans (Step.Norm.second_final m c), (hr c).2.2.2⟩) (Cert.Kernel26Ideal.Value.run_blocks m g),
    (θ_run _ _ _).mono (fun r hr c => ⟨(hr c).1.trans (by rw [(h c).1, (h c).2.1, (h c).2.2.1, (h c).2.2.2]; rfl), (hr c).2.1.trans (by rw [(h c).2.1, (h c).2.2.1]; rfl),
      (hr c).2.2.1.trans (by rw [(h c).2.1, (h c).2.2.2]; rfl), (hr c).2.2.2⟩) (Cert.Reference26Ideal.Value.run m' g')⟩

/-- The claim: a frame for each program, and the same function for each kernel and its reference. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Kernel26.Gen.facts,
  Cert.Kernel26Ideal.Gen.facts,
  Cert.Reference26Ideal.Gen.facts,
  Cert.Kernel27.Gen.facts,
  Cert.Kernel27Ideal.Gen.facts,
  Cert.Reference27Ideal.Gen.facts,
  Cert.Kernel28.Gen.facts,
  Cert.Kernel28Ideal.Gen.facts,
  Cert.Kernel29.Gen.facts,
  Cert.Kernel29Ideal.Gen.facts,
  Cert.Reference29Ideal.Gen.facts,
  Cert.Kernel30.Gen.facts,
  Cert.Kernel30Ideal.Gen.facts,
  Cert.Reference30Ideal.Gen.facts,
  Cert.Kernel31.Gen.facts,
  Cert.Kernel31Ideal.Gen.facts,
  Cert.Reference31Ideal.Gen.facts,
  Cert.Kernel32.Gen.facts,
  Cert.Kernel32Ideal.Gen.facts,
  Cert.Reference32Ideal.Gen.facts,
  Cert.Kernel33.Gen.facts,
  Cert.Kernel33Ideal.Gen.facts,
  Cert.Reference33Ideal.Gen.facts,
  Cert.Kernel34.Gen.facts,
  Cert.Kernel34Ideal.Gen.facts,
  Cert.Reference34Ideal.Gen.facts,
  Cert.Kernel35.Gen.facts,
  Cert.Kernel35Ideal.Gen.facts,
  Cert.Reference35Ideal.Gen.facts,
  Cert.Kernel36.Gen.facts,
  Cert.Kernel36Ideal.Gen.facts,
  Cert.Reference36Ideal.Gen.facts,
  Cert.Kernel37.Gen.facts,
  Cert.Kernel37Ideal.Gen.facts,
  Cert.Reference37Ideal.Gen.facts,
  Cert.Kernel38.Gen.facts,
  Cert.Kernel38Ideal.Gen.facts,
  Cert.Reference38Ideal.Gen.facts,
  Cert.Kernel39.Gen.facts,
  Cert.Kernel39Ideal.Gen.facts,
  Cert.Reference39Ideal.Gen.facts,
  Cert.Pre_finite_norm_grad.Gen.facts,
  Cert.Pre_finite_norm_loss.Gen.facts,
  fun m ρ _ => Cert.Kernel.Gen.frame m ρ,
  fun m ρ _ => Cert.KernelIdeal.Gen.frame m ρ,
  fun m ρ _ => (θ_run _ _ _).mono
    (fun r h => ⟨fun c => (h c).2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run _ _ _).mono
    (fun r h => ⟨fun c => (h c).2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run _ _ _).mono
    (fun r h => ⟨fun c => (h c).2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run _ _ _).mono
    (fun r h => ⟨fun c => (h c).2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run _ _ _).mono
    (fun r h => ⟨fun c => (h c).2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run _ _ _).mono
    (fun r h => ⟨fun c => (h c).2, sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => (θ_run _ _ _).mono
    (fun r h => ⟨fun c => (h c).2, sem_eq_zero_of_no_sems (by decide) r.2⟩) (Cert.Reference7Ideal.Value.run m ρ),
  fun m ρ _ => Cert.Kernel8.Gen.frame m ρ,
  fun m ρ _ => Cert.Kernel8Ideal.Gen.frame m ρ,
  fun m ρ _ => (θ_run _ _ _).mono
    (fun r h => ⟨fun c => (h c).2, sem_eq_zero_of_no_sems (by decide) r.2⟩) (Cert.Reference8Ideal.Value.run m ρ),
  fun m ρ _ => Cert.Kernel9.Gen.frame m ρ,
  fun m ρ _ => Cert.Kernel9Ideal.Gen.frame m ρ,
  fun m ρ _ => (θ_run _ _ _).mono
    (fun r h => ⟨fun c => (h c).2, sem_eq_zero_of_no_sems (by decide) r.2⟩) (Cert.Reference9Ideal.Value.run m ρ),
  fun m ρ _ => Cert.Kernel10.Gen.frame m ρ,
  fun m ρ _ => Cert.Kernel10Ideal.Gen.frame m ρ,
  fun m ρ _ => (θ_run _ _ _).mono
    (fun r h => ⟨fun c => (h c).2, sem_eq_zero_of_no_sems (by decide) r.2⟩) (Cert.Reference10Ideal.Value.run m ρ),
  fun m ρ _ => Cert.Kernel11.Gen.frame m ρ,
  fun m ρ _ => Cert.Kernel11Ideal.Gen.frame m ρ,
  fun m ρ _ => (θ_run _ _ _).mono
    (fun r h => ⟨fun c => (h c).2, sem_eq_zero_of_no_sems (by decide) r.2⟩) (Cert.Reference11Ideal.Value.run m ρ),
  fun m ρ _ => Cert.Kernel12.Gen.frame m ρ,
  fun m ρ _ => Cert.Kernel12Ideal.Gen.frame m ρ,
  fun m ρ _ => (θ_run _ _ _).mono
    (fun r h => ⟨fun c => (h c).2, sem_eq_zero_of_no_sems (by decide) r.2⟩) (Cert.Reference12Ideal.Value.run m ρ),
  fun m ρ _ => Cert.Kernel13.Gen.frame m ρ,
  fun m ρ _ => Cert.Kernel13Ideal.Gen.frame m ρ,
  fun m ρ _ => (θ_run _ _ _).mono
    (fun r h => ⟨fun c => (h c).2.2.2, sem_eq_zero_of_no_sems (by decide) r.2⟩) (Cert.Reference13Ideal.Value.run m ρ),
  fun m ρ _ => Cert.Kernel14.Gen.frame m ρ,
  fun m ρ _ => Cert.Kernel14Ideal.Gen.frame m ρ,
  fun m ρ _ => (θ_run _ _ _).mono
    (fun r h => ⟨fun c => (h c).2.2.2, sem_eq_zero_of_no_sems (by decide) r.2⟩) (Cert.Reference14Ideal.Value.run m ρ),
  fun m ρ _ => Cert.Kernel15.Gen.frame m ρ,
  fun m ρ _ => Cert.Kernel15Ideal.Gen.frame m ρ,
  fun m ρ _ => (θ_run _ _ _).mono
    (fun r h => ⟨fun c => (h c).2.2.2, sem_eq_zero_of_no_sems (by decide) r.2⟩) (Cert.Reference15Ideal.Value.run m ρ),
  fun m ρ _ => Cert.Kernel16.Gen.frame m ρ,
  fun m ρ _ => Cert.Kernel16Ideal.Gen.frame m ρ,
  fun m ρ _ => (θ_run _ _ _).mono
    (fun r h => ⟨fun c => (h c).2.2.2, sem_eq_zero_of_no_sems (by decide) r.2⟩) (Cert.Reference16Ideal.Value.run m ρ),
  fun m ρ _ => Cert.Kernel17.Gen.frame m ρ,
  fun m ρ _ => Cert.Kernel17Ideal.Gen.frame m ρ,
  fun m ρ _ => (θ_run _ _ _).mono
    (fun r h => ⟨fun c => (h c).2.2.2, sem_eq_zero_of_no_sems (by decide) r.2⟩) (Cert.Reference17Ideal.Value.run m ρ),
  fun m ρ _ => Cert.Kernel18.Gen.frame m ρ,
  fun m ρ _ => Cert.Kernel18Ideal.Gen.frame m ρ,
  fun m ρ _ => (θ_run _ _ _).mono
    (fun r h => ⟨fun c => (h c).2.2.2, sem_eq_zero_of_no_sems (by decide) r.2⟩) (Cert.Reference18Ideal.Value.run m ρ),
  fun m ρ _ => Cert.Kernel19.Gen.frame m ρ,
  fun m ρ _ => Cert.Kernel19Ideal.Gen.frame m ρ,
  fun m ρ _ => (θ_run _ _ _).mono
    (fun r h => ⟨fun c => (h c).2.2.2, sem_eq_zero_of_no_sems (by decide) r.2⟩) (Cert.Reference19Ideal.Value.run m ρ),
  fun m ρ _ => Cert.Kernel20.Gen.frame m ρ,
  fun m ρ _ => Cert.Kernel20Ideal.Gen.frame m ρ,
  fun m ρ _ => (θ_run _ _ _).mono
    (fun r h => ⟨fun c => (h c).2.2.2, sem_eq_zero_of_no_sems (by decide) r.2⟩) (Cert.Reference20Ideal.Value.run m ρ),
  fun m ρ _ => Cert.Kernel21.Gen.frame m ρ,
  fun m ρ _ => Cert.Kernel21Ideal.Gen.frame m ρ,
  fun m ρ _ => (θ_run _ _ _).mono
    (fun r h => ⟨fun c => (h c).2.2.2, sem_eq_zero_of_no_sems (by decide) r.2⟩) (Cert.Reference21Ideal.Value.run m ρ),
  fun m ρ _ => Cert.Kernel22.Gen.frame m ρ,
  fun m ρ _ => Cert.Kernel22Ideal.Gen.frame m ρ,
  fun m ρ _ => (θ_run _ _ _).mono
    (fun r h => ⟨fun c => (h c).2.2.2, sem_eq_zero_of_no_sems (by decide) r.2⟩) (Cert.Reference22Ideal.Value.run m ρ),
  fun m ρ _ => Cert.Kernel23.Gen.frame m ρ,
  fun m ρ _ => Cert.Kernel23Ideal.Gen.frame m ρ,
  fun m ρ _ => (θ_run _ _ _).mono
    (fun r h => ⟨fun c => (h c).2.2.2, sem_eq_zero_of_no_sems (by decide) r.2⟩) (Cert.Reference23Ideal.Value.run m ρ),
  fun m ρ _ => Cert.Kernel24.Gen.frame m ρ,
  fun m ρ _ => Cert.Kernel24Ideal.Gen.frame m ρ,
  fun m ρ _ => (θ_run _ _ _).mono
    (fun r h => ⟨fun c => (h c).2.2.2, sem_eq_zero_of_no_sems (by decide) r.2⟩) (Cert.Reference24Ideal.Value.run m ρ),
  fun m ρ _ => Cert.Kernel25.Gen.frame m ρ,
  fun m ρ _ => Cert.Kernel25Ideal.Gen.frame m ρ,
  fun m ρ _ => (θ_run _ _ _).mono
    (fun r h => ⟨fun c => (h c).2.2.2, sem_eq_zero_of_no_sems (by decide) r.2⟩) (Cert.Reference25Ideal.Value.run m ρ),
  fun m ρ _ => Cert.Kernel26.Gen.frame m ρ,
  fun m ρ _ => Cert.Kernel26Ideal.Gen.frame m ρ,
  fun m ρ _ => (θ_run _ _ _).mono
    (fun r h => ⟨fun c => (h c).2.2.2, sem_eq_zero_of_no_sems (by decide) r.2⟩) (Cert.Reference26Ideal.Value.run m ρ),
  fun m ρ _ => Cert.Kernel27.Gen.frame m ρ,
  fun m ρ _ => Cert.Kernel27Ideal.Gen.frame m ρ,
  fun m ρ _ => (θ_run _ _ _).mono
    (fun r h => ⟨fun c => (h c).2.2, sem_eq_zero_of_no_sems (by decide) r.2⟩) (Cert.Reference27Ideal.Value.run m ρ),
  ShortConvGrad.frame_bits,
  fun m ρ _ => ShortConvGrad.frame m ρ,
  fun m ρ _ => Cert.Kernel29.Gen.frame m ρ,
  fun m ρ _ => Cert.Kernel29Ideal.Gen.frame m ρ,
  fun m ρ _ => Cert.Kernel29Ideal.Gen.frame m ρ,
  fun m ρ _ => (θ_run _ _ _).mono
    (fun r h => ⟨fun c => (h c).2.2.2, sem_eq_zero_of_no_sems (by decide) r.2⟩) (Cert.Reference29Ideal.Value.run m ρ),
  fun m ρ _ => (θ_run _ _ _).mono
    (fun r h => ⟨fun c => (h c).2.2.2, sem_eq_zero_of_no_sems (by decide) r.2⟩) (Cert.Reference29Ideal.Value.run m ρ),
  fun m ρ _ => Cert.Kernel30.Gen.frame m ρ,
  fun m ρ _ => Cert.Kernel30Ideal.Gen.frame m ρ,
  fun m ρ _ => Cert.Kernel30Ideal.Gen.frame m ρ,
  fun m ρ _ => (θ_run _ _ _).mono
    (fun r h => ⟨fun c => (h c).2.2.2.2, sem_eq_zero_of_no_sems (by decide) r.2⟩) (Cert.Reference30Ideal.Value.run m ρ),
  fun m ρ _ => (θ_run _ _ _).mono
    (fun r h => ⟨fun c => (h c).2.2.2.2, sem_eq_zero_of_no_sems (by decide) r.2⟩) (Cert.Reference30Ideal.Value.run m ρ),
  fun m ρ _ => Cert.Kernel31.Gen.frame m ρ,
  fun m ρ _ => Cert.Kernel31Ideal.Gen.frame m ρ,
  fun m ρ _ => (θ_run _ _ _).mono
    (fun r h => ⟨fun c => (h c).2, sem_eq_zero_of_no_sems (by decide) r.2⟩) (Cert.Reference31Ideal.Value.run m ρ),
  fun m ρ _ => Cert.Kernel32.Gen.frame m ρ,
  fun m ρ _ => Cert.Kernel32Ideal.Gen.frame m ρ,
  fun m ρ _ => (θ_run _ _ _).mono
    (fun r h => ⟨fun c => (h c).2, sem_eq_zero_of_no_sems (by decide) r.2⟩) (Cert.Reference32Ideal.Value.run m ρ),
  fun m ρ _ => Cert.Kernel33.Gen.frame m ρ,
  fun m ρ _ => Cert.Kernel33Ideal.Gen.frame m ρ,
  fun m ρ _ => (θ_run _ _ _).mono
    (fun r h => ⟨fun c => (h c).2, sem_eq_zero_of_no_sems (by decide) r.2⟩) (Cert.Reference33Ideal.Value.run m ρ),
  fun m ρ _ => Cert.Kernel34.Gen.frame m ρ,
  fun m ρ _ => Cert.Kernel34Ideal.Gen.frame m ρ,
  fun m ρ _ => (θ_run _ _ _).mono
    (fun r h => ⟨fun c => (h c).2, sem_eq_zero_of_no_sems (by decide) r.2⟩) (Cert.Reference34Ideal.Value.run m ρ),
  fun m ρ _ => Cert.Kernel35.Gen.frame m ρ,
  fun m ρ _ => Cert.Kernel35Ideal.Gen.frame m ρ,
  fun m ρ _ => (θ_run _ _ _).mono
    (fun r h => ⟨fun c => (h c).2, sem_eq_zero_of_no_sems (by decide) r.2⟩) (Cert.Reference35Ideal.Value.run m ρ),
  fun m ρ _ => Cert.Kernel36.Gen.frame m ρ,
  fun m ρ _ => Cert.Kernel36Ideal.Gen.frame m ρ,
  fun m ρ _ => (θ_run _ _ _).mono
    (fun r h => ⟨fun c => (h c).2, sem_eq_zero_of_no_sems (by decide) r.2⟩) (Cert.Reference36Ideal.Value.run m ρ),
  fun m ρ _ => Cert.Kernel37.Gen.frame m ρ,
  fun m ρ _ => Cert.Kernel37Ideal.Gen.frame m ρ,
  fun m ρ _ => (θ_run _ _ _).mono
    (fun r h => ⟨fun c => (h c).2, sem_eq_zero_of_no_sems (by decide) r.2⟩) (Cert.Reference37Ideal.Value.run m ρ),
  fun m ρ _ => Cert.Kernel38.Gen.frame m ρ,
  fun m ρ _ => Cert.Kernel38Ideal.Gen.frame m ρ,
  fun m ρ _ => (θ_run _ _ _).mono
    (fun r h => ⟨fun c => (h c).2, sem_eq_zero_of_no_sems (by decide) r.2⟩) (Cert.Reference38Ideal.Value.run m ρ),
  fun m ρ _ => Cert.Kernel39.Gen.frame m ρ,
  fun m ρ _ => Cert.Kernel39Ideal.Gen.frame m ρ,
  fun m ρ _ => (θ_run _ _ _).mono
    (fun r h => ⟨fun c => (h c).2, sem_eq_zero_of_no_sems (by decide) r.2⟩) (Cert.Reference39Ideal.Value.run m ρ),
  trivial,
  algebraic,
  trivial,
  algebraic2,
  trivial,
  algebraic3,
  trivial,
  algebraic4,
  trivial,
  algebraic5,
  trivial,
  algebraic6,
  trivial,
  algebraic7,
  trivial,
  algebraic8,
  trivial,
  algebraic9,
  trivial,
  algebraic10,
  trivial,
  algebraic11,
  trivial,
  algebraic12,
  trivial,
  algebraic13,
  trivial,
  algebraic14,
  trivial,
  algebraic15,
  trivial,
  algebraic16,
  trivial,
  algebraic17,
  trivial,
  algebraic18,
  trivial,
  algebraic19,
  trivial,
  algebraic20,
  trivial,
  algebraic21,
  trivial,
  algebraic22,
  trivial,
  algebraic23,
  trivial,
  algebraic24,
  trivial,
  algebraic25,
  trivial,
  algebraic26,
  trivial,
  NormClaims.algebraic27,
  trivial,
  trivial,
  NormClaims.algebraic29,
  trivial,
  NormClaims.algebraic30,
  trivial,
  ShortConvClaim.algebraic31,
  trivial,
  ShardClaims.algebraic32,
  trivial,
  ShardClaims.algebraic33,
  trivial,
  ShardClaims.algebraic34,
  trivial,
  ShardClaims.algebraic35,
  trivial,
  ShardClaims.algebraic36,
  trivial,
  ShardClaims.algebraic37,
  trivial,
  ShardClaims.algebraic38,
  trivial,
  ShardClaims.algebraic39⟩

end Cert.Proof

end
